-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x2048 : Shape := ⟨3, ![4, 8192, 2048]⟩
abbrev S_ : Shape := ⟨0, ![]⟩
abbrev S1 : Shape := ⟨1, ![1]⟩
abbrev S2 : Shape := ⟨1, ![2]⟩
abbrev S1x1 : Shape := ⟨2, ![1, 1]⟩
abbrev S4x2048 : Shape := ⟨2, ![4, 2048]⟩
abbrev S4x1x2048 : Shape := ⟨3, ![4, 1, 2048]⟩
abbrev S4x64x128x2048 : Shape := ⟨4, ![4, 64, 128, 2048]⟩
abbrev S1x64x128x256 : Shape := ⟨4, ![1, 64, 128, 256]⟩
abbrev S1x1x256 : Shape := ⟨3, ![1, 1, 256]⟩
abbrev S1x256 : Shape := ⟨2, ![1, 256]⟩
abbrev S1x1x128x256 : Shape := ⟨4, ![1, 1, 128, 256]⟩
abbrev S128x256 : Shape := ⟨2, ![128, 256]⟩
abbrev S256 : Shape := ⟨1, ![256]⟩
abbrev S8x256 : Shape := ⟨2, ![8, 256]⟩
abbrev S1x2x128x256 : Shape := ⟨4, ![1, 2, 128, 256]⟩
abbrev S2x128x256 : Shape := ⟨3, ![2, 128, 256]⟩
abbrev S32x8x256 : Shape := ⟨3, ![32, 8, 256]⟩
abbrev S1x8x256 : Shape := ⟨3, ![1, 8, 256]⟩
abbrev S4x256 : Shape := ⟨2, ![4, 256]⟩
abbrev S2x256 : Shape := ⟨2, ![2, 256]⟩
abbrev S1x8x8x256 : Shape := ⟨4, ![1, 8, 8, 256]⟩
abbrev S8x8x256 : Shape := ⟨3, ![8, 8, 256]⟩
abbrev S8x1x256 : Shape := ⟨3, ![8, 1, 256]⟩
abbrev S8x7x256 : Shape := ⟨3, ![8, 7, 256]⟩
abbrev S64x256 : Shape := ⟨2, ![64, 256]⟩

abbrev nBuf : Space → Nat
  | .hbm => 279
  | .vmem => 6
  | .smem => 0
  | _ => 0

abbrev hbmTy0_0 (i : Nat) : BufTy := match i % 128 with
  | 0 => ⟨S4x8192x2048, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S4x2048, .i64⟩
  | 22 => ⟨S4x2048, .i64⟩
  | 23 => ⟨S_, .i64⟩
  | 24 => ⟨S4x2048, .i64⟩
  | 25 => ⟨S4x2048, .i64⟩
  | 26 => ⟨S_, .i64⟩
  | 27 => ⟨S4x2048, .i64⟩
  | 28 => ⟨S4x2048, .i64⟩
  | 29 => ⟨S4x2048, .i64⟩
  | 30 => ⟨S_, .i64⟩
  | 31 => ⟨S4x2048, .i64⟩
  | 32 => ⟨S4x2048, .i64⟩
  | 33 => ⟨S4x2048, .i32⟩
  | 34 => ⟨S4x2048, .i32⟩
  | 35 => ⟨S_, .i32⟩
  | 36 => ⟨S_, .i32⟩
  | 37 => ⟨S_, .i32⟩
  | 38 => ⟨S4x2048, .i32⟩
  | 39 => ⟨S4x2048, .i32⟩
  | 40 => ⟨S4x2048, .i32⟩
  | 41 => ⟨S4x2048, .i32⟩
  | 42 => ⟨S4x2048, .i32⟩
  | 43 => ⟨S_, .i32⟩
  | 44 => ⟨S4x2048, .i32⟩
  | 45 => ⟨S4x2048, .i32⟩
  | 46 => ⟨S_, .i32⟩
  | 47 => ⟨S4x2048, .i32⟩
  | 48 => ⟨S4x2048, .i32⟩
  | 49 => ⟨S4x2048, .i32⟩
  | 50 => ⟨S4x2048, .i32⟩
  | 51 => ⟨S4x2048, .i32⟩
  | 52 => ⟨S_, .i32⟩
  | 53 => ⟨S4x2048, .i32⟩
  | 54 => ⟨S4x2048, .i32⟩
  | 55 => ⟨S_, .i32⟩
  | 56 => ⟨S4x2048, .i32⟩
  | 57 => ⟨S4x2048, .i32⟩
  | 58 => ⟨S4x2048, .i32⟩
  | 59 => ⟨S4x2048, .i32⟩
  | 60 => ⟨S4x2048, .i32⟩
  | 61 => ⟨S_, .i32⟩
  | 62 => ⟨S4x2048, .i32⟩
  | 63 => ⟨S4x2048, .i32⟩
  | 64 => ⟨S_, .i32⟩
  | 65 => ⟨S4x2048, .i32⟩
  | 66 => ⟨S4x2048, .i32⟩
  | 67 => ⟨S4x2048, .i32⟩
  | 68 => ⟨S4x2048, .i32⟩
  | 69 => ⟨S4x2048, .i32⟩
  | 70 => ⟨S_, .i32⟩
  | 71 => ⟨S4x2048, .i32⟩
  | 72 => ⟨S4x2048, .i32⟩
  | 73 => ⟨S_, .i32⟩
  | 74 => ⟨S4x2048, .i32⟩
  | 75 => ⟨S4x2048, .i32⟩
  | 76 => ⟨S4x2048, .i32⟩
  | 77 => ⟨S4x2048, .i32⟩
  | 78 => ⟨S4x2048, .i32⟩
  | 79 => ⟨S4x2048, .i32⟩
  | 80 => ⟨S4x2048, .i32⟩
  | 81 => ⟨S4x2048, .i32⟩
  | 82 => ⟨S_, .i32⟩
  | 83 => ⟨S4x2048, .i32⟩
  | 84 => ⟨S4x2048, .i32⟩
  | 85 => ⟨S4x2048, .i32⟩
  | 86 => ⟨S_, .i32⟩
  | 87 => ⟨S4x2048, .i32⟩
  | 88 => ⟨S4x2048, .i32⟩
  | 89 => ⟨S_, .i32⟩
  | 90 => ⟨S4x2048, .i32⟩
  | 91 => ⟨S4x2048, .i32⟩
  | 92 => ⟨S4x2048, .i32⟩
  | 93 => ⟨S4x2048, .i32⟩
  | 94 => ⟨S4x2048, .i32⟩
  | 95 => ⟨S_, .i32⟩
  | 96 => ⟨S4x2048, .i32⟩
  | 97 => ⟨S4x2048, .i32⟩
  | 98 => ⟨S_, .i32⟩
  | 99 => ⟨S4x2048, .i32⟩
  | 100 => ⟨S4x2048, .i32⟩
  | 101 => ⟨S4x2048, .i32⟩
  | 102 => ⟨S4x2048, .i32⟩
  | 103 => ⟨S4x2048, .i32⟩
  | 104 => ⟨S_, .i32⟩
  | 105 => ⟨S4x2048, .i32⟩
  | 106 => ⟨S4x2048, .i32⟩
  | 107 => ⟨S_, .i32⟩
  | 108 => ⟨S4x2048, .i32⟩
  | 109 => ⟨S4x2048, .i32⟩
  | 110 => ⟨S4x2048, .i32⟩
  | 111 => ⟨S4x2048, .i32⟩
  | 112 => ⟨S4x2048, .i32⟩
  | 113 => ⟨S_, .i32⟩
  | 114 => ⟨S4x2048, .i32⟩
  | 115 => ⟨S4x2048, .i32⟩
  | 116 => ⟨S_, .i32⟩
  | 117 => ⟨S4x2048, .i32⟩
  | 118 => ⟨S4x2048, .i32⟩
  | 119 => ⟨S4x2048, .i32⟩
  | 120 => ⟨S4x2048, .i32⟩
  | 121 => ⟨S4x2048, .i32⟩
  | 122 => ⟨S4x2048, .i32⟩
  | 123 => ⟨S4x2048, .i32⟩
  | 124 => ⟨S4x2048, .i32⟩
  | 125 => ⟨S_, .i32⟩
  | 126 => ⟨S4x2048, .i32⟩
  | 127 => ⟨S4x2048, .i32⟩
  | _ => ⟨S4x8192x2048, .f32⟩

abbrev hbmTy0_1 (i : Nat) : BufTy := match i % 128 with
  | 0 => ⟨S4x2048, .i32⟩
  | 1 => ⟨S_, .i32⟩
  | 2 => ⟨S4x2048, .i32⟩
  | 3 => ⟨S4x2048, .i32⟩
  | 4 => ⟨S_, .i32⟩
  | 5 => ⟨S4x2048, .i32⟩
  | 6 => ⟨S4x2048, .i32⟩
  | 7 => ⟨S4x2048, .i32⟩
  | 8 => ⟨S4x2048, .i32⟩
  | 9 => ⟨S4x2048, .i32⟩
  | 10 => ⟨S_, .i32⟩
  | 11 => ⟨S4x2048, .i32⟩
  | 12 => ⟨S4x2048, .i32⟩
  | 13 => ⟨S_, .i32⟩
  | 14 => ⟨S4x2048, .i32⟩
  | 15 => ⟨S4x2048, .i32⟩
  | 16 => ⟨S4x2048, .i32⟩
  | 17 => ⟨S4x2048, .i32⟩
  | 18 => ⟨S4x2048, .i32⟩
  | 19 => ⟨S_, .i32⟩
  | 20 => ⟨S4x2048, .i32⟩
  | 21 => ⟨S4x2048, .i32⟩
  | 22 => ⟨S_, .i32⟩
  | 23 => ⟨S4x2048, .i32⟩
  | 24 => ⟨S4x2048, .i32⟩
  | 25 => ⟨S4x2048, .i32⟩
  | 26 => ⟨S4x2048, .i32⟩
  | 27 => ⟨S4x2048, .i32⟩
  | 28 => ⟨S_, .i32⟩
  | 29 => ⟨S4x2048, .i32⟩
  | 30 => ⟨S4x2048, .i32⟩
  | 31 => ⟨S_, .i32⟩
  | 32 => ⟨S4x2048, .i32⟩
  | 33 => ⟨S4x2048, .i32⟩
  | 34 => ⟨S4x2048, .i32⟩
  | 35 => ⟨S4x2048, .i32⟩
  | 36 => ⟨S4x2048, .i32⟩
  | 37 => ⟨S4x2048, .i32⟩
  | 38 => ⟨S4x2048, .i32⟩
  | 39 => ⟨S4x2048, .i32⟩
  | 40 => ⟨S_, .i32⟩
  | 41 => ⟨S4x2048, .i32⟩
  | 42 => ⟨S4x2048, .i32⟩
  | 43 => ⟨S4x2048, .i32⟩
  | 44 => ⟨S_, .i32⟩
  | 45 => ⟨S4x2048, .i32⟩
  | 46 => ⟨S4x2048, .i32⟩
  | 47 => ⟨S_, .i32⟩
  | 48 => ⟨S4x2048, .i32⟩
  | 49 => ⟨S4x2048, .i32⟩
  | 50 => ⟨S4x2048, .i32⟩
  | 51 => ⟨S4x2048, .i32⟩
  | 52 => ⟨S4x2048, .i32⟩
  | 53 => ⟨S_, .i32⟩
  | 54 => ⟨S4x2048, .i32⟩
  | 55 => ⟨S4x2048, .i32⟩
  | 56 => ⟨S_, .i32⟩
  | 57 => ⟨S4x2048, .i32⟩
  | 58 => ⟨S4x2048, .i32⟩
  | 59 => ⟨S4x2048, .i32⟩
  | 60 => ⟨S4x2048, .i32⟩
  | 61 => ⟨S4x2048, .i32⟩
  | 62 => ⟨S_, .i32⟩
  | 63 => ⟨S4x2048, .i32⟩
  | 64 => ⟨S4x2048, .i32⟩
  | 65 => ⟨S_, .i32⟩
  | 66 => ⟨S4x2048, .i32⟩
  | 67 => ⟨S4x2048, .i32⟩
  | 68 => ⟨S4x2048, .i32⟩
  | 69 => ⟨S4x2048, .i32⟩
  | 70 => ⟨S4x2048, .i32⟩
  | 71 => ⟨S_, .i32⟩
  | 72 => ⟨S4x2048, .i32⟩
  | 73 => ⟨S4x2048, .i32⟩
  | 74 => ⟨S_, .i32⟩
  | 75 => ⟨S4x2048, .i32⟩
  | 76 => ⟨S4x2048, .i32⟩
  | 77 => ⟨S4x2048, .i32⟩
  | 78 => ⟨S4x2048, .i32⟩
  | 79 => ⟨S4x2048, .i32⟩
  | 80 => ⟨S4x2048, .i32⟩
  | 81 => ⟨S4x2048, .i32⟩
  | 82 => ⟨S4x2048, .i32⟩
  | 83 => ⟨S_, .i32⟩
  | 84 => ⟨S4x2048, .i32⟩
  | 85 => ⟨S4x2048, .i32⟩
  | 86 => ⟨S4x2048, .i32⟩
  | 87 => ⟨S_, .i32⟩
  | 88 => ⟨S4x2048, .i32⟩
  | 89 => ⟨S4x2048, .i32⟩
  | 90 => ⟨S_, .i32⟩
  | 91 => ⟨S4x2048, .i32⟩
  | 92 => ⟨S4x2048, .i32⟩
  | 93 => ⟨S4x2048, .i32⟩
  | 94 => ⟨S4x2048, .i32⟩
  | 95 => ⟨S4x2048, .i32⟩
  | 96 => ⟨S_, .i32⟩
  | 97 => ⟨S4x2048, .i32⟩
  | 98 => ⟨S4x2048, .i32⟩
  | 99 => ⟨S_, .i32⟩
  | 100 => ⟨S4x2048, .i32⟩
  | 101 => ⟨S4x2048, .i32⟩
  | 102 => ⟨S4x2048, .i32⟩
  | 103 => ⟨S4x2048, .i32⟩
  | 104 => ⟨S4x2048, .i32⟩
  | 105 => ⟨S_, .i32⟩
  | 106 => ⟨S4x2048, .i32⟩
  | 107 => ⟨S4x2048, .i32⟩
  | 108 => ⟨S_, .i32⟩
  | 109 => ⟨S4x2048, .i32⟩
  | 110 => ⟨S4x2048, .i32⟩
  | 111 => ⟨S4x2048, .i32⟩
  | 112 => ⟨S4x2048, .i32⟩
  | 113 => ⟨S4x2048, .i32⟩
  | 114 => ⟨S_, .i32⟩
  | 115 => ⟨S4x2048, .i32⟩
  | 116 => ⟨S4x2048, .i32⟩
  | 117 => ⟨S_, .i32⟩
  | 118 => ⟨S4x2048, .i32⟩
  | 119 => ⟨S4x2048, .i32⟩
  | 120 => ⟨S4x2048, .i32⟩
  | 121 => ⟨S4x2048, .i32⟩
  | 122 => ⟨S4x2048, .i32⟩
  | 123 => ⟨S4x2048, .i32⟩
  | 124 => ⟨S4x2048, .i32⟩
  | 125 => ⟨S4x2048, .i32⟩
  | 126 => ⟨S_, .i32⟩
  | 127 => ⟨S4x2048, .i32⟩
  | _ => ⟨S4x8192x2048, .f32⟩

abbrev hbmTy0_2 (i : Nat) : BufTy := match i % 128 with
  | 0 => ⟨S4x2048, .i32⟩
  | 1 => ⟨S4x2048, .i32⟩
  | 2 => ⟨S_, .i32⟩
  | 3 => ⟨S4x2048, .i32⟩
  | 4 => ⟨S4x2048, .i32⟩
  | 5 => ⟨S_, .i32⟩
  | 6 => ⟨S4x2048, .i32⟩
  | 7 => ⟨S4x2048, .i32⟩
  | 8 => ⟨S4x2048, .f32⟩
  | 9 => ⟨S_, .f32⟩
  | 10 => ⟨S4x2048, .f32⟩
  | 11 => ⟨S4x2048, .f32⟩
  | 12 => ⟨S1x1, .f32⟩
  | 13 => ⟨S4x2048, .f32⟩
  | 14 => ⟨S4x2048, .f32⟩
  | 15 => ⟨S4x2048, .f32⟩
  | 16 => ⟨S4x2048, .f32⟩
  | 17 => ⟨S4x2048, .f32⟩
  | 18 => ⟨S4x2048, .f32⟩
  | 19 => ⟨S4x1x2048, .f32⟩
  | 20 => ⟨S4x64x128x2048, .f32⟩
  | 21 => ⟨S4x64x128x2048, .f32⟩
  | 22 => ⟨S4x8192x2048, .f32⟩
  | _ => ⟨S4x8192x2048, .f32⟩

abbrev hbmTy (i : Nat) : BufTy := match i / 128 with
  | 0 => hbmTy0_0 i
  | 1 => hbmTy0_1 i
  | 2 => hbmTy0_2 i
  | _ => ⟨S4x8192x2048, .f32⟩

abbrev bufTy : (tb : Table) → Fin (tcTables nBuf tb) → BufTy
  | .hbm, ⟨i, _⟩ => hbmTy i
  | .local _ .vmem, ⟨0, _⟩ => ⟨S1x64x128x256, .f32⟩
  | .local _ .vmem, ⟨1, _⟩ => ⟨S1x64x128x256, .f32⟩
  | .local _ .vmem, ⟨2, _⟩ => ⟨S1x1x256, .f32⟩
  | .local _ .vmem, ⟨3, _⟩ => ⟨S1x1x256, .f32⟩
  | .local _ .vmem, ⟨4, _⟩ => ⟨S1x64x128x256, .f32⟩
  | .local _ .vmem, ⟨5, _⟩ => ⟨S1x64x128x256, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_v8 : Ref sig .tc := ⟨.hbm, 275, rfl⟩
abbrev main_v9 : Ref sig .tc := ⟨.hbm, 276, rfl⟩
abbrev main_v10 : Ref sig .tc := ⟨.hbm, 277, rfl⟩
abbrev main_v11 : Ref sig .tc := ⟨.hbm, 278, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c64_i32 : BitVec 32 := 64#32
  let v4 : BitVec 32 := Scalar.addi c0_i32 c64_i32
  let c1_i32 : BitVec 32 := 1#32
  ⟨c0_i32, v4, c1_i32⟩
def k0_off1 (k0_t1 : Fin k0_t1_loop.trips) : Fin 4 → Nat :=
  let c0_2464 : Index := 0#32
  let c0_i32 : BitVec 32 := 0#32
  let c1_i32 : BitVec 32 := 1#32
  let arg5 : BitVec 32 := Scf.iv c0_i32 c1_i32 k0_t1
  let v8402 : Index := Scalar.indexCast arg5
  let c0_2465 : Index := 0#32
  let c0_2466 : Index := 0#32
  ![0, v8402.toNat, 0, 0]
@[reducible] def k0_t2_loop : Scf.Loop 32 :=
  let c0_i32_4 : BitVec 32 := 0#32
  let c32_i32 : BitVec 32 := 32#32
  let v7 : BitVec 32 := Scalar.addi c0_i32_4 c32_i32
  let c1_i32_5 : BitVec 32 := 1#32
  ⟨c0_i32_4, v7, c1_i32_5⟩
def k0_off2 (k0_t2 : Fin k0_t2_loop.trips) : Fin 4 → Nat :=
  let c0_2464 : Index := 0#32
  let c2_i32 : BitVec 32 := 2#32
  let c0_i32_4 : BitVec 32 := 0#32
  let c1_i32_5 : BitVec 32 := 1#32
  let arg5 : BitVec 32 := Scf.iv c0_i32_4 c1_i32_5 k0_t2
  let v8402 : BitVec 32 := Scalar.muli c2_i32 arg5
  let v8403 : Index := Scalar.indexCast v8402
  let c0_2465 : Index := 0#32
  let c0_2466 : Index := 0#32
  ![0, v8403.toNat, 0, 0]
@[reducible] def k0_t3_loop : Scf.Loop 32 :=
  let c0_i32_2460 : BitVec 32 := 0#32
  let c64_i32_2461 : BitVec 32 := 64#32
  let v8401 : BitVec 32 := Scalar.addi c0_i32_2460 c64_i32_2461
  let c1_i32_2462 : BitVec 32 := 1#32
  ⟨c0_i32_2460, v8401, c1_i32_2462⟩
def k0_off3 (k0_t3 : Fin k0_t3_loop.trips) : Fin 4 → Nat :=
  let c0_2464 : Index := 0#32
  let c0_i32_2460 : BitVec 32 := 0#32
  let c1_i32_2462 : BitVec 32 := 1#32
  let arg5 : BitVec 32 := Scf.iv c0_i32_2460 c1_i32_2462 k0_t3
  let v8402 : Index := Scalar.indexCast arg5
  let c0_2465 : Index := 0#32
  let c0_2466 : Index := 0#32
  ![0, v8402.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x64x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x8192x2048 : Shape := ⟨3, ![4, 8192, 2048]⟩
abbrev S_ : Shape := ⟨0, ![]⟩
abbrev S4x2048 : Shape := ⟨2, ![4, 2048]⟩
abbrev S4x1x2048 : Shape := ⟨3, ![4, 1, 2048]⟩
abbrev S1 : Shape := ⟨1, ![1]⟩
abbrev S2 : Shape := ⟨1, ![2]⟩
abbrev S1x1 : Shape := ⟨2, ![1, 1]⟩
abbrev S4x1x2048x1 : Shape := ⟨4, ![4, 1, 2048, 1]⟩
abbrev S1x1x1x1 : Shape := ⟨4, ![1, 1, 1, 1]⟩

abbrev nBuf : Space → Nat
  | .hbm => 329
  | .vmem => 0
  | .smem => 0
  | _ => 0

abbrev hbmTy0_0 (i : Nat) : BufTy := match i % 128 with
  | 0 => ⟨S4x8192x2048, .f32⟩
  | 1 => ⟨S4x8192x2048, .f32⟩
  | 2 => ⟨S_, .f32⟩
  | 3 => ⟨S4x2048, .f32⟩
  | 4 => ⟨S4x1x2048, .f32⟩
  | 5 => ⟨S4x8192x2048, .f32⟩
  | 6 => ⟨S4x8192x2048, .f32⟩
  | 7 => ⟨S_, .f32⟩
  | 8 => ⟨S4x8192x2048, .f32⟩
  | 9 => ⟨S4x8192x2048, .f32⟩
  | 10 => ⟨S4x8192x2048, .f32⟩
  | 11 => ⟨S_, .f32⟩
  | 12 => ⟨S4x2048, .f32⟩
  | 13 => ⟨S4x1x2048, .f32⟩
  | 14 => ⟨S4x8192x2048, .f32⟩
  | 15 => ⟨S4x8192x2048, .f32⟩
  | 16 => ⟨S_, .f32⟩
  | 17 => ⟨S_, .f32⟩
  | 18 => ⟨S4x8192x2048, .f32⟩
  | 19 => ⟨S_, .f32⟩
  | 20 => ⟨S4x8192x2048, .f32⟩
  | 21 => ⟨S4x8192x2048, .f32⟩
  | 22 => ⟨S_, .i32⟩
  | 23 => ⟨S_, .i32⟩
  | 24 => ⟨S_, .i32⟩
  | 25 => ⟨S_, .i32⟩
  | 26 => ⟨S1, .i32⟩
  | 27 => ⟨S_, .i32⟩
  | 28 => ⟨S_, .i32⟩
  | 29 => ⟨S_, .i32⟩
  | 30 => ⟨S1, .i32⟩
  | 31 => ⟨S2, .i32⟩
  | 32 => ⟨S_, .f32⟩
  | 33 => ⟨S_, .f32⟩
  | 34 => ⟨S_, .f32⟩
  | 35 => ⟨S_, .f32⟩
  | 36 => ⟨S1x1, .f32⟩
  | 37 => ⟨S1x1, .f32⟩
  | 38 => ⟨S1, .i32⟩
  | 39 => ⟨S_, .i32⟩
  | 40 => ⟨S1, .i32⟩
  | 41 => ⟨S_, .i32⟩
  | 42 => ⟨S4x2048, .i64⟩
  | 43 => ⟨S4x2048, .i64⟩
  | 44 => ⟨S_, .i64⟩
  | 45 => ⟨S4x2048, .i64⟩
  | 46 => ⟨S4x2048, .i64⟩
  | 47 => ⟨S_, .i64⟩
  | 48 => ⟨S4x2048, .i64⟩
  | 49 => ⟨S4x2048, .i64⟩
  | 50 => ⟨S4x2048, .i64⟩
  | 51 => ⟨S_, .i64⟩
  | 52 => ⟨S4x2048, .i64⟩
  | 53 => ⟨S4x2048, .i64⟩
  | 54 => ⟨S4x2048, .i32⟩
  | 55 => ⟨S4x2048, .i32⟩
  | 56 => ⟨S_, .i32⟩
  | 57 => ⟨S_, .i32⟩
  | 58 => ⟨S_, .i32⟩
  | 59 => ⟨S4x2048, .i32⟩
  | 60 => ⟨S4x2048, .i32⟩
  | 61 => ⟨S4x2048, .i32⟩
  | 62 => ⟨S4x2048, .i32⟩
  | 63 => ⟨S4x2048, .i32⟩
  | 64 => ⟨S_, .i32⟩
  | 65 => ⟨S4x2048, .i32⟩
  | 66 => ⟨S4x2048, .i32⟩
  | 67 => ⟨S_, .i32⟩
  | 68 => ⟨S4x2048, .i32⟩
  | 69 => ⟨S4x2048, .i32⟩
  | 70 => ⟨S4x2048, .i32⟩
  | 71 => ⟨S4x2048, .i32⟩
  | 72 => ⟨S4x2048, .i32⟩
  | 73 => ⟨S_, .i32⟩
  | 74 => ⟨S4x2048, .i32⟩
  | 75 => ⟨S4x2048, .i32⟩
  | 76 => ⟨S_, .i32⟩
  | 77 => ⟨S4x2048, .i32⟩
  | 78 => ⟨S4x2048, .i32⟩
  | 79 => ⟨S4x2048, .i32⟩
  | 80 => ⟨S4x2048, .i32⟩
  | 81 => ⟨S4x2048, .i32⟩
  | 82 => ⟨S_, .i32⟩
  | 83 => ⟨S4x2048, .i32⟩
  | 84 => ⟨S4x2048, .i32⟩
  | 85 => ⟨S_, .i32⟩
  | 86 => ⟨S4x2048, .i32⟩
  | 87 => ⟨S4x2048, .i32⟩
  | 88 => ⟨S4x2048, .i32⟩
  | 89 => ⟨S4x2048, .i32⟩
  | 90 => ⟨S4x2048, .i32⟩
  | 91 => ⟨S_, .i32⟩
  | 92 => ⟨S4x2048, .i32⟩
  | 93 => ⟨S4x2048, .i32⟩
  | 94 => ⟨S_, .i32⟩
  | 95 => ⟨S4x2048, .i32⟩
  | 96 => ⟨S4x2048, .i32⟩
  | 97 => ⟨S4x2048, .i32⟩
  | 98 => ⟨S4x2048, .i32⟩
  | 99 => ⟨S4x2048, .i32⟩
  | 100 => ⟨S4x2048, .i32⟩
  | 101 => ⟨S4x2048, .i32⟩
  | 102 => ⟨S4x2048, .i32⟩
  | 103 => ⟨S_, .i32⟩
  | 104 => ⟨S4x2048, .i32⟩
  | 105 => ⟨S4x2048, .i32⟩
  | 106 => ⟨S4x2048, .i32⟩
  | 107 => ⟨S_, .i32⟩
  | 108 => ⟨S4x2048, .i32⟩
  | 109 => ⟨S4x2048, .i32⟩
  | 110 => ⟨S_, .i32⟩
  | 111 => ⟨S4x2048, .i32⟩
  | 112 => ⟨S4x2048, .i32⟩
  | 113 => ⟨S4x2048, .i32⟩
  | 114 => ⟨S4x2048, .i32⟩
  | 115 => ⟨S4x2048, .i32⟩
  | 116 => ⟨S_, .i32⟩
  | 117 => ⟨S4x2048, .i32⟩
  | 118 => ⟨S4x2048, .i32⟩
  | 119 => ⟨S_, .i32⟩
  | 120 => ⟨S4x2048, .i32⟩
  | 121 => ⟨S4x2048, .i32⟩
  | 122 => ⟨S4x2048, .i32⟩
  | 123 => ⟨S4x2048, .i32⟩
  | 124 => ⟨S4x2048, .i32⟩
  | 125 => ⟨S_, .i32⟩
  | 126 => ⟨S4x2048, .i32⟩
  | 127 => ⟨S4x2048, .i32⟩
  | _ => ⟨S4x8192x2048, .f32⟩

abbrev hbmTy0_1 (i : Nat) : BufTy := match i % 128 with
  | 0 => ⟨S_, .i32⟩
  | 1 => ⟨S4x2048, .i32⟩
  | 2 => ⟨S4x2048, .i32⟩
  | 3 => ⟨S4x2048, .i32⟩
  | 4 => ⟨S4x2048, .i32⟩
  | 5 => ⟨S4x2048, .i32⟩
  | 6 => ⟨S_, .i32⟩
  | 7 => ⟨S4x2048, .i32⟩
  | 8 => ⟨S4x2048, .i32⟩
  | 9 => ⟨S_, .i32⟩
  | 10 => ⟨S4x2048, .i32⟩
  | 11 => ⟨S4x2048, .i32⟩
  | 12 => ⟨S4x2048, .i32⟩
  | 13 => ⟨S4x2048, .i32⟩
  | 14 => ⟨S4x2048, .i32⟩
  | 15 => ⟨S4x2048, .i32⟩
  | 16 => ⟨S4x2048, .i32⟩
  | 17 => ⟨S4x2048, .i32⟩
  | 18 => ⟨S_, .i32⟩
  | 19 => ⟨S4x2048, .i32⟩
  | 20 => ⟨S4x2048, .i32⟩
  | 21 => ⟨S4x2048, .i32⟩
  | 22 => ⟨S_, .i32⟩
  | 23 => ⟨S4x2048, .i32⟩
  | 24 => ⟨S4x2048, .i32⟩
  | 25 => ⟨S_, .i32⟩
  | 26 => ⟨S4x2048, .i32⟩
  | 27 => ⟨S4x2048, .i32⟩
  | 28 => ⟨S4x2048, .i32⟩
  | 29 => ⟨S4x2048, .i32⟩
  | 30 => ⟨S4x2048, .i32⟩
  | 31 => ⟨S_, .i32⟩
  | 32 => ⟨S4x2048, .i32⟩
  | 33 => ⟨S4x2048, .i32⟩
  | 34 => ⟨S_, .i32⟩
  | 35 => ⟨S4x2048, .i32⟩
  | 36 => ⟨S4x2048, .i32⟩
  | 37 => ⟨S4x2048, .i32⟩
  | 38 => ⟨S4x2048, .i32⟩
  | 39 => ⟨S4x2048, .i32⟩
  | 40 => ⟨S_, .i32⟩
  | 41 => ⟨S4x2048, .i32⟩
  | 42 => ⟨S4x2048, .i32⟩
  | 43 => ⟨S_, .i32⟩
  | 44 => ⟨S4x2048, .i32⟩
  | 45 => ⟨S4x2048, .i32⟩
  | 46 => ⟨S4x2048, .i32⟩
  | 47 => ⟨S4x2048, .i32⟩
  | 48 => ⟨S4x2048, .i32⟩
  | 49 => ⟨S_, .i32⟩
  | 50 => ⟨S4x2048, .i32⟩
  | 51 => ⟨S4x2048, .i32⟩
  | 52 => ⟨S_, .i32⟩
  | 53 => ⟨S4x2048, .i32⟩
  | 54 => ⟨S4x2048, .i32⟩
  | 55 => ⟨S4x2048, .i32⟩
  | 56 => ⟨S4x2048, .i32⟩
  | 57 => ⟨S4x2048, .i32⟩
  | 58 => ⟨S4x2048, .i32⟩
  | 59 => ⟨S4x2048, .i32⟩
  | 60 => ⟨S4x2048, .i32⟩
  | 61 => ⟨S_, .i32⟩
  | 62 => ⟨S4x2048, .i32⟩
  | 63 => ⟨S4x2048, .i32⟩
  | 64 => ⟨S4x2048, .i32⟩
  | 65 => ⟨S_, .i32⟩
  | 66 => ⟨S4x2048, .i32⟩
  | 67 => ⟨S4x2048, .i32⟩
  | 68 => ⟨S_, .i32⟩
  | 69 => ⟨S4x2048, .i32⟩
  | 70 => ⟨S4x2048, .i32⟩
  | 71 => ⟨S4x2048, .i32⟩
  | 72 => ⟨S4x2048, .i32⟩
  | 73 => ⟨S4x2048, .i32⟩
  | 74 => ⟨S_, .i32⟩
  | 75 => ⟨S4x2048, .i32⟩
  | 76 => ⟨S4x2048, .i32⟩
  | 77 => ⟨S_, .i32⟩
  | 78 => ⟨S4x2048, .i32⟩
  | 79 => ⟨S4x2048, .i32⟩
  | 80 => ⟨S4x2048, .i32⟩
  | 81 => ⟨S4x2048, .i32⟩
  | 82 => ⟨S4x2048, .i32⟩
  | 83 => ⟨S_, .i32⟩
  | 84 => ⟨S4x2048, .i32⟩
  | 85 => ⟨S4x2048, .i32⟩
  | 86 => ⟨S_, .i32⟩
  | 87 => ⟨S4x2048, .i32⟩
  | 88 => ⟨S4x2048, .i32⟩
  | 89 => ⟨S4x2048, .i32⟩
  | 90 => ⟨S4x2048, .i32⟩
  | 91 => ⟨S4x2048, .i32⟩
  | 92 => ⟨S_, .i32⟩
  | 93 => ⟨S4x2048, .i32⟩
  | 94 => ⟨S4x2048, .i32⟩
  | 95 => ⟨S_, .i32⟩
  | 96 => ⟨S4x2048, .i32⟩
  | 97 => ⟨S4x2048, .i32⟩
  | 98 => ⟨S4x2048, .i32⟩
  | 99 => ⟨S4x2048, .i32⟩
  | 100 => ⟨S4x2048, .i32⟩
  | 101 => ⟨S4x2048, .i32⟩
  | 102 => ⟨S4x2048, .i32⟩
  | 103 => ⟨S4x2048, .i32⟩
  | 104 => ⟨S_, .i32⟩
  | 105 => ⟨S4x2048, .i32⟩
  | 106 => ⟨S4x2048, .i32⟩
  | 107 => ⟨S4x2048, .i32⟩
  | 108 => ⟨S_, .i32⟩
  | 109 => ⟨S4x2048, .i32⟩
  | 110 => ⟨S4x2048, .i32⟩
  | 111 => ⟨S_, .i32⟩
  | 112 => ⟨S4x2048, .i32⟩
  | 113 => ⟨S4x2048, .i32⟩
  | 114 => ⟨S4x2048, .i32⟩
  | 115 => ⟨S4x2048, .i32⟩
  | 116 => ⟨S4x2048, .i32⟩
  | 117 => ⟨S_, .i32⟩
  | 118 => ⟨S4x2048, .i32⟩
  | 119 => ⟨S4x2048, .i32⟩
  | 120 => ⟨S_, .i32⟩
  | 121 => ⟨S4x2048, .i32⟩
  | 122 => ⟨S4x2048, .i32⟩
  | 123 => ⟨S4x2048, .i32⟩
  | 124 => ⟨S4x2048, .i32⟩
  | 125 => ⟨S4x2048, .i32⟩
  | 126 => ⟨S_, .i32⟩
  | 127 => ⟨S4x2048, .i32⟩
  | _ => ⟨S4x8192x2048, .f32⟩

abbrev hbmTy0_2 (i : Nat) : BufTy := match i % 128 with
  | 0 => ⟨S4x2048, .i32⟩
  | 1 => ⟨S_, .i32⟩
  | 2 => ⟨S4x2048, .i32⟩
  | 3 => ⟨S4x2048, .i32⟩
  | 4 => ⟨S4x2048, .i32⟩
  | 5 => ⟨S4x2048, .i32⟩
  | 6 => ⟨S4x2048, .i32⟩
  | 7 => ⟨S_, .i32⟩
  | 8 => ⟨S4x2048, .i32⟩
  | 9 => ⟨S4x2048, .i32⟩
  | 10 => ⟨S_, .i32⟩
  | 11 => ⟨S4x2048, .i32⟩
  | 12 => ⟨S4x2048, .i32⟩
  | 13 => ⟨S4x2048, .i32⟩
  | 14 => ⟨S4x2048, .i32⟩
  | 15 => ⟨S4x2048, .i32⟩
  | 16 => ⟨S4x2048, .i32⟩
  | 17 => ⟨S4x2048, .i32⟩
  | 18 => ⟨S4x2048, .i32⟩
  | 19 => ⟨S_, .i32⟩
  | 20 => ⟨S4x2048, .i32⟩
  | 21 => ⟨S4x2048, .i32⟩
  | 22 => ⟨S4x2048, .i32⟩
  | 23 => ⟨S_, .i32⟩
  | 24 => ⟨S4x2048, .i32⟩
  | 25 => ⟨S4x2048, .i32⟩
  | 26 => ⟨S_, .i32⟩
  | 27 => ⟨S4x2048, .i32⟩
  | 28 => ⟨S4x2048, .i32⟩
  | 29 => ⟨S4x2048, .f32⟩
  | 30 => ⟨S_, .f32⟩
  | 31 => ⟨S4x2048, .f32⟩
  | 32 => ⟨S4x2048, .f32⟩
  | 33 => ⟨S1x1, .f32⟩
  | 34 => ⟨S4x2048, .f32⟩
  | 35 => ⟨S4x2048, .f32⟩
  | 36 => ⟨S4x2048, .f32⟩
  | 37 => ⟨S4x2048, .f32⟩
  | 38 => ⟨S4x2048, .f32⟩
  | 39 => ⟨S4x2048, .f32⟩
  | 40 => ⟨S4x1x2048, .f32⟩
  | 41 => ⟨S4x8192x2048, .f32⟩
  | 42 => ⟨S4x8192x2048, .i1⟩
  | 43 => ⟨S4x8192x2048, .i32⟩
  | 44 => ⟨S_, .i32⟩
  | 45 => ⟨S4x2048, .i32⟩
  | 46 => ⟨S4x1x2048, .i32⟩
  | 47 => ⟨S_, .i32⟩
  | 48 => ⟨S4x1x2048, .i32⟩
  | 49 => ⟨S4x1x2048, .i1⟩
  | 50 => ⟨S_, .i32⟩
  | 51 => ⟨S4x1x2048, .i32⟩
  | 52 => ⟨S4x1x2048, .i32⟩
  | 53 => ⟨S4x1x2048, .i32⟩
  | 54 => ⟨S4x1x2048x1, .i32⟩
  | 55 => ⟨S1, .i32⟩
  | 56 => ⟨S_, .i32⟩
  | 57 => ⟨S4x1x2048x1, .i32⟩
  | 58 => ⟨S4x1x2048x1, .i1⟩
  | 59 => ⟨S1x1x1x1, .i32⟩
  | 60 => ⟨S4x1x2048x1, .i32⟩
  | 61 => ⟨S4x1x2048x1, .i1⟩
  | 62 => ⟨S4x1x2048x1, .i1⟩
  | 63 => ⟨S_, .i1⟩
  | 64 => ⟨S4x1x2048, .i1⟩
  | 65 => ⟨S4x1x2048, .f32⟩
  | 66 => ⟨S_, .f32⟩
  | 67 => ⟨S4x1x2048, .f32⟩
  | 68 => ⟨S4x1x2048, .f32⟩
  | 69 => ⟨S4x8192x2048, .f32⟩
  | 70 => ⟨S4x8192x2048, .i1⟩
  | 71 => ⟨S4x8192x2048, .f32⟩
  | 72 => ⟨S4x8192x2048, .f32⟩
  | _ => ⟨S4x8192x2048, .f32⟩

abbrev hbmTy (i : Nat) : BufTy := match i / 128 with
  | 0 => hbmTy0_0 i
  | 1 => hbmTy0_1 i
  | 2 => hbmTy0_2 i
  | _ => ⟨S4x8192x2048, .f32⟩

abbrev bufTy : (tb : Table) → Fin (tcTables nBuf tb) → BufTy
  | .hbm, ⟨i, _⟩ => hbmTy i
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_call0_cst : Ref sig .tc := ⟨.hbm, 16, rfl⟩
abbrev main_call0_call0_v0 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_c : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_c_1 : Ref sig .tc := ⟨.hbm, 51, rfl⟩
abbrev main_call1_v15 : Ref sig .tc := ⟨.hbm, 52, rfl⟩
abbrev main_call1_v16 : Ref sig .tc := ⟨.hbm, 53, rfl⟩
abbrev main_call1_v17 : Ref sig .tc := ⟨.hbm, 54, rfl⟩
abbrev main_call1_v18 : Ref sig .tc := ⟨.hbm, 55, rfl⟩
abbrev main_call1_call0_v0 : Ref sig .tc := ⟨.hbm, 56, rfl⟩
abbrev main_call1_call0_c : Ref sig .tc := ⟨.hbm, 57, rfl⟩
abbrev main_call1_call0_v1 : Ref sig .tc := ⟨.hbm, 58, rfl⟩
abbrev main_call1_call0_v2 : Ref sig .tc := ⟨.hbm, 59, rfl⟩
abbrev main_call1_call0_v3 : Ref sig .tc := ⟨.hbm, 60, rfl⟩
abbrev main_call1_call0_v4 : Ref sig .tc := ⟨.hbm, 61, rfl⟩
abbrev main_call1_call0_v5 : Ref sig .tc := ⟨.hbm, 62, rfl⟩
abbrev main_call1_call0_v6 : Ref sig .tc := ⟨.hbm, 63, rfl⟩
abbrev main_call1_call0_c_0 : Ref sig .tc := ⟨.hbm, 64, rfl⟩
abbrev main_call1_call0_v7 : Ref sig .tc := ⟨.hbm, 65, rfl⟩
abbrev main_call1_call0_v8 : Ref sig .tc := ⟨.hbm, 66, rfl⟩
abbrev main_call1_call0_c_1 : Ref sig .tc := ⟨.hbm, 67, rfl⟩
abbrev main_call1_call0_v9 : Ref sig .tc := ⟨.hbm, 68, rfl⟩
abbrev main_call1_call0_v10 : Ref sig .tc := ⟨.hbm, 69, rfl⟩
abbrev main_call1_call0_v11 : Ref sig .tc := ⟨.hbm, 70, rfl⟩
abbrev main_call1_call0_v12 : Ref sig .tc := ⟨.hbm, 71, rfl⟩
abbrev main_call1_call0_v13 : Ref sig .tc := ⟨.hbm, 72, rfl⟩
abbrev main_call1_call0_c_2 : Ref sig .tc := ⟨.hbm, 73, rfl⟩
abbrev main_call1_call0_v14 : Ref sig .tc := ⟨.hbm, 74, rfl⟩
abbrev main_call1_call0_v15 : Ref sig .tc := ⟨.hbm, 75, rfl⟩
abbrev main_call1_call0_c_3 : Ref sig .tc := ⟨.hbm, 76, rfl⟩
abbrev main_call1_call0_v16 : Ref sig .tc := ⟨.hbm, 77, rfl⟩
abbrev main_call1_call0_v17 : Ref sig .tc := ⟨.hbm, 78, rfl⟩
abbrev main_call1_call0_v18 : Ref sig .tc := ⟨.hbm, 79, rfl⟩
abbrev main_call1_call0_v19 : Ref sig .tc := ⟨.hbm, 80, rfl⟩
abbrev main_call1_call0_v20 : Ref sig .tc := ⟨.hbm, 81, rfl⟩
abbrev main_call1_call0_c_4 : Ref sig .tc := ⟨.hbm, 82, rfl⟩
abbrev main_call1_call0_v21 : Ref sig .tc := ⟨.hbm, 83, rfl⟩
abbrev main_call1_call0_v22 : Ref sig .tc := ⟨.hbm, 84, rfl⟩
abbrev main_call1_call0_c_5 : Ref sig .tc := ⟨.hbm, 85, rfl⟩
abbrev main_call1_call0_v23 : Ref sig .tc := ⟨.hbm, 86, rfl⟩
abbrev main_call1_call0_v24 : Ref sig .tc := ⟨.hbm, 87, rfl⟩
abbrev main_call1_call0_v25 : Ref sig .tc := ⟨.hbm, 88, rfl⟩
abbrev main_call1_call0_v26 : Ref sig .tc := ⟨.hbm, 89, rfl⟩
abbrev main_call1_call0_v27 : Ref sig .tc := ⟨.hbm, 90, rfl⟩
abbrev main_call1_call0_c_6 : Ref sig .tc := ⟨.hbm, 91, rfl⟩
abbrev main_call1_call0_v28 : Ref sig .tc := ⟨.hbm, 92, rfl⟩
abbrev main_call1_call0_v29 : Ref sig .tc := ⟨.hbm, 93, rfl⟩
abbrev main_call1_call0_c_7 : Ref sig .tc := ⟨.hbm, 94, rfl⟩
abbrev main_call1_call0_v30 : Ref sig .tc := ⟨.hbm, 95, rfl⟩
abbrev main_call1_call0_v31 : Ref sig .tc := ⟨.hbm, 96, rfl⟩
abbrev main_call1_call0_v32 : Ref sig .tc := ⟨.hbm, 97, rfl⟩
abbrev main_call1_call0_v33 : Ref sig .tc := ⟨.hbm, 98, rfl⟩
abbrev main_call1_call0_v34 : Ref sig .tc := ⟨.hbm, 99, rfl⟩
abbrev main_call1_call0_v35 : Ref sig .tc := ⟨.hbm, 100, rfl⟩
abbrev main_call1_call0_v36 : Ref sig .tc := ⟨.hbm, 101, rfl⟩
abbrev main_call1_call0_v37 : Ref sig .tc := ⟨.hbm, 102, rfl⟩
abbrev main_call1_call0_c_8 : Ref sig .tc := ⟨.hbm, 103, rfl⟩
abbrev main_call1_call0_v38 : Ref sig .tc := ⟨.hbm, 104, rfl⟩
abbrev main_call1_call0_v39 : Ref sig .tc := ⟨.hbm, 105, rfl⟩
abbrev main_call1_call0_v40 : Ref sig .tc := ⟨.hbm, 106, rfl⟩
abbrev main_call1_call0_c_9 : Ref sig .tc := ⟨.hbm, 107, rfl⟩
abbrev main_call1_call0_v41 : Ref sig .tc := ⟨.hbm, 108, rfl⟩
abbrev main_call1_call0_v42 : Ref sig .tc := ⟨.hbm, 109, rfl⟩
abbrev main_call1_call0_c_10 : Ref sig .tc := ⟨.hbm, 110, rfl⟩
abbrev main_call1_call0_v43 : Ref sig .tc := ⟨.hbm, 111, rfl⟩
abbrev main_call1_call0_v44 : Ref sig .tc := ⟨.hbm, 112, rfl⟩
abbrev main_call1_call0_v45 : Ref sig .tc := ⟨.hbm, 113, rfl⟩
abbrev main_call1_call0_v46 : Ref sig .tc := ⟨.hbm, 114, rfl⟩
abbrev main_call1_call0_v47 : Ref sig .tc := ⟨.hbm, 115, rfl⟩
abbrev main_call1_call0_c_11 : Ref sig .tc := ⟨.hbm, 116, rfl⟩
abbrev main_call1_call0_v48 : Ref sig .tc := ⟨.hbm, 117, rfl⟩
abbrev main_call1_call0_v49 : Ref sig .tc := ⟨.hbm, 118, rfl⟩
abbrev main_call1_call0_c_12 : Ref sig .tc := ⟨.hbm, 119, rfl⟩
abbrev main_call1_call0_v50 : Ref sig .tc := ⟨.hbm, 120, rfl⟩
abbrev main_call1_call0_v51 : Ref sig .tc := ⟨.hbm, 121, rfl⟩
abbrev main_call1_call0_v52 : Ref sig .tc := ⟨.hbm, 122, rfl⟩
abbrev main_call1_call0_v53 : Ref sig .tc := ⟨.hbm, 123, rfl⟩
abbrev main_call1_call0_v54 : Ref sig .tc := ⟨.hbm, 124, rfl⟩
abbrev main_call1_call0_c_13 : Ref sig .tc := ⟨.hbm, 125, rfl⟩
abbrev main_call1_call0_v55 : Ref sig .tc := ⟨.hbm, 126, rfl⟩
abbrev main_call1_call0_v56 : Ref sig .tc := ⟨.hbm, 127, rfl⟩
abbrev main_call1_call0_c_14 : Ref sig .tc := ⟨.hbm, 128, rfl⟩
abbrev main_call1_call0_v57 : Ref sig .tc := ⟨.hbm, 129, rfl⟩
abbrev main_call1_call0_v58 : Ref sig .tc := ⟨.hbm, 130, rfl⟩
abbrev main_call1_call0_v59 : Ref sig .tc := ⟨.hbm, 131, rfl⟩
abbrev main_call1_call0_v60 : Ref sig .tc := ⟨.hbm, 132, rfl⟩
abbrev main_call1_call0_v61 : Ref sig .tc := ⟨.hbm, 133, rfl⟩
abbrev main_call1_call0_c_15 : Ref sig .tc := ⟨.hbm, 134, rfl⟩
abbrev main_call1_call0_v62 : Ref sig .tc := ⟨.hbm, 135, rfl⟩
abbrev main_call1_call0_v63 : Ref sig .tc := ⟨.hbm, 136, rfl⟩
abbrev main_call1_call0_c_16 : Ref sig .tc := ⟨.hbm, 137, rfl⟩
abbrev main_call1_call0_v64 : Ref sig .tc := ⟨.hbm, 138, rfl⟩
abbrev main_call1_call0_v65 : Ref sig .tc := ⟨.hbm, 139, rfl⟩
abbrev main_call1_call0_v66 : Ref sig .tc := ⟨.hbm, 140, rfl⟩
abbrev main_call1_call0_v67 : Ref sig .tc := ⟨.hbm, 141, rfl⟩
abbrev main_call1_call0_v68 : Ref sig .tc := ⟨.hbm, 142, rfl⟩
abbrev main_call1_call0_v69 : Ref sig .tc := ⟨.hbm, 143, rfl⟩
abbrev main_call1_call0_v70 : Ref sig .tc := ⟨.hbm, 144, rfl⟩
abbrev main_call1_call0_v71 : Ref sig .tc := ⟨.hbm, 145, rfl⟩
abbrev main_call1_call0_c_17 : Ref sig .tc := ⟨.hbm, 146, rfl⟩
abbrev main_call1_call0_v72 : Ref sig .tc := ⟨.hbm, 147, rfl⟩
abbrev main_call1_call0_v73 : Ref sig .tc := ⟨.hbm, 148, rfl⟩
abbrev main_call1_call0_v74 : Ref sig .tc := ⟨.hbm, 149, rfl⟩
abbrev main_call1_call0_c_18 : Ref sig .tc := ⟨.hbm, 150, rfl⟩
abbrev main_call1_call0_v75 : Ref sig .tc := ⟨.hbm, 151, rfl⟩
abbrev main_call1_call0_v76 : Ref sig .tc := ⟨.hbm, 152, rfl⟩
abbrev main_call1_call0_c_19 : Ref sig .tc := ⟨.hbm, 153, rfl⟩
abbrev main_call1_call0_v77 : Ref sig .tc := ⟨.hbm, 154, rfl⟩
abbrev main_call1_call0_v78 : Ref sig .tc := ⟨.hbm, 155, rfl⟩
abbrev main_call1_call0_v79 : Ref sig .tc := ⟨.hbm, 156, rfl⟩
abbrev main_call1_call0_v80 : Ref sig .tc := ⟨.hbm, 157, rfl⟩
abbrev main_call1_call0_v81 : Ref sig .tc := ⟨.hbm, 158, rfl⟩
abbrev main_call1_call0_c_20 : Ref sig .tc := ⟨.hbm, 159, rfl⟩
abbrev main_call1_call0_v82 : Ref sig .tc := ⟨.hbm, 160, rfl⟩
abbrev main_call1_call0_v83 : Ref sig .tc := ⟨.hbm, 161, rfl⟩
abbrev main_call1_call0_c_21 : Ref sig .tc := ⟨.hbm, 162, rfl⟩
abbrev main_call1_call0_v84 : Ref sig .tc := ⟨.hbm, 163, rfl⟩
abbrev main_call1_call0_v85 : Ref sig .tc := ⟨.hbm, 164, rfl⟩
abbrev main_call1_call0_v86 : Ref sig .tc := ⟨.hbm, 165, rfl⟩
abbrev main_call1_call0_v87 : Ref sig .tc := ⟨.hbm, 166, rfl⟩
abbrev main_call1_call0_v88 : Ref sig .tc := ⟨.hbm, 167, rfl⟩
abbrev main_call1_call0_c_22 : Ref sig .tc := ⟨.hbm, 168, rfl⟩
abbrev main_call1_call0_v89 : Ref sig .tc := ⟨.hbm, 169, rfl⟩
abbrev main_call1_call0_v90 : Ref sig .tc := ⟨.hbm, 170, rfl⟩
abbrev main_call1_call0_c_23 : Ref sig .tc := ⟨.hbm, 171, rfl⟩
abbrev main_call1_call0_v91 : Ref sig .tc := ⟨.hbm, 172, rfl⟩
abbrev main_call1_call0_v92 : Ref sig .tc := ⟨.hbm, 173, rfl⟩
abbrev main_call1_call0_v93 : Ref sig .tc := ⟨.hbm, 174, rfl⟩
abbrev main_call1_call0_v94 : Ref sig .tc := ⟨.hbm, 175, rfl⟩
abbrev main_call1_call0_v95 : Ref sig .tc := ⟨.hbm, 176, rfl⟩
abbrev main_call1_call0_c_24 : Ref sig .tc := ⟨.hbm, 177, rfl⟩
abbrev main_call1_call0_v96 : Ref sig .tc := ⟨.hbm, 178, rfl⟩
abbrev main_call1_call0_v97 : Ref sig .tc := ⟨.hbm, 179, rfl⟩
abbrev main_call1_call0_c_25 : Ref sig .tc := ⟨.hbm, 180, rfl⟩
abbrev main_call1_call0_v98 : Ref sig .tc := ⟨.hbm, 181, rfl⟩
abbrev main_call1_call0_v99 : Ref sig .tc := ⟨.hbm, 182, rfl⟩
abbrev main_call1_call0_v100 : Ref sig .tc := ⟨.hbm, 183, rfl⟩
abbrev main_call1_call0_v101 : Ref sig .tc := ⟨.hbm, 184, rfl⟩
abbrev main_call1_call0_v102 : Ref sig .tc := ⟨.hbm, 185, rfl⟩
abbrev main_call1_call0_v103 : Ref sig .tc := ⟨.hbm, 186, rfl⟩
abbrev main_call1_call0_v104 : Ref sig .tc := ⟨.hbm, 187, rfl⟩
abbrev main_call1_call0_v105 : Ref sig .tc := ⟨.hbm, 188, rfl⟩
abbrev main_call1_call0_c_26 : Ref sig .tc := ⟨.hbm, 189, rfl⟩
abbrev main_call1_call0_v106 : Ref sig .tc := ⟨.hbm, 190, rfl⟩
abbrev main_call1_call0_v107 : Ref sig .tc := ⟨.hbm, 191, rfl⟩
abbrev main_call1_call0_v108 : Ref sig .tc := ⟨.hbm, 192, rfl⟩
abbrev main_call1_call0_c_27 : Ref sig .tc := ⟨.hbm, 193, rfl⟩
abbrev main_call1_call0_v109 : Ref sig .tc := ⟨.hbm, 194, rfl⟩
abbrev main_call1_call0_v110 : Ref sig .tc := ⟨.hbm, 195, rfl⟩
abbrev main_call1_call0_c_28 : Ref sig .tc := ⟨.hbm, 196, rfl⟩
abbrev main_call1_call0_v111 : Ref sig .tc := ⟨.hbm, 197, rfl⟩
abbrev main_call1_call0_v112 : Ref sig .tc := ⟨.hbm, 198, rfl⟩
abbrev main_call1_call0_v113 : Ref sig .tc := ⟨.hbm, 199, rfl⟩
abbrev main_call1_call0_v114 : Ref sig .tc := ⟨.hbm, 200, rfl⟩
abbrev main_call1_call0_v115 : Ref sig .tc := ⟨.hbm, 201, rfl⟩
abbrev main_call1_call0_c_29 : Ref sig .tc := ⟨.hbm, 202, rfl⟩
abbrev main_call1_call0_v116 : Ref sig .tc := ⟨.hbm, 203, rfl⟩
abbrev main_call1_call0_v117 : Ref sig .tc := ⟨.hbm, 204, rfl⟩
abbrev main_call1_call0_c_30 : Ref sig .tc := ⟨.hbm, 205, rfl⟩
abbrev main_call1_call0_v118 : Ref sig .tc := ⟨.hbm, 206, rfl⟩
abbrev main_call1_call0_v119 : Ref sig .tc := ⟨.hbm, 207, rfl⟩
abbrev main_call1_call0_v120 : Ref sig .tc := ⟨.hbm, 208, rfl⟩
abbrev main_call1_call0_v121 : Ref sig .tc := ⟨.hbm, 209, rfl⟩
abbrev main_call1_call0_v122 : Ref sig .tc := ⟨.hbm, 210, rfl⟩
abbrev main_call1_call0_c_31 : Ref sig .tc := ⟨.hbm, 211, rfl⟩
abbrev main_call1_call0_v123 : Ref sig .tc := ⟨.hbm, 212, rfl⟩
abbrev main_call1_call0_v124 : Ref sig .tc := ⟨.hbm, 213, rfl⟩
abbrev main_call1_call0_c_32 : Ref sig .tc := ⟨.hbm, 214, rfl⟩
abbrev main_call1_call0_v125 : Ref sig .tc := ⟨.hbm, 215, rfl⟩
abbrev main_call1_call0_v126 : Ref sig .tc := ⟨.hbm, 216, rfl⟩
abbrev main_call1_call0_v127 : Ref sig .tc := ⟨.hbm, 217, rfl⟩
abbrev main_call1_call0_v128 : Ref sig .tc := ⟨.hbm, 218, rfl⟩
abbrev main_call1_call0_v129 : Ref sig .tc := ⟨.hbm, 219, rfl⟩
abbrev main_call1_call0_c_33 : Ref sig .tc := ⟨.hbm, 220, rfl⟩
abbrev main_call1_call0_v130 : Ref sig .tc := ⟨.hbm, 221, rfl⟩
abbrev main_call1_call0_v131 : Ref sig .tc := ⟨.hbm, 222, rfl⟩
abbrev main_call1_call0_c_34 : Ref sig .tc := ⟨.hbm, 223, rfl⟩
abbrev main_call1_call0_v132 : Ref sig .tc := ⟨.hbm, 224, rfl⟩
abbrev main_call1_call0_v133 : Ref sig .tc := ⟨.hbm, 225, rfl⟩
abbrev main_call1_call0_v134 : Ref sig .tc := ⟨.hbm, 226, rfl⟩
abbrev main_call1_call0_v135 : Ref sig .tc := ⟨.hbm, 227, rfl⟩
abbrev main_call1_call0_v136 : Ref sig .tc := ⟨.hbm, 228, rfl⟩
abbrev main_call1_call0_v137 : Ref sig .tc := ⟨.hbm, 229, rfl⟩
abbrev main_call1_call0_v138 : Ref sig .tc := ⟨.hbm, 230, rfl⟩
abbrev main_call1_call0_v139 : Ref sig .tc := ⟨.hbm, 231, rfl⟩
abbrev main_call1_call0_c_35 : Ref sig .tc := ⟨.hbm, 232, rfl⟩
abbrev main_call1_call0_v140 : Ref sig .tc := ⟨.hbm, 233, rfl⟩
abbrev main_call1_call0_v141 : Ref sig .tc := ⟨.hbm, 234, rfl⟩
abbrev main_call1_call0_v142 : Ref sig .tc := ⟨.hbm, 235, rfl⟩
abbrev main_call1_call0_c_36 : Ref sig .tc := ⟨.hbm, 236, rfl⟩
abbrev main_call1_call0_v143 : Ref sig .tc := ⟨.hbm, 237, rfl⟩
abbrev main_call1_call0_v144 : Ref sig .tc := ⟨.hbm, 238, rfl⟩
abbrev main_call1_call0_c_37 : Ref sig .tc := ⟨.hbm, 239, rfl⟩
abbrev main_call1_call0_v145 : Ref sig .tc := ⟨.hbm, 240, rfl⟩
abbrev main_call1_call0_v146 : Ref sig .tc := ⟨.hbm, 241, rfl⟩
abbrev main_call1_call0_v147 : Ref sig .tc := ⟨.hbm, 242, rfl⟩
abbrev main_call1_call0_v148 : Ref sig .tc := ⟨.hbm, 243, rfl⟩
abbrev main_call1_call0_v149 : Ref sig .tc := ⟨.hbm, 244, rfl⟩
abbrev main_call1_call0_c_38 : Ref sig .tc := ⟨.hbm, 245, rfl⟩
abbrev main_call1_call0_v150 : Ref sig .tc := ⟨.hbm, 246, rfl⟩
abbrev main_call1_call0_v151 : Ref sig .tc := ⟨.hbm, 247, rfl⟩
abbrev main_call1_call0_c_39 : Ref sig .tc := ⟨.hbm, 248, rfl⟩
abbrev main_call1_call0_v152 : Ref sig .tc := ⟨.hbm, 249, rfl⟩
abbrev main_call1_call0_v153 : Ref sig .tc := ⟨.hbm, 250, rfl⟩
abbrev main_call1_call0_v154 : Ref sig .tc := ⟨.hbm, 251, rfl⟩
abbrev main_call1_call0_v155 : Ref sig .tc := ⟨.hbm, 252, rfl⟩
abbrev main_call1_call0_v156 : Ref sig .tc := ⟨.hbm, 253, rfl⟩
abbrev main_call1_call0_c_40 : Ref sig .tc := ⟨.hbm, 254, rfl⟩
abbrev main_call1_call0_v157 : Ref sig .tc := ⟨.hbm, 255, rfl⟩
abbrev main_call1_call0_v158 : Ref sig .tc := ⟨.hbm, 256, rfl⟩
abbrev main_call1_call0_c_41 : Ref sig .tc := ⟨.hbm, 257, rfl⟩
abbrev main_call1_call0_v159 : Ref sig .tc := ⟨.hbm, 258, rfl⟩
abbrev main_call1_call0_v160 : Ref sig .tc := ⟨.hbm, 259, rfl⟩
abbrev main_call1_call0_v161 : Ref sig .tc := ⟨.hbm, 260, rfl⟩
abbrev main_call1_call0_v162 : Ref sig .tc := ⟨.hbm, 261, rfl⟩
abbrev main_call1_call0_v163 : Ref sig .tc := ⟨.hbm, 262, rfl⟩
abbrev main_call1_call0_c_42 : Ref sig .tc := ⟨.hbm, 263, rfl⟩
abbrev main_call1_call0_v164 : Ref sig .tc := ⟨.hbm, 264, rfl⟩
abbrev main_call1_call0_v165 : Ref sig .tc := ⟨.hbm, 265, rfl⟩
abbrev main_call1_call0_c_43 : Ref sig .tc := ⟨.hbm, 266, rfl⟩
abbrev main_call1_call0_v166 : Ref sig .tc := ⟨.hbm, 267, rfl⟩
abbrev main_call1_call0_v167 : Ref sig .tc := ⟨.hbm, 268, rfl⟩
abbrev main_call1_call0_v168 : Ref sig .tc := ⟨.hbm, 269, rfl⟩
abbrev main_call1_call0_v169 : Ref sig .tc := ⟨.hbm, 270, rfl⟩
abbrev main_call1_call0_v170 : Ref sig .tc := ⟨.hbm, 271, rfl⟩
abbrev main_call1_v19_0 : Ref sig .tc := ⟨.hbm, 272, rfl⟩
abbrev main_call1_call0_v172 : Ref sig .tc := ⟨.hbm, 273, rfl⟩
abbrev main_call1_call0_v173 : Ref sig .tc := ⟨.hbm, 274, rfl⟩
abbrev main_call1_call0_c_44 : Ref sig .tc := ⟨.hbm, 275, rfl⟩
abbrev main_call1_call0_v174 : Ref sig .tc := ⟨.hbm, 276, rfl⟩
abbrev main_call1_v19_1 : Ref sig .tc := ⟨.hbm, 277, rfl⟩
abbrev main_call1_v20 : Ref sig .tc := ⟨.hbm, 278, rfl⟩
abbrev main_call1_c_2 : Ref sig .tc := ⟨.hbm, 279, rfl⟩
abbrev main_call1_v21 : Ref sig .tc := ⟨.hbm, 280, rfl⟩
abbrev main_call1_v22 : Ref sig .tc := ⟨.hbm, 281, rfl⟩
abbrev main_call1_c_3 : Ref sig .tc := ⟨.hbm, 282, rfl⟩
abbrev main_call1_v23 : Ref sig .tc := ⟨.hbm, 283, rfl⟩
abbrev main_call1_v24 : Ref sig .tc := ⟨.hbm, 284, rfl⟩
abbrev main_call1_v25 : Ref sig .tc := ⟨.hbm, 285, rfl⟩
abbrev main_call1_cst : Ref sig .tc := ⟨.hbm, 286, rfl⟩
abbrev main_call1_v26 : Ref sig .tc := ⟨.hbm, 287, rfl⟩
abbrev main_call1_v27 : Ref sig .tc := ⟨.hbm, 288, rfl⟩
abbrev main_call1_v28 : Ref sig .tc := ⟨.hbm, 289, rfl⟩
abbrev main_call1_v29 : Ref sig .tc := ⟨.hbm, 290, rfl⟩
abbrev main_call1_v30 : Ref sig .tc := ⟨.hbm, 291, rfl⟩
abbrev main_call1_v31 : Ref sig .tc := ⟨.hbm, 292, rfl⟩
abbrev main_call1_v32 : Ref sig .tc := ⟨.hbm, 293, rfl⟩
abbrev main_call1_v33 : Ref sig .tc := ⟨.hbm, 294, rfl⟩
abbrev main_v22 : Ref sig .tc := ⟨.hbm, 295, rfl⟩
abbrev main_v23 : Ref sig .tc := ⟨.hbm, 296, rfl⟩
abbrev main_v24 : Ref sig .tc := ⟨.hbm, 297, rfl⟩
abbrev main_v25 : Ref sig .tc := ⟨.hbm, 298, rfl⟩
abbrev main_v26 : Ref sig .tc := ⟨.hbm, 299, rfl⟩
abbrev main_c_7 : Ref sig .tc := ⟨.hbm, 300, rfl⟩
abbrev main_v27 : Ref sig .tc := ⟨.hbm, 301, rfl⟩
abbrev main_v28 : Ref sig .tc := ⟨.hbm, 302, rfl⟩
abbrev main_call2_c : Ref sig .tc := ⟨.hbm, 303, rfl⟩
abbrev main_call2_v0 : Ref sig .tc := ⟨.hbm, 304, rfl⟩
abbrev main_call2_v1 : Ref sig .tc := ⟨.hbm, 305, rfl⟩
abbrev main_call2_c_0 : Ref sig .tc := ⟨.hbm, 306, rfl⟩
abbrev main_call2_v2 : Ref sig .tc := ⟨.hbm, 307, rfl⟩
abbrev main_call2_v3 : Ref sig .tc := ⟨.hbm, 308, rfl⟩
abbrev main_call2_v4 : Ref sig .tc := ⟨.hbm, 309, rfl⟩
abbrev main_call2_v5 : Ref sig .tc := ⟨.hbm, 310, rfl⟩
abbrev main_call2_c_1 : Ref sig .tc := ⟨.hbm, 311, rfl⟩
abbrev main_call2_c_2 : Ref sig .tc := ⟨.hbm, 312, rfl⟩
abbrev main_call2_v6 : Ref sig .tc := ⟨.hbm, 313, rfl⟩
abbrev main_call2_v7 : Ref sig .tc := ⟨.hbm, 314, rfl⟩
abbrev main_call2_v8 : Ref sig .tc := ⟨.hbm, 315, rfl⟩
abbrev main_call2_v9 : Ref sig .tc := ⟨.hbm, 316, rfl⟩
abbrev main_call2_v10 : Ref sig .tc := ⟨.hbm, 317, rfl⟩
abbrev main_call2_v11 : Ref sig .tc := ⟨.hbm, 318, rfl⟩
abbrev main_call2_c_3 : Ref sig .tc := ⟨.hbm, 319, rfl⟩
abbrev main_call2_v12 : Ref sig .tc := ⟨.hbm, 320, rfl⟩
abbrev main_call2_v13 : Ref sig .tc := ⟨.hbm, 321, rfl⟩
abbrev main_call2_cst : Ref sig .tc := ⟨.hbm, 322, rfl⟩
abbrev main_call2_v14 : Ref sig .tc := ⟨.hbm, 323, rfl⟩
abbrev main_v29 : Ref sig .tc := ⟨.hbm, 324, rfl⟩
abbrev main_v30 : Ref sig .tc := ⟨.hbm, 325, rfl⟩
abbrev main_v31 : Ref sig .tc := ⟨.hbm, 326, rfl⟩
abbrev main_v32 : Ref sig .tc := ⟨.hbm, 327, rfl⟩
abbrev main_v33 : Ref sig .tc := ⟨.hbm, 328, rfl⟩

abbrev nD : Nat := 1
abbrev τ : Topo := Topo.v7x

variable {F : FTy → Type} [FloatOps F]
-- ==== Proof.Body.lean ====
/- The band kernel's body, written by structure: the same loads, stores and arithmetic as the printed body, with its
   unrolled groups as recursions over the group number. `kernel_eq` says that the printed body is this program. -/
module

public import proofs.«01_k».proof.Proof.Gen.KernelIdeal
public import Idealize.ShloMosaic.Lib.Pipeline.Regions

@[expose] public section

noncomputable section

namespace Cert.KernelIdeal.Band

open Idealize.ShloMosaic Idealize.SL.Sem
open Cert.KernelIdeal Cert.KernelIdeal.Facts₀ Cert.KernelIdeal.Facts

variable {F : FTy → Type} [FloatOps F]

/-- Programs of this kernel. -/
abbrev BodyProg (F : FTy → Type) [FloatOps F] (α : Type) := Prog (TpuEff nD τ sig (Elt F) Λ₀ .tc) α

/-! ## The values -/

/-- The blocks of eight rows and eight positions. -/
theorem inb8 {a b : ℕ} (ha : a + 8 ≤ 64) (hb : b + 8 ≤ 128) :
    ∀ d : Fin 4, (![0, a, b, 0] : Fin 4 → ℕ) d + S1x8x8x256.size d ≤ S1x64x128x256.size d
  | 0 => Nat.le_refl _
  | 1 => ha
  | 2 => hb
  | 3 => Nat.le_refl _

/-- A row of 64 is a slice. -/
theorem slices1 (j : ℕ) (hj : j < 64) : S64x256.Slices ![j, 0] S1x256 :=
  ⟨rfl, fun | 0 => hj | 1 => Nat.le_refl _⟩

/-- Eight rows of 64 are a slice. -/
theorem slices8 (a : ℕ) (ha : a + 8 ≤ 64) : S64x256.Slices ![a, 0] S8x256 :=
  ⟨rfl, fun | 0 => ha | 1 => Nat.le_refl _⟩

/-- One row of 32 is a slice. -/
theorem slices32 (j : ℕ) (hj : j < 32) : S32x8x256.Slices ![j, 0, 0] S1x8x256 :=
  ⟨rfl, fun | 0 => hj | 1 => Nat.le_refl _ | 2 => Nat.le_refl _⟩

/-- Move every position of a group up by one, the position freed taking the value carried in. -/
def shiftIn (c : FVec F S8x256 .f32) (w : FVec F S8x8x256 .f32) : FVec F S8x8x256 .f32 :=
  concatenate S8x8x256 1 [⟨S8x1x256, shapeCast S8x1x256 c shapeCasts_S8x256_S8x1x256⟩,
    ⟨S8x7x256, extractStridedSlice S8x7x256 ![0, 0, 0] w slices_S8x8x256_o0_0_0_S8x7x256⟩]
    concatenates_S8x1x256_S8x7x256_S8x8x256_d1

/-- The last position of a group. -/
def lastOf (w : FVec F S8x8x256 .f32) : FVec F S8x256 .f32 :=
  shapeCast S8x256 (extractStridedSlice S8x1x256 ![0, 7, 0] w slices_S8x8x256_o0_7_0_S8x1x256) shapeCasts_S8x1x256_S8x256

/-- One step of the running sum of a group. -/
def scanStep (th : FVec F S8x8x256 .f32) (c : FVec F S8x256 .f32) (w : FVec F S8x8x256 .f32) : FVec F S8x8x256 .f32 :=
  addf th (shiftIn c w)

/-- The running sum of a group after the value carried in. -/
def scanned (th : FVec F S8x8x256 .f32) (c : FVec F S8x256 .f32) : FVec F S8x8x256 .f32 :=
  scanStep th c (scanStep th c (scanStep th c (scanStep th c (scanStep th c (scanStep th c (scanStep th c (scanStep th c th)))))))

/-- A group of weights divided by their sum. -/
def normed (s2 : FVec F S1x1x256 .f32) (v : Vec F S1x8x8x256 .f32) : FVec F S8x8x256 .f32 :=
  divf (shapeCast S8x8x256 v shapeCasts_S1x8x8x256_S8x8x256) (broadcastTo S8x8x256 s2 broadcasts_S1x1x256_S8x8x256)

/-- The eight rows of zeros. -/
def zero8 : FVec F S8x256 .f32 := broadcast S8x256 (Scalar.ofBits .f32 0x00000000#32)

/-- The row of zeros. -/
def zero1 : FVec F S1x256 .f32 := broadcast S1x256 (Scalar.ofBits .f32 0x00000000#32)

/-- Row `j` of the 64. -/
def rowAt (S : FVec F S64x256 .f32) (j : ℕ) (hj : j < 64) : FVec F S1x256 .f32 := extractStridedSlice S1x256 ![j, 0] S (slices1 j hj)

/-- The sum of rows `0` to `j`. -/
def runTo (S : FVec F S64x256 .f32) : (j : ℕ) → j < 64 → FVec F S1x256 .f32
  | 0, h => rowAt S 0 h
  | j + 1, h => addf (runTo S j (Nat.lt_of_succ_lt h)) (rowAt S (j + 1) h)

/-- The `n` running rows from `63 - n`, the list the kernel concatenates after the row of zeros. -/
def runRows (S : FVec F S64x256 .f32) : (n : ℕ) → n ≤ 63 → List ((s : Shape) × (s.Idx → F .f32))
  | 0, _ => []
  | n + 1, h => ⟨S1x256, runTo S (62 - n) (by omega)⟩ :: runRows S n (Nat.le_of_succ_le h)

theorem runRows_shapes (S : FVec F S64x256 .f32) : ∀ n h, (runRows S n h).map Sigma.fst = List.replicate n S1x256
  | 0, _ => rfl
  | n + 1, h => by rw [runRows, List.map_cons, runRows_shapes S n, List.replicate_succ]

theorem rows64_concatenates (S : FVec F S64x256 .f32) :
    Shape.Concatenates ((⟨S1x256, zero1 (F := F)⟩ :: runRows S 63 (Nat.le_refl _) : List ((s : Shape) × (s.Idx → F .f32))).map (·.1)) S64x256 0 := by
  rw [List.map_cons, runRows_shapes]
  show Shape.Concatenates (S1x256 :: List.replicate 63 S1x256) S64x256 0
  decide

/-- The sums of the rows before each row. -/
def before64 (S : FVec F S64x256 .f32) : FVec F S64x256 .f32 :=
  concatenate S64x256 0 (⟨S1x256, zero1⟩ :: runRows S 63 (Nat.le_refl _)) (rows64_concatenates S)

/-- What the eight blocks of rows carry out, one below another. -/
def stacked (s0 s1 s2 s3 s4 s5 s6 s7 : FVec F S8x256 .f32) : FVec F S64x256 .f32 :=
  concatenate S64x256 0 [⟨S8x256, s0⟩, ⟨S8x256, s1⟩, ⟨S8x256, s2⟩, ⟨S8x256, s3⟩, ⟨S8x256, s4⟩, ⟨S8x256, s5⟩, ⟨S8x256, s6⟩, ⟨S8x256, s7⟩]
    concatenates_S8x256_S8x256_S8x256_S8x256_S8x256_S8x256_S8x256_S8x256_S64x256_d0

/-- Eight rows of the 64. -/
def rows8 (E : FVec F S64x256 .f32) (a : ℕ) (ha : a + 8 ≤ 64) : FVec F S8x256 .f32 := extractStridedSlice S8x256 ![a, 0] E (slices8 a ha)

/-- Eight rows raised by the added constant. -/
def raised (e : FVec F S8x256 .f32) : FVec F S8x256 .f32 := addf e (broadcast S8x256 (Scalar.ofBits .f32 0x3A83126F#32))

/-- The first block's value before position 0: minus one on row 0, and elsewhere the row's start raised. -/
def firstPrev (e : FVec F S8x256 .f32) : FVec F S8x256 .f32 :=
  select (cmpi .eq (iota .tc S8x256 32 [0] iota_S8x256_d0_w32) (broadcast S8x256 (0#32 : BitVec 32)))
    (broadcast S8x256 (Scalar.ofBits .f32 0xBF800000#32)) (raised e)

/-- The cumulative threshold of a group of stored running sums `v`. -/
def cumOf (e : FVec F S8x256 .f32) (v : Vec F S1x8x8x256 .f32) : FVec F S8x8x256 .f32 :=
  addf (addf (shapeCast S8x8x256 v shapeCasts_S1x8x8x256_S8x8x256)
      (broadcastTo S8x8x256 (shapeCast S8x1x256 e shapeCasts_S8x256_S8x1x256) broadcasts_S8x1x256_S8x8x256))
    (broadcast S8x8x256 (Scalar.ofBits .f32 0x3A83126F#32))

/-- Where the cumulative threshold crosses the drawn value: above it here, and not above it one position before. -/
def crossing (rv : FVec F S1x1x256 .f32) (pc : FVec F S8x256 .f32) (ct : FVec F S8x8x256 .f32) : IVec S8x8x256 1 :=
  andi (cmpf .ogt ct (broadcastTo S8x8x256 rv broadcasts_S1x1x256_S8x8x256))
    (cmpf .ole (shiftIn pc ct) (broadcastTo S8x8x256 rv broadcasts_S1x1x256_S8x8x256))

/-- The magnitudes at the crossings of a group, summed over the group's positions. -/
def picked (rv : FVec F S1x1x256 .f32) (pc : FVec F S8x256 .f32) (ct : FVec F S8x8x256 .f32) (x : Vec F S1x8x8x256 .f32) : FVec F S8x256 .f32 :=
  multiReduction .add [1] S8x256
    (select (crossing rv pc ct) (absf (shapeCast S8x8x256 x shapeCasts_S1x8x8x256_S8x8x256)) (broadcast S8x8x256 (Scalar.ofBits .f32 0x00000000#32)))
    0x00000000#32 reduces_S8x8x256_S8x256 (.inl rfl) rfl

/-- The sum of eight rows as a row. -/
def sum8 (g : FVec F S8x256 .f32) : FVec F S1x256 .f32 :=
  shapeCast S1x256 (multiReduction .add [0] S256 g 0x00000000#32 reduces_S8x256_S256 (.inl rfl) rfl) shapeCasts_S256_S1x256

/-- Row `j` of the 32 groups of eight. -/
def eighth (p : FVec F S32x8x256 .f32) (j : ℕ) (hj : j < 32) : FVec F S8x256 .f32 :=
  shapeCast S8x256 (extractStridedSlice S1x8x256 ![j, 0, 0] p (slices32 j hj)) shapeCasts_S1x8x256_S8x256

/-- The running accumulator after the first `n` groups. -/
def accTo (p : FVec F S32x8x256 .f32) (acc : FVec F S8x256 .f32) : (n : ℕ) → n ≤ 32 → FVec F S8x256 .f32
  | 0, _ => acc
  | n + 1, h => addf (accTo p acc n (Nat.le_of_succ_le h)) (eighth p n h)

/-- The weights of two rows. -/
def weights (s1 : FVec F S1x256 .f32) (x : Vec F S1x2x128x256 .f32) : FVec F S2x128x256 .f32 :=
  exp (mulf (divf (absf (shapeCast S2x128x256 x shapeCasts_S1x2x128x256_S2x128x256))
      (broadcastTo S2x128x256 (shapeCast S1x1x256 s1 shapeCasts_S1x256_S1x1x256) broadcasts_S1x1x256_S2x128x256))
    (broadcast S2x128x256 (Scalar.ofBits .f32 0x40000000#32)))

/-- The eight partial sums added together. -/
def folded (a : FVec F S8x256 .f32) : FVec F S1x1x256 .f32 :=
  have b : FVec F S4x256 .f32 := addf (extractStridedSlice S4x256 ![0, 0] a slices_S8x256_o0_0_S4x256) (extractStridedSlice S4x256 ![4, 0] a slices_S8x256_o4_0_S4x256)
  have c : FVec F S2x256 .f32 := addf (extractStridedSlice S2x256 ![0, 0] b slices_S4x256_o0_0_S2x256) (extractStridedSlice S2x256 ![2, 0] b slices_S4x256_o2_0_S2x256)
  shapeCast S1x1x256 (addf (extractStridedSlice S1x256 ![0, 0] c slices_S2x256_o0_0_S1x256) (extractStridedSlice S1x256 ![1, 0] c slices_S2x256_o1_0_S1x256)) shapeCasts_S1x256_S1x1x256

/-- The magnitudes of one row, summed over its positions and added to the sum so far. -/
def addRow (acc : FVec F S1x256 .f32) (x : Vec F S1x1x128x256 .f32) : FVec F S1x256 .f32 :=
  addf acc (shapeCast S1x256 (multiReduction .add [0] S256 (absf (shapeCast S128x256 x shapeCasts_S1x1x128x256_S128x256)) 0x00000000#32 reduces_S128x256_S256 (.inl rfl) rfl)
    shapeCasts_S256_S1x256)

/-- One row with the elements of magnitude below `g` replaced by zero. -/
def kept (g : FVec F S1x256 .f32) (x : Vec F S1x1x128x256 .f32) : Vec F S1x1x128x256 .f32 :=
  have v : FVec F S128x256 .f32 := shapeCast S128x256 x shapeCasts_S1x1x128x256_S128x256
  shapeCast S1x1x128x256 (select (cmpf .oge (absf v) (broadcastTo S128x256 g broadcasts_S1x256_S128x256)) v
    (broadcast S128x256 (Scalar.ofBits .f32 0x00000000#32))) shapeCasts_S128x256_S1x1x128x256

/-! ## The program -/

/-- Read the block of eight rows from `a` and eight positions from `b`. -/
def loadBlk (r : Memref sig .tc .vmem S1x64x128x256 .f32) (a b : ℕ) (ha : a + 8 ≤ 64) (hb : b + 8 ≤ 128) : BodyProg F (Vec F S1x8x8x256 .f32) :=
  Prog.lift (.load r (Rect.unit (s := S1x64x128x256) ![0, a, b, 0] S1x8x8x256.size (inb8 ha hb)).toLoadRect (View.loadsAt_vmem h_S1x8x8x256))

/-- Write that block. -/
def storeBlk (r : Memref sig .tc .vmem S1x64x128x256 .f32) (a b : ℕ) (ha : a + 8 ≤ 64) (hb : b + 8 ≤ 128) (v : Vec F S1x8x8x256 .f32) : BodyProg F PUnit :=
  Prog.lift (.store r (Rect.unit (s := S1x64x128x256) ![0, a, b, 0] S1x8x8x256.size (inb8 ha hb)) v Finset.univ (View.stores_vmem_bits_univ h_S1x8x8x256 rfl) (.inl rfl))

/-- The first `n` groups of eight rows: each is replaced by its running sums, and the last is carried on. -/
def scanGroups (o : Memref sig .tc .vmem S1x64x128x256 .f32) (s2 : FVec F S1x1x256 .f32) (a : ℕ) (ha : a + 8 ≤ 64) :
    (n : ℕ) → n ≤ 16 → BodyProg F (FVec F S8x256 .f32)
  | 0, _ => pure zero8
  | n + 1, h => do
    let c ← scanGroups o s2 a ha n (Nat.le_of_succ_le h)
    let v ← loadBlk o a (8 * n) ha (by omega)
    let _ ← loadBlk o a (8 * n) ha (by omega)
    storeBlk o a (8 * n) ha (by omega) (shapeCast S1x8x8x256 (scanned (normed s2 v) c) shapeCasts_S8x8x256_S1x8x8x256)
    pure (lastOf (scanned (normed s2 v) c))

/-- The first `n` groups of eight rows: the value before the next position, and the magnitudes picked so far. -/
def crossGroups (x o : Memref sig .tc .vmem S1x64x128x256 .f32) (rv : FVec F S1x1x256 .f32) (e pc : FVec F S8x256 .f32) (a : ℕ) (ha : a + 8 ≤ 64) :
    (n : ℕ) → n ≤ 16 → BodyProg F (FVec F S8x256 .f32 × FVec F S8x256 .f32)
  | 0, _ => pure (pc, zero8)
  | n + 1, h => do
    let s ← crossGroups x o rv e pc a ha n (Nat.le_of_succ_le h)
    let v ← loadBlk o a (8 * n) ha (by omega)
    let y ← loadBlk x a (8 * n) ha (by omega)
    pure (lastOf (cumOf e v), addf s.2 (picked rv s.1 (cumOf e v) y))

/-- Blocks of eight rows `0` to `k`: the magnitudes picked so far. -/
def crossBlocks (x o : Memref sig .tc .vmem S1x64x128x256 .f32) (rv : FVec F S1x1x256 .f32) (E : FVec F S64x256 .f32) :
    (k : ℕ) → k < 8 → BodyProg F (FVec F S1x256 .f32)
  | 0, _ => do
    let s ← crossGroups x o rv (rows8 E 0 (by omega)) (firstPrev (rows8 E 0 (by omega))) 0 (by omega) 16 (Nat.le_refl _)
    pure (addf zero1 (sum8 s.2))
  | k + 1, h => do
    let g ← crossBlocks x o rv E k (Nat.lt_of_succ_lt h)
    let s ← crossGroups x o rv (rows8 E (8 * (k + 1)) (by omega)) (raised (rows8 E (8 * (k + 1)) (by omega))) (8 * (k + 1)) (by omega) 16 (Nat.le_refl _)
    pure (addf g (sum8 s.2))

/-- The sum of the magnitudes, a row of 128 positions at a time. -/
def sumTrip (x : Memref sig .tc .vmem S1x64x128x256 .f32) (t : Fin k0_t1_loop.trips) (acc : FVec F S1x256 .f32) : BodyProg F (FVec F S1x256 .f32) := do
  let v : Vec F S1x1x128x256 .f32 ← Prog.lift (.load x (Rect.unit (s := S1x64x128x256) (k0_off1 t) S1x1x128x256.size (k0_off1_inb t)).toLoadRect (View.loadsAt_vmem h_S1x1x128x256))
  pure (addRow acc v)

/-- The weights, two rows at a time, written to the output's block and added to the accumulator. -/
def weightTrip (x o : Memref sig .tc .vmem S1x64x128x256 .f32) (s1 : FVec F S1x256 .f32) (t : Fin k0_t2_loop.trips) (acc : FVec F S8x256 .f32) :
    BodyProg F (FVec F S8x256 .f32) := do
  let v : Vec F S1x2x128x256 .f32 ← Prog.lift (.load x (Rect.unit (s := S1x64x128x256) (k0_off2 t) S1x2x128x256.size (k0_off2_inb t)).toLoadRect (View.loadsAt_vmem h_S1x2x128x256))
  let _ : Vec F S1x2x128x256 .f32 ← Prog.lift (.load o (Rect.unit (s := S1x64x128x256) (k0_off2 t) S1x2x128x256.size (k0_off2_inb t)).toLoadRect (View.loadsAt_vmem h_S1x2x128x256))
  Prog.lift (.store o (Rect.unit (s := S1x64x128x256) (k0_off2 t) S1x2x128x256.size (k0_off2_inb t)) (shapeCast S1x2x128x256 (weights s1 v) shapeCasts_S2x128x256_S1x2x128x256) Finset.univ (View.stores_vmem_bits_univ h_S1x2x128x256 rfl) (.inl rfl))
  pure (accTo (shapeCast S32x8x256 (weights s1 v) shapeCasts_S2x128x256_S32x8x256) acc 32 (Nat.le_refl _))

/-- The output, a row of 128 positions at a time. -/
def keepTrip (x o : Memref sig .tc .vmem S1x64x128x256 .f32) (g : FVec F S1x256 .f32) (t : Fin k0_t3_loop.trips) : BodyProg F PUnit := do
  let v : Vec F S1x1x128x256 .f32 ← Prog.lift (.load x (Rect.unit (s := S1x64x128x256) (k0_off3 t) S1x1x128x256.size (k0_off3_inb t)).toLoadRect (View.loadsAt_vmem h_S1x1x128x256))
  let _ : Vec F S1x1x128x256 .f32 ← Prog.lift (.load o (Rect.unit (s := S1x64x128x256) (k0_off3 t) S1x1x128x256.size (k0_off3_inb t)).toLoadRect (View.loadsAt_vmem h_S1x1x128x256))
  Prog.lift (.store o (Rect.unit (s := S1x64x128x256) (k0_off3 t) S1x1x128x256.size (k0_off3_inb t)) (kept g v) Finset.univ (View.stores_vmem_bits_univ h_S1x1x128x256 rfl) (.inl rfl))
  pure ⟨⟩

/-- The whole body. -/
def body (x : Memref sig .tc .vmem S1x64x128x256 .f32) (r : Memref sig .tc .vmem S1x1x256 .f32) (o : Memref sig .tc .vmem S1x64x128x256 .f32) :
    BodyProg F PUnit := do
  let v : Vec F S1x1x256 .f32 ← Prog.lift (.load r (Rect.unit (s := S1x1x256) ![0, 0, 0] S1x1x256.size inb_S1x1x256_S1x1x256_0_0_0).toLoadRect (View.loadsAt_vmem h_S1x1x256))
  let s1 ← Scf.Loop.for k0_t1_loop k0_t1_ok zero1 (sumTrip x)
  let acc ← Scf.Loop.for k0_t2_loop k0_t2_ok zero8 (weightTrip x o s1)
  let s0 ← scanGroups o (folded acc) 0 (by omega) 16 (Nat.le_refl _)
  let s1 ← scanGroups o (folded acc) 8 (by omega) 16 (Nat.le_refl _)
  let s2 ← scanGroups o (folded acc) 16 (by omega) 16 (Nat.le_refl _)
  let s3 ← scanGroups o (folded acc) 24 (by omega) 16 (Nat.le_refl _)
  let s4 ← scanGroups o (folded acc) 32 (by omega) 16 (Nat.le_refl _)
  let s5 ← scanGroups o (folded acc) 40 (by omega) 16 (Nat.le_refl _)
  let s6 ← scanGroups o (folded acc) 48 (by omega) 16 (Nat.le_refl _)
  let s7 ← scanGroups o (folded acc) 56 (by omega) 16 (Nat.le_refl _)
  let g ← crossBlocks x o (shapeCast S1x1x256 (shapeCast S1x256 v shapeCasts_S1x1x256_S1x256) shapeCasts_S1x256_S1x1x256)
    (before64 (stacked s0 s1 s2 s3 s4 s5 s6 s7)) 7 (by omega)
  Scf.Loop.for k0_t3_loop k0_t3_ok ⟨⟩ (fun t _ => keepTrip x o g t)
  pure ⟨⟩

set_option maxRecDepth 65536 in
/-- The printed body is this program. -/
theorem kernel_eq (i : grid0.Coords) (x : Memref sig .tc .vmem S1x64x128x256 .f32) (hx : x.IsWhole) (r : Memref sig .tc .vmem S1x1x256 .f32) (hr : r.IsWhole)
    (o : Memref sig .tc .vmem S1x64x128x256 .f32) (ho : o.IsWhole) :
    cc0__band_kernel (F := F) i x hx r hr o ho = body x r o := by
  unfold cc0__band_kernel k0_part186 k0_part3
  simp only [bind_assoc]
  chain_rfl

end Cert.KernelIdeal.Band

end
-- ==== Proof.Triple.lean ====
/- What the body does to the output's buffer, as a value: each part of the body runs from the three buffers' contents to
   a value and to new contents of the output's buffer, both written down as functions of what the part started from. -/
module

public import proofs.«01_k».proof.Proof.Body
public import proofs.«01_k».proof.Proof.Gen.KernelIdeal.Launch
public import Idealize.ShloMosaic.Lib.Pipeline.Frame
public import Idealize.ShloMosaic.Lib.WritesUnit

@[expose] public section

noncomputable section

namespace Cert.KernelIdeal.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts
open Cert.KernelIdeal.Gen (k0_off1_eq k0_off2_eq k0_off3_eq)

variable {F : FTy → Type} [FloatOps F]

local notation "𝕄" => MT nD τ sig Unit (Elt F) ℕ (UR sig nD τ) ℕ

/-! ## Reading and replacing a block of the buffer -/

/-- The elements of a block. -/
def cut (X : Vec F S1x64x128x256 .f32) (off size : Fin 4 → ℕ) (inb : ∀ a, off a + size a ≤ S1x64x128x256.size a) :
    Vec F (⟨4, size⟩ : Shape) .f32 :=
  fun j => X ((Rect.unit (s := S1x64x128x256) off size inb).emb j)

/-- The buffer with a block replaced. -/
def paste (O : Vec F S1x64x128x256 .f32) (off size : Fin 4 → ℕ) (inb : ∀ a, off a + size a ≤ S1x64x128x256.size a)
    (w : Vec F (⟨4, size⟩ : Shape) .f32) : Vec F S1x64x128x256 .f32 :=
  fun y => if h : ∀ a, off a ≤ (y a).val ∧ (y a).val < off a + size a then
    w (Rect.unitLocal (s := S1x64x128x256) (off := off) (size := size) y h) else O y

theorem cut_congr (X : Vec F S1x64x128x256 .f32) {off off' size : Fin 4 → ℕ} (h : off = off') (inb : ∀ a, off a + size a ≤ S1x64x128x256.size a)
    (inb' : ∀ a, off' a + size a ≤ S1x64x128x256.size a) : cut X off size inb = cut X off' size inb' := by
  subst h; rfl

theorem paste_congr (O : Vec F S1x64x128x256 .f32) {off off' size : Fin 4 → ℕ} (h : off = off') (inb : ∀ a, off a + size a ≤ S1x64x128x256.size a)
    (inb' : ∀ a, off' a + size a ≤ S1x64x128x256.size a) (w : Vec F (⟨4, size⟩ : Shape) .f32) :
    paste O off size inb w = paste O off' size inb' w := by
  subst h; rfl

/-! ## Triples -/

/-- The three buffers at their contents. -/
def held (c : Dev nD) (x : Memref sig .tc .vmem S1x64x128x256 .f32) (r : Memref sig .tc .vmem S1x1x256 .f32) (o : Memref sig .tc .vmem S1x64x128x256 .f32)
    (X : Vec F S1x64x128x256 .f32) (R : Vec F S1x1x256 .f32) (O : Vec F S1x64x128x256 .f32) : sProp 𝕄 :=
  iprop(owns (c : Thread nD τ) x fullShare X ∗ owns (c : Thread nD τ) r fullShare R ∗ owns (c : Thread nD τ) o fullShare O)

/-- `p` runs from the buffers at `X`, `R` and `O` to the value `a`, leaving the output's buffer at `O'`. -/
def Runs (x : Memref sig .tc .vmem S1x64x128x256 .f32) (r : Memref sig .tc .vmem S1x1x256 .f32) (o : Memref sig .tc .vmem S1x64x128x256 .f32)
    (X : Vec F S1x64x128x256 .f32) (R : Vec F S1x1x256 .f32) {α : Type} (O : Vec F S1x64x128x256 .f32) (p : BodyProg F α) (a : α)
    (O' : Vec F S1x64x128x256 .f32) : Prop :=
  ∀ (c : Dev nD) (E : Set ℕ) (K : α → sProp 𝕄),
    iprop(held c x r o X R O ∗ (held c x r o X R O' -∗ K a)) ⊢ wp frame (wpE (defs₀ (F := F)) Variants.none c none) E p K

section Rules

variable {x : Memref sig .tc .vmem S1x64x128x256 .f32} {r : Memref sig .tc .vmem S1x1x256 .f32} {o : Memref sig .tc .vmem S1x64x128x256 .f32}
variable {X : Vec F S1x64x128x256 .f32} {R : Vec F S1x1x256 .f32} {α β : Type}

theorem Runs.pure (O : Vec F S1x64x128x256 .f32) (a : α) : Runs x r o X R O (Pure.pure a : BodyProg F α) a O := by
  intro c E K
  rw [wp_pure]
  iintro ⟨H, Hk⟩
  imodintro
  iapply Hk; iexact H

theorem Runs.bind {O O' O'' : Vec F S1x64x128x256 .f32} {p : BodyProg F α} {f : α → BodyProg F β} {a : α} {b : β}
    (hp : Runs x r o X R O p a O') (hf : Runs x r o X R O' (f a) b O'') : Runs x r o X R O (p >>= f) b O'' := by
  intro c E K
  rw [wp_bind]
  iintro ⟨H, Hk⟩
  iapply (hp c E _)
  isplitl [H]; · iexact H
  iintro H
  iapply (hf c E K)
  isplitl [H]; · iexact H
  iexact Hk

theorem Runs.loadX (O : Vec F S1x64x128x256 .f32) {off size : Fin 4 → ℕ} {inb : ∀ a, off a + size a ≤ S1x64x128x256.size a}
    {hl : x.view.LoadsAt (Rect.unit (s := S1x64x128x256) off size inb).toLoadRect} :
    Runs x r o X R O (Prog.lift (.load x (Rect.unit (s := S1x64x128x256) off size inb).toLoadRect hl) : BodyProg F _) (cut X off size inb) O := by
  intro c E K
  unfold held owns
  iintro ⟨⟨⟨%f0, %hf0, H0⟩, H1, H2⟩, Hk⟩
  iapply (wp_load_rect Variants.none (c : Thread nD τ) none E (m := x) (r := Rect.unit (s := S1x64x128x256) off size inb) (hl := hl) (k := .ret) (S := x.view.set) (q := fullShare) (f := f0)
    (View.set_slice_subset _ _)) $$ H0
  iintro H0
  rw [wp_ret]; imodintro
  have hv : (x.access (Rect.unit (s := S1x64x128x256) off size inb)).read (Elt F) f0 = cut X off size inb := by
    subst hf0; rfl
  rw [hv]
  iapply Hk
  isplitl [H0]
  · iexists f0; isplitr; · ipureintro; exact hf0
    iexact H0
  isplitl [H1]; · iexact H1
  iexact H2

theorem Runs.loadO (O : Vec F S1x64x128x256 .f32) {off size : Fin 4 → ℕ} {inb : ∀ a, off a + size a ≤ S1x64x128x256.size a}
    {hl : o.view.LoadsAt (Rect.unit (s := S1x64x128x256) off size inb).toLoadRect} :
    Runs x r o X R O (Prog.lift (.load o (Rect.unit (s := S1x64x128x256) off size inb).toLoadRect hl) : BodyProg F _) (cut O off size inb) O := by
  intro c E K
  unfold held owns
  iintro ⟨⟨H0, H1, ⟨%f2, %hf2, H2⟩⟩, Hk⟩
  iapply (wp_load_rect Variants.none (c : Thread nD τ) none E (m := o) (r := Rect.unit (s := S1x64x128x256) off size inb) (hl := hl) (k := .ret) (S := o.view.set) (q := fullShare) (f := f2)
    (View.set_slice_subset _ _)) $$ H2
  iintro H2
  rw [wp_ret]; imodintro
  have hv : (o.access (Rect.unit (s := S1x64x128x256) off size inb)).read (Elt F) f2 = cut O off size inb := by
    subst hf2; rfl
  rw [hv]
  iapply Hk
  isplitl [H0]; · iexact H0
  isplitl [H1]; · iexact H1
  iexists f2; isplitr; · ipureintro; exact hf2
  iexact H2

theorem Runs.storeO (O : Vec F S1x64x128x256 .f32) {off size : Fin 4 → ℕ} {inb : ∀ a, off a + size a ≤ S1x64x128x256.size a}
    (w : Vec F (⟨4, size⟩ : Shape) .f32)
    {hx : (o.access (Rect.unit (s := S1x64x128x256) off size inb)).Stores Finset.univ} {hm} :
    Runs x r o X R O (Prog.lift (.store o (Rect.unit (s := S1x64x128x256) off size inb) w Finset.univ hx hm) : BodyProg F PUnit) ⟨⟩ (paste O off size inb w) := by
  intro c E K
  unfold held owns
  iintro ⟨⟨H0, H1, ⟨%f2, %hf2, H2⟩⟩, Hk⟩
  iapply (wp_store Variants.none (c : Thread nD τ) none E (m := o) (r := Rect.unit (s := S1x64x128x256) off size inb) (w := w) (hx := hx) (hm := hm) (k := .ret) (S := o.view.set) (f := f2)
    ((View.setOn_subset_set _ _).trans (View.set_slice_subset _ _))) $$ H2
  iintro H2
  rw [wp_ret]; imodintro
  iapply Hk
  isplitl [H0]; · iexact H0
  isplitl [H1]; · iexact H1
  iexists _; isplitr; swap; · iexact H2
  ipureintro
  subst hf2
  exact funext fun y => View.read_writes_cons_unit (Val := Elt F) o.view f2 inb w [] y rfl

/-- A counted loop, from what is carried and what the buffer holds before each trip. -/
theorem Runs.loop {w : ℕ} (l : Scf.Loop w) (ok : l.OK) (body : Fin l.trips → α → BodyProg F α)
    (A : (k : ℕ) → k ≤ l.trips → α) (O : (k : ℕ) → k ≤ l.trips → Vec F S1x64x128x256 .f32)
    (step : ∀ t : Fin l.trips, Runs x r o X R (O t.val t.isLt.le) (body t (A t.val t.isLt.le)) (A (t.val + 1) t.isLt) (O (t.val + 1) t.isLt)) :
    Runs x r o X R (O 0 (Nat.zero_le _)) (Scf.Loop.for l ok (A 0 (Nat.zero_le _)) body) (A l.trips (Nat.le_refl _)) (O l.trips (Nat.le_refl _)) := by
  intro c E K
  have hb : ∀ (t : Fin l.trips) (acc : α), iprop(∃ h : t.val ≤ l.trips, ⌜acc = A t.val h⌝ ∗ held c x r o X R (O t.val h))
      ⊢ wp frame (wpE (defs₀ (F := F)) Variants.none c none) E (body t acc)
          (fun acc' => iprop(∃ h : t.val + 1 ≤ l.trips, ⌜acc' = A (t.val + 1) h⌝ ∗ held c x r o X R (O (t.val + 1) h))) := by
    intro t acc
    iintro ⟨%h, %ha, H⟩
    subst ha
    iapply (step t c E _)
    isplitl [H]; · iexact H
    iintro H
    iexists t.isLt; isplitr; · ipureintro; rfl
    iexact H
  iintro ⟨H, Hk⟩
  iapply (Scf.wp_for frame (wpE (defs₀ (F := F)) Variants.none c none) E l.lb l.ub l.st ok (A 0 (Nat.zero_le _)) body
    (fun k acc => iprop(∃ h : k ≤ l.trips, ⌜acc = A k h⌝ ∗ held c x r o X R (O k h))) hb)
  isplitl [H]
  · iexists (Nat.zero_le _); isplitr; · ipureintro; rfl
    iexact H
  iintro %acc ⟨%h, %ha, H⟩
  subst ha
  iapply Hk; iexact H

end Rules

/-! ## What each part computes -/

/-- Rows from `a` are a block. -/
theorem inbR {a k : ℕ} (h : a + k ≤ 64) : ∀ d : Fin 4, (![0, a, 0, 0] : Fin 4 → ℕ) d + (![1, k, 128, 256] : Fin 4 → ℕ) d ≤ S1x64x128x256.size d
  | 0 => Nat.le_refl _
  | 1 => h
  | 2 => Nat.le_refl _
  | 3 => Nat.le_refl _

/-- Row `n` of the buffer. -/
def row (X : Vec F S1x64x128x256 .f32) (n : ℕ) (h : n + 1 ≤ 64) : Vec F S1x1x128x256 .f32 := cut X ![0, n, 0, 0] S1x1x128x256.size (inbR h)

/-- Rows `2n` and `2n + 1`. -/
def row2 (X : Vec F S1x64x128x256 .f32) (n : ℕ) (h : 2 * n + 2 ≤ 64) : Vec F S1x2x128x256 .f32 := cut X ![0, 2 * n, 0, 0] S1x2x128x256.size (inbR h)

/-- Eight rows from `a` at eight positions from `b`. -/
def cut8 (X : Vec F S1x64x128x256 .f32) (a b : ℕ) (ha : a + 8 ≤ 64) (hb : b + 8 ≤ 128) : Vec F S1x8x8x256 .f32 :=
  cut X ![0, a, b, 0] S1x8x8x256.size (inb8 ha hb)

/-- The sum of the magnitudes of the first `n` rows. -/
def sumTo (X : Vec F S1x64x128x256 .f32) : (n : ℕ) → n ≤ 64 → FVec F S1x256 .f32
  | 0, _ => zero1
  | n + 1, h => addRow (sumTo X n (Nat.le_of_succ_le h)) (row X n h)

/-- The accumulator after the weights of `2n` rows. -/
def weightAcc (X : Vec F S1x64x128x256 .f32) (s1 : FVec F S1x256 .f32) : (n : ℕ) → n ≤ 32 → FVec F S8x256 .f32
  | 0, _ => zero8
  | n + 1, h => accTo (shapeCast S32x8x256 (weights s1 (row2 X n (by omega))) shapeCasts_S2x128x256_S32x8x256)
      (weightAcc X s1 n (Nat.le_of_succ_le h)) 32 (Nat.le_refl _)

/-- The buffer after the weights of `2n` rows. -/
def weightOut (X : Vec F S1x64x128x256 .f32) (s1 : FVec F S1x256 .f32) (O : Vec F S1x64x128x256 .f32) : (n : ℕ) → n ≤ 32 → Vec F S1x64x128x256 .f32
  | 0, _ => O
  | n + 1, h => paste (weightOut X s1 O n (Nat.le_of_succ_le h)) ![0, 2 * n, 0, 0] S1x2x128x256.size (inbR (by omega))
      (shapeCast S1x2x128x256 (weights s1 (row2 X n (by omega))) shapeCasts_S2x128x256_S1x2x128x256)

/-- What is carried, and the buffer, after the first `n` groups of eight rows. -/
def scanTo (O : Vec F S1x64x128x256 .f32) (s2 : FVec F S1x1x256 .f32) (a : ℕ) (ha : a + 8 ≤ 64) :
    (n : ℕ) → n ≤ 16 → FVec F S8x256 .f32 × Vec F S1x64x128x256 .f32
  | 0, _ => (zero8, O)
  | n + 1, h =>
    (lastOf (scanned (normed s2 (cut8 (scanTo O s2 a ha n (Nat.le_of_succ_le h)).2 a (8 * n) ha (by omega))) (scanTo O s2 a ha n (Nat.le_of_succ_le h)).1),
      paste (scanTo O s2 a ha n (Nat.le_of_succ_le h)).2 ![0, a, 8 * n, 0] S1x8x8x256.size (inb8 ha (by omega))
        (shapeCast S1x8x8x256 (scanned (normed s2 (cut8 (scanTo O s2 a ha n (Nat.le_of_succ_le h)).2 a (8 * n) ha (by omega)))
          (scanTo O s2 a ha n (Nat.le_of_succ_le h)).1) shapeCasts_S8x8x256_S1x8x8x256))

/-- The buffer after the first `k` blocks of eight rows. -/
def scanBlocks (O : Vec F S1x64x128x256 .f32) (s2 : FVec F S1x1x256 .f32) : (k : ℕ) → k ≤ 8 → Vec F S1x64x128x256 .f32
  | 0, _ => O
  | k + 1, h => (scanTo (scanBlocks O s2 k (Nat.le_of_succ_le h)) s2 (8 * k) (by omega) 16 (Nat.le_refl _)).2

/-- What block `k` of eight rows carries out. -/
def carried (O : Vec F S1x64x128x256 .f32) (s2 : FVec F S1x1x256 .f32) (k : ℕ) (h : k < 8) : FVec F S8x256 .f32 :=
  (scanTo (scanBlocks O s2 k h.le) s2 (8 * k) (by omega) 16 (Nat.le_refl _)).1

/-- The sums of the rows before each row, of what the blocks carry out. -/
def starts (O : Vec F S1x64x128x256 .f32) (s2 : FVec F S1x1x256 .f32) : FVec F S64x256 .f32 :=
  before64 (stacked (carried O s2 0 (by omega)) (carried O s2 1 (by omega)) (carried O s2 2 (by omega)) (carried O s2 3 (by omega))
    (carried O s2 4 (by omega)) (carried O s2 5 (by omega)) (carried O s2 6 (by omega)) (carried O s2 7 (by omega)))

/-- The value before the next position, and the magnitudes picked, after the first `n` groups of eight rows. -/
def crossTo (X O : Vec F S1x64x128x256 .f32) (rv : FVec F S1x1x256 .f32) (e pc : FVec F S8x256 .f32) (a : ℕ) (ha : a + 8 ≤ 64) :
    (n : ℕ) → n ≤ 16 → FVec F S8x256 .f32 × FVec F S8x256 .f32
  | 0, _ => (pc, zero8)
  | n + 1, h =>
    (lastOf (cumOf e (cut8 O a (8 * n) ha (by omega))),
      addf (crossTo X O rv e pc a ha n (Nat.le_of_succ_le h)).2
        (picked rv (crossTo X O rv e pc a ha n (Nat.le_of_succ_le h)).1 (cumOf e (cut8 O a (8 * n) ha (by omega))) (cut8 X a (8 * n) ha (by omega))))

/-- The magnitudes picked in blocks `0` to `k` of eight rows. -/
def crossAll (X O : Vec F S1x64x128x256 .f32) (rv : FVec F S1x1x256 .f32) (E : FVec F S64x256 .f32) : (k : ℕ) → k < 8 → FVec F S1x256 .f32
  | 0, _ => addf zero1 (sum8 (crossTo X O rv (rows8 E 0 (by omega)) (firstPrev (rows8 E 0 (by omega))) 0 (by omega) 16 (Nat.le_refl _)).2)
  | k + 1, h => addf (crossAll X O rv E k (Nat.lt_of_succ_lt h))
      (sum8 (crossTo X O rv (rows8 E (8 * (k + 1)) (by omega)) (raised (rows8 E (8 * (k + 1)) (by omega))) (8 * (k + 1)) (by omega) 16 (Nat.le_refl _)).2)

/-- The buffer after the first `n` rows of the output. -/
def keptOut (X : Vec F S1x64x128x256 .f32) (g : FVec F S1x256 .f32) (O : Vec F S1x64x128x256 .f32) : (n : ℕ) → n ≤ 64 → Vec F S1x64x128x256 .f32
  | 0, _ => O
  | n + 1, h => paste (keptOut X g O n (Nat.le_of_succ_le h)) ![0, n, 0, 0] S1x1x128x256.size (inbR h) (kept g (row X n h))

/-- The sum of the magnitudes. -/
def total (X : Vec F S1x64x128x256 .f32) : FVec F S1x256 .f32 := sumTo X 64 (Nat.le_refl _)

/-- The sum of the weights. -/
def weightSum (X : Vec F S1x64x128x256 .f32) : FVec F S1x1x256 .f32 := folded (weightAcc X (total X) 32 (Nat.le_refl _))

/-- The drawn value, as the crossings read it. -/
def drawnRow (R : Vec F S1x1x256 .f32) : FVec F S1x1x256 .f32 :=
  shapeCast S1x1x256 (shapeCast S1x256 R shapeCasts_S1x1x256_S1x256) shapeCasts_S1x256_S1x1x256

/-- The magnitude at the crossing, from the buffer of weights `W`. -/
def gatheredFrom (X : Vec F S1x64x128x256 .f32) (R : Vec F S1x1x256 .f32) (W : Vec F S1x64x128x256 .f32) : FVec F S1x256 .f32 :=
  crossAll X (scanBlocks W (weightSum X) 8 (Nat.le_refl _)) (drawnRow R) (starts W (weightSum X)) 7 (by omega)

/-! ## The parts run so -/

section Parts

variable {x : Memref sig .tc .vmem S1x64x128x256 .f32} {r : Memref sig .tc .vmem S1x1x256 .f32} {o : Memref sig .tc .vmem S1x64x128x256 .f32}
variable {X : Vec F S1x64x128x256 .f32} {R : Vec F S1x1x256 .f32}

theorem runs_sum (O : Vec F S1x64x128x256 .f32) :
    Runs x r o X R O (Scf.Loop.for k0_t1_loop k0_t1_ok zero1 (sumTrip x)) (total X) O := by
  refine Runs.loop k0_t1_loop k0_t1_ok (sumTrip x) (fun k h => sumTo X k h) (fun _ _ => O) fun t => ?_
  refine Runs.bind (Runs.loadX O) ?_
  rw [cut_congr X (k0_off1_eq t) _ (inbR (a := t.val) (k := 1) t.isLt)]
  exact Runs.pure O _

theorem runs_weight (s1 : FVec F S1x256 .f32) (O : Vec F S1x64x128x256 .f32) :
    Runs x r o X R O (Scf.Loop.for k0_t2_loop k0_t2_ok zero8 (weightTrip x o s1)) (weightAcc X s1 32 (Nat.le_refl _)) (weightOut X s1 O 32 (Nat.le_refl _)) := by
  refine Runs.loop k0_t2_loop k0_t2_ok (weightTrip x o s1) (fun k h => weightAcc X s1 k h) (fun k h => weightOut X s1 O k h) fun t => ?_
  have ht : 2 * t.val + 2 ≤ 64 := by have : t.val < 32 := t.isLt; omega
  refine Runs.bind (Runs.loadX _) (Runs.bind (Runs.loadO _) (Runs.bind (Runs.storeO _ _) ?_))
  rw [cut_congr X (k0_off2_eq t) _ (inbR (a := 2 * t.val) (k := 2) ht), paste_congr _ (k0_off2_eq t) _ (inbR (a := 2 * t.val) (k := 2) ht)]
  exact Runs.pure _ _

theorem runs_scan (s2 : FVec F S1x1x256 .f32) (a : ℕ) (ha : a + 8 ≤ 64) (O : Vec F S1x64x128x256 .f32) :
    ∀ n h, Runs x r o X R O (scanGroups o s2 a ha n h) (scanTo O s2 a ha n h).1 (scanTo O s2 a ha n h).2
  | 0, _ => Runs.pure O _
  | n + 1, h => Runs.bind (runs_scan s2 a ha O n _) (Runs.bind (Runs.loadO _) (Runs.bind (Runs.loadO _) (Runs.bind (Runs.storeO _ _) (Runs.pure _ _))))

theorem runs_crossTo (rv : FVec F S1x1x256 .f32) (e pc : FVec F S8x256 .f32) (a : ℕ) (ha : a + 8 ≤ 64) (O : Vec F S1x64x128x256 .f32) :
    ∀ n h, Runs x r o X R O (crossGroups x o rv e pc a ha n h) (crossTo X O rv e pc a ha n h) O
  | 0, _ => Runs.pure O _
  | n + 1, h => Runs.bind (runs_crossTo rv e pc a ha O n _) (Runs.bind (Runs.loadO _) (Runs.bind (Runs.loadX _) (Runs.pure _ _)))

attribute [local irreducible] crossTo crossGroups scanTo scanGroups

theorem runs_crossAll (rv : FVec F S1x1x256 .f32) (E : FVec F S64x256 .f32) (O : Vec F S1x64x128x256 .f32) :
    ∀ k h, Runs x r o X R O (crossBlocks x o rv E k h) (crossAll X O rv E k h) O := by
  intro k
  induction k with
  | zero =>
    intro h
    rw [crossBlocks, crossAll]
    exact Runs.bind (runs_crossTo rv (rows8 E 0 (by omega)) (firstPrev (rows8 E 0 (by omega))) 0 (by omega) O 16 (Nat.le_refl _)) (Runs.pure O _)
  | succ k ih =>
    intro h
    rw [crossBlocks, crossAll]
    exact Runs.bind (ih (Nat.lt_of_succ_lt h)) (Runs.bind (runs_crossTo rv (rows8 E (8 * (k + 1)) (by omega)) (raised (rows8 E (8 * (k + 1)) (by omega)))
      (8 * (k + 1)) (by omega) O 16 (Nat.le_refl _)) (Runs.pure O _))

theorem runs_keep (g : FVec F S1x256 .f32) (O : Vec F S1x64x128x256 .f32) :
    Runs x r o X R O (Scf.Loop.for k0_t3_loop k0_t3_ok (⟨⟩ : PUnit) (fun t _ => keepTrip x o g t)) ⟨⟩ (keptOut X g O 64 (Nat.le_refl _)) := by
  refine Runs.loop k0_t3_loop k0_t3_ok (fun t (_ : PUnit) => keepTrip x o g t) (fun _ _ => ⟨⟩) (fun k h => keptOut X g O k h) fun t => ?_
  refine Runs.bind (Runs.loadX _) (Runs.bind (Runs.loadO _) (Runs.bind (Runs.storeO _ _) ?_))
  rw [cut_congr X (k0_off3_eq t) _ (inbR (a := t.val) (k := 1) t.isLt), paste_congr _ (k0_off3_eq t) _ (inbR (a := t.val) (k := 1) t.isLt)]
  exact Runs.pure _ _

theorem runs_drawn (O : Vec F S1x64x128x256 .f32) {hl : r.view.LoadsAt (Rect.unit (s := S1x1x256) ![0, 0, 0] S1x1x256.size inb_S1x1x256_S1x1x256_0_0_0).toLoadRect} :
    Runs x r o X R O (Prog.lift (.load r (Rect.unit (s := S1x1x256) ![0, 0, 0] S1x1x256.size inb_S1x1x256_S1x1x256_0_0_0).toLoadRect hl) : BodyProg F _) R O := by
  intro c E K
  unfold held owns
  iintro ⟨⟨H0, ⟨%f1, %hf1, H1⟩, H2⟩, Hk⟩
  iapply (wp_load_rect Variants.none (c : Thread nD τ) none E (m := r)
    (r := Rect.unit (s := S1x1x256) ![0, 0, 0] S1x1x256.size inb_S1x1x256_S1x1x256_0_0_0) (hl := hl) (k := .ret) (S := r.view.set)
    (q := fullShare) (f := f1) (View.set_slice_subset _ _)) $$ H1
  iintro H1
  rw [wp_ret]; imodintro
  have hv : (r.access (Rect.unit (s := S1x1x256) ![0, 0, 0] S1x1x256.size inb_S1x1x256_S1x1x256_0_0_0)).read (Elt F) f1 = R := by
    subst hf1
    refine funext fun j => congrArg (r.view.read (Elt F) f1) (funext fun d => Fin.ext ?_)
    show (![0, 0, 0] : Fin 3 → ℕ) d + 1 * (j d).val = (j d).val
    match d with
    | 0 => simp
    | 1 => simp
    | 2 => simp
  rw [hv]
  iapply Hk
  isplitl [H0]; · iexact H0
  isplitl [H1]
  · iexists f1; isplitr; · ipureintro; exact hf1
    iexact H1
  iexact H2

theorem runs_body (O : Vec F S1x64x128x256 .f32) :
    Runs x r o X R O (body x r o) ⟨⟩
      (keptOut X (gatheredFrom X R (weightOut X (total X) O 32 (Nat.le_refl _)))
        (scanBlocks (weightOut X (total X) O 32 (Nat.le_refl _)) (weightSum X) 8 (Nat.le_refl _)) 64 (Nat.le_refl _)) :=
  Runs.bind (runs_drawn O) <| Runs.bind (runs_sum O) <| Runs.bind (runs_weight _ O) <|
  Runs.bind (runs_scan _ _ _ _ _ _) <| Runs.bind (runs_scan _ _ _ _ _ _) <| Runs.bind (runs_scan _ _ _ _ _ _) <| Runs.bind (runs_scan _ _ _ _ _ _) <|
  Runs.bind (runs_scan _ _ _ _ _ _) <| Runs.bind (runs_scan _ _ _ _ _ _) <| Runs.bind (runs_scan _ _ _ _ _ _) <| Runs.bind (runs_scan _ _ _ _ _ _) <|
  Runs.bind (runs_crossAll _ _ _ _ _) <| Runs.bind (runs_keep _ _) (Runs.pure _ _)

end Parts

/-! ## The result does not depend on what the buffer held -/

theorem paste_of_mem (O : Vec F S1x64x128x256 .f32) {off size : Fin 4 → ℕ} (inb : ∀ a, off a + size a ≤ S1x64x128x256.size a)
    (w : Vec F (⟨4, size⟩ : Shape) .f32) (y : S1x64x128x256.Idx) (h : ∀ a, off a ≤ (y a).val ∧ (y a).val < off a + size a) :
    paste O off size inb w y = w (Rect.unitLocal (s := S1x64x128x256) (off := off) (size := size) y h) := dif_pos h

theorem paste_of_not_mem (O : Vec F S1x64x128x256 .f32) {off size : Fin 4 → ℕ} (inb : ∀ a, off a + size a ≤ S1x64x128x256.size a)
    (w : Vec F (⟨4, size⟩ : Shape) .f32) (y : S1x64x128x256.Idx) (h : ¬ ∀ a, off a ≤ (y a).val ∧ (y a).val < off a + size a) :
    paste O off size inb w y = O y := dif_neg h

/-- Lying in rows `a` to `a + k` is lying in their block. -/
theorem mem_rows {a k : ℕ} (y : S1x64x128x256.Idx) (h : a ≤ (y 1).val ∧ (y 1).val < a + k) :
    ∀ d : Fin 4, (![0, a, 0, 0] : Fin 4 → ℕ) d ≤ (y d).val ∧ (y d).val < (![0, a, 0, 0] : Fin 4 → ℕ) d + (![1, k, 128, 256] : Fin 4 → ℕ) d
  | 0 => ⟨Nat.zero_le _, by simpa using (y 0).isLt⟩
  | 1 => h
  | 2 => ⟨Nat.zero_le _, by simpa using (y 2).isLt⟩
  | 3 => ⟨Nat.zero_le _, by simpa using (y 3).isLt⟩

theorem weightOut_eq (X : Vec F S1x64x128x256 .f32) (s1 : FVec F S1x256 .f32) (O O' : Vec F S1x64x128x256 .f32) (y : S1x64x128x256.Idx) :
    ∀ n h, (y 1).val < 2 * n → weightOut X s1 O n h y = weightOut X s1 O' n h y
  | 0, _, hy => absurd hy (by omega)
  | n + 1, h, hy => by
    unfold weightOut
    by_cases hm : ∀ d : Fin 4, (![0, 2 * n, 0, 0] : Fin 4 → ℕ) d ≤ (y d).val ∧ (y d).val < (![0, 2 * n, 0, 0] : Fin 4 → ℕ) d + S1x2x128x256.size d
    · rw [paste_of_mem _ _ _ y hm, paste_of_mem _ _ _ y hm]
    · rw [paste_of_not_mem _ _ _ y hm, paste_of_not_mem _ _ _ y hm]
      refine weightOut_eq X s1 O O' y n _ ?_
      by_contra hc
      exact hm (mem_rows y ⟨by omega, by omega⟩)

theorem keptOut_eq (X : Vec F S1x64x128x256 .f32) (g : FVec F S1x256 .f32) (O O' : Vec F S1x64x128x256 .f32) (y : S1x64x128x256.Idx) :
    ∀ n h, (y 1).val < n → keptOut X g O n h y = keptOut X g O' n h y
  | 0, _, hy => absurd hy (by omega)
  | n + 1, h, hy => by
    unfold keptOut
    by_cases hm : ∀ d : Fin 4, (![0, n, 0, 0] : Fin 4 → ℕ) d ≤ (y d).val ∧ (y d).val < (![0, n, 0, 0] : Fin 4 → ℕ) d + S1x1x128x256.size d
    · rw [paste_of_mem _ _ _ y hm, paste_of_mem _ _ _ y hm]
    · rw [paste_of_not_mem _ _ _ y hm, paste_of_not_mem _ _ _ y hm]
      refine keptOut_eq X g O O' y n _ ?_
      by_contra hc
      exact hm (mem_rows y ⟨by omega, by omega⟩)

/-- The weights of the whole block. -/
def weighted (X : Vec F S1x64x128x256 .f32) : Vec F S1x64x128x256 .f32 := weightOut X (total X) X 32 (Nat.le_refl _)

/-- The magnitude at the crossing. -/
def gathered (X : Vec F S1x64x128x256 .f32) (R : Vec F S1x1x256 .f32) : FVec F S1x256 .f32 := gatheredFrom X R (weighted X)

/-- What the body leaves in the output's buffer. -/
def bandOut (X : Vec F S1x64x128x256 .f32) (R : Vec F S1x1x256 .f32) : Vec F S1x64x128x256 .f32 :=
  keptOut X (gathered X R) X 64 (Nat.le_refl _)

theorem runs_band {x : Memref sig .tc .vmem S1x64x128x256 .f32} {r : Memref sig .tc .vmem S1x1x256 .f32} {o : Memref sig .tc .vmem S1x64x128x256 .f32}
    (X : Vec F S1x64x128x256 .f32) (R : Vec F S1x1x256 .f32) (O : Vec F S1x64x128x256 .f32) : Runs x r o X R O (body x r o) ⟨⟩ (bandOut X R) := by
  have h := runs_body (x := x) (r := r) (o := o) (X := X) (R := R) O
  rw [show weightOut X (total X) O 32 (Nat.le_refl _) = weighted X from funext fun y => weightOut_eq X _ O X y 32 _ (y 1).isLt] at h
  rw [show bandOut X R = keptOut X (gatheredFrom X R (weighted X)) (scanBlocks (weighted X) (weightSum X) 8 (Nat.le_refl _)) 64 (Nat.le_refl _) from
    funext fun y => keptOut_eq X _ _ _ y 64 _ (y 1).isLt]
  exact h

end Cert.KernelIdeal.Band

end
-- ==== Proof.Run.lean ====
/- The kernel's run: the pipeline's proof data, whose output window holds `bandOut` of the two input blocks after each
   grid point, the body's obligation at a point, and the run of the whole program. -/
module

public import proofs.«01_k».proof.Proof.Triple
public import proofs.«01_k».proof.Proof.Gen.KernelIdeal.Frame
public import proofs.«01_k».proof.Proof.Gen.KernelIdeal.Points
public import Idealize.ShloMosaic.Lib.Pipeline.FrameSuffix
public import Idealize.ShloMosaic.Lib.Claim

@[expose] public section

noncomputable section

namespace Cert.KernelIdeal.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the body at a point, each input's buffer holds its block and the output's holds the band computed from them. -/
def bandDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => bandOut (F := F) (iblk m c 0 t) (iblk m c 1 t)
  Φ _ := Pipeline.ΦA spec0 c
  q _ := fullShare
  owed _ := 0

theorem bandDats_A (c : Dev nD) (w : Fin cfg0.W) : (bandDats m 0 c).A w = V m c (Pipeline.arrRef spec0 w) := by dsimp only [bandDats]
theorem bandDats_after0 (c : Dev nD) (t : Fin cfg0.N) : (bandDats m 0 c).after 0 t = iblk m c 0 t := by dsimp only [bandDats]
theorem bandDats_after1 (c : Dev nD) (t : Fin cfg0.N) : (bandDats m 0 c).after 1 t = iblk m c 1 t := by dsimp only [bandDats]
theorem bandDats_after2 (c : Dev nD) (t : Fin cfg0.N) :
    (bandDats m 0 c).after 2 t = bandOut (F := F) (iblk m c 0 t) (iblk m c 1 t) := by dsimp only [bandDats]

theorem bandDats_before0 (c : Dev nD) (t : Fin cfg0.N) (d) : (bandDats m 0 c).before 0 t d = iblk m c 0 t :=
  before0_0_of m (bandDats m 0 c) (bandDats_A m c 0) (bandDats_after0 m c) t d
theorem bandDats_before1 (c : Dev nD) (t : Fin cfg0.N) (d) : (bandDats m 0 c).before 1 t d = iblk m c 1 t :=
  before0_1_of m (bandDats m 0 c) (bandDats_A m c 1) (bandDats_after1 m c) t d

/-- The three staging buffers at a point. -/
abbrev stage0 (t : Fin cfg0.N) : Memref sig .tc .vmem S1x64x128x256 .f32 := win0_0.stage (cfg0.slots t 0)
abbrev stage1 (t : Fin cfg0.N) : Memref sig .tc .vmem S1x1x256 .f32 := win0_1.stage (cfg0.slots t 1)
abbrev stage2 (t : Fin cfg0.N) : Memref sig .tc .vmem S1x64x128x256 .f32 := win0_2.stage (cfg0.slots t 2)

/-- What the body is called with at a point, -/
def pointPre (c : Dev nD) (t : Fin cfg0.N) : sProp 𝕄 :=
  iprop((bandDats m 0 c).Φ t.castSucc ∗ (bandDats m 0 c).owesAt () t.castSucc
    ∗ (∃ d, owns (c : Thread nD τ) (stage0 t) fullShare ((bandDats m 0 c).before 0 t d))
    ∗ (∃ d, owns (c : Thread nD τ) (stage1 t) fullShare ((bandDats m 0 c).before 1 t d))
    ∗ (∃ d, owns (c : Thread nD τ) (stage2 t) fullShare ((bandDats m 0 c).before 2 t d)))

/-- and what it returns. -/
def pointPost (c : Dev nD) (t : Fin cfg0.N) : sProp 𝕄 :=
  iprop((bandDats m 0 c).Φ t.succ ∗ (bandDats m 0 c).owesAt () t.succ
    ∗ owns (c : Thread nD τ) (stage0 t) fullShare ((bandDats m 0 c).after 0 t)
    ∗ owns (c : Thread nD τ) (stage1 t) fullShare ((bandDats m 0 c).after 1 t)
    ∗ owns (c : Thread nD τ) (stage2 t) fullShare ((bandDats m 0 c).after 2 t))

theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [bandDats_before0, bandDats_before1]
  rw [show (bandDats m 0 c).Φ t.succ = (bandDats m 0 c).Φ t.castSucc from rfl,
    show (bandDats m 0 c).owesAt () t.succ = (bandDats m 0 c).owesAt () t.castSucc from rfl,
    bandDats_after0, bandDats_after1, bandDats_after2, kernel_eq]
  iintro ⟨HΦ, Ho, ⟨%d0, H0⟩, ⟨%d1, H1⟩, ⟨%d2, H2⟩⟩
  iapply (runs_band (F := F) (x := stage0 t) (r := stage1 t) (o := stage2 t) (iblk m c 0 t) (iblk m c 1 t) ((bandDats m 0 c).before 2 t d2) c Set.univ _)
  unfold held
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]; · iexact H0
  isplitl [H1]; · iexact H1
  iexact H2

theorem table_row (t : Fin cfg0.N) : defs₀ (F := F) .tc cfg0.body (cfg0.bodyArgs t (cfg0.slots t)) = bodyAt0 t := by
  unfold defs₀; rw [Defs.onTc_tc]

theorem point_obligation (c : Dev nD) : BodyObligation (bandDats (F := F) m 0 c) (defs₀ (F := F)) Variants.none () Set.univ := fun t => by
  rw [bigSep_W0, bigSep_W0, table_row]
  exact triple_restated (point_sound m c t) rfl .rfl fun _ => .rfl

set_option backward.isDefEq.respectTransparency.types false in
set_option maxHeartbeats 800000 in
/-- The run of the whole program: every array and every buffer outside the region at what it ends with, and every
    semaphore counter at zero. -/
theorem band_run : θ_run defs (onTc (τ := τ) (main (F := F))) (s₀ m ρ)
    (fun r => Pipeline.FramePost cfgs (bandDats m) 0 (Pipeline.afterTail₀ cfgs (bandDats m) 0 (V0 m) [hostOps1]) r ∧ r.2.sem = fun _ => 0) :=
  Pipeline.θ_run_frame_around (Q' := _) cfgs (bandDats m) (0 : Fin 1) launch0 defs₀ Variants.none m ρ main
    (hbody := fun c => (point_obligation m c).loose) (hshare := fun c => (bandDats m 0 c).share_full fun _ => rfl)
    (howed := fun _ _ => rfl) (V₀ := V0 m) (opss := [hostOps1]) (hsub := sfx_sub) (hfresh := sfx_fresh) (hkeep := sfx_keeps)
    (hmain := hmain m Variants.none) (hA := bandDats_A m) (hΦ := fun _ _ => rfl)

/-- The program ends with its argument as it was, and every semaphore counter at zero. -/
theorem band_frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (bandDats m) (bandDats_A m) ((θ_run defs _ _).mono (fun _ h => h.1) (band_run m ρ)))
    ((θ_run defs _ _).mono (fun _ h => h.2) (band_run m ρ))

end Cert.KernelIdeal.Band

end
-- ==== Proof.Column.lean ====
/- One column of the problem, over the extended reals: magnitudes `a` at 8192 positions and a drawn value `v`.
   The kernel sums the magnitudes at the positions where the cumulative threshold crosses `v`; the reference counts the
   positions whose cumulative threshold is at most `v` and reads the magnitude there. `select_eq` says that the two
   select the same elements. -/
module

public import Idealize.ShloMosaic.Lib.IdealHost

@[expose] public section

noncomputable section

namespace Cert.Column

open Idealize.ShloMosaic

/-! ## The constants -/

/-- Two, the exponent's factor. -/
def two : EReal := Ideal.ofBits .f32 0x40000000#32
/-- The added constant. -/
def lift : EReal := Ideal.ofBits .f32 0x3A83126F#32
/-- Minus one, below every drawn value. -/
def low : EReal := Ideal.ofBits .f32 0xBF800000#32

theorem two_eq : two = ((2 : ℝ) : EReal) := by
  unfold two; simp [Ideal.ofBits, Ideal.ieee, -EReal.coe_mul]; norm_num

theorem low_eq : low = ((-1 : ℝ) : EReal) := by
  unfold low; simp [Ideal.ofBits, Ideal.ieee, -EReal.coe_mul]; norm_num

theorem lift_eq : ∃ q : ℝ, lift = (q : EReal) ∧ 0 < q := by
  refine ⟨8589935 / 8589934592, ?_, by norm_num⟩
  unfold lift; simp [Ideal.ofBits, Ideal.ieee, -EReal.coe_mul]; norm_num

theorem zero_eq : Ideal.ofBits .f32 0x00000000#32 = 0 := by
  simp [Ideal.ofBits, Ideal.ieee, -EReal.coe_mul]

/-! ## The column -/

/-- The sum of the magnitudes. -/
def total (a : ℕ → EReal) : EReal := ∑ i ∈ Finset.range 8192, a i
/-- The weight of a position. -/
def weight (a : ℕ → EReal) (i : ℕ) : EReal := Ideal.exp (Ideal.div (a i) (total a) * two)
/-- The sum of the weights. -/
def weightSum (a : ℕ → EReal) : EReal := ∑ i ∈ Finset.range 8192, weight a i
/-- The share of a position. -/
def share (a : ℕ → EReal) (i : ℕ) : EReal := Ideal.div (weight a i) (weightSum a)
/-- The cumulative threshold at a position. -/
def cum (a : ℕ → EReal) (i : ℕ) : EReal := (∑ j ∈ Finset.range (i + 1), share a j) + lift
/-- The value before a position: minus one before the first, and the cumulative threshold one position back elsewhere. -/
def before (a : ℕ → EReal) (i : ℕ) : EReal := if i = 0 then low else (∑ j ∈ Finset.range i, share a j) + lift
/-- The magnitudes at the crossings. -/
def crossed (a : ℕ → EReal) (v : EReal) : EReal :=
  ∑ i ∈ Finset.range 8192, if v < cum a i ∧ before a i ≤ v then a i else 0
/-- The number of positions whose cumulative threshold is at most the drawn value. -/
def count (a : ℕ → EReal) (v : EReal) : ℕ := ((Finset.range 8192).filter fun i => cum a i ≤ v).card
/-- The magnitude at that position, and the least value when there is none. -/
def counted (a : ℕ → EReal) (v : EReal) : EReal := if count a v < 8192 then a (count a v) else ⊥

theorem before_succ (a : ℕ → EReal) (i : ℕ) : before a (i + 1) = cum a i := if_neg (Nat.succ_ne_zero i)

/-- Over thresholds that never fall and end above the drawn value there is exactly one crossing, at the count. -/
theorem crossed_eq (a : ℕ → EReal) (v : EReal) (mono : ∀ i j, i ≤ j → j < 8192 → cum a i ≤ cum a j) (hlow : low ≤ v)
    (hv : v < cum a 8191) : count a v < 8192 ∧ crossed a v = a (count a v) := by
  classical
  have hex : ∃ j, v < cum a j := ⟨8191, hv⟩
  obtain ⟨j, hj, hmin⟩ : ∃ j, v < cum a j ∧ ∀ i < j, cum a i ≤ v :=
    ⟨Nat.find hex, Nat.find_spec hex, fun i hi => not_lt.mp (Nat.find_min hex hi)⟩
  have hlt : j < 8192 := by
    by_contra hc
    exact absurd (hmin 8191 (by omega)) (not_le.mpr hv)
  have hf : ((Finset.range 8192).filter fun i => cum a i ≤ v) = Finset.range j := by
    ext i
    simp only [Finset.mem_filter, Finset.mem_range]
    refine ⟨fun ⟨h1, h2⟩ => ?_, fun h => ⟨by omega, hmin i h⟩⟩
    by_contra hc
    exact absurd ((hj.trans_le (mono j i (by omega) h1))) (not_lt.mpr h2)
  have hc : count a v = j := by unfold count; rw [hf, Finset.card_range]
  refine ⟨hc ▸ hlt, ?_⟩
  rw [hc]
  unfold crossed
  rw [Finset.sum_eq_single j]
  · rw [if_pos]
    refine ⟨hj, ?_⟩
    cases j with
    | zero => rw [show before a 0 = low from if_pos rfl]; exact hlow
    | succ j => rw [before_succ]; exact hmin j (Nat.lt_succ_self j)
  · intro i hi hne
    refine if_neg fun ⟨h1, h2⟩ => ?_
    rcases Nat.lt_or_ge i j with h | h
    · exact absurd h1 (not_lt.mpr (hmin i h))
    · obtain ⟨k, rfl⟩ : ∃ k, i = k + 1 := ⟨i - 1, by omega⟩
      rw [before_succ] at h2
      exact absurd (hj.trans_le (mono j k (by omega) (by have := Finset.mem_range.mp hi; omega))) (not_lt.mpr h2)
  · intro h; exact absurd (Finset.mem_range.mpr hlt) h

/-- Weights that are positive reals make thresholds that never fall and end at one and the added constant. -/
theorem cum_of_weights (a : ℕ → EReal) (w : ℕ → ℝ) (hw : ∀ i < 8192, weight a i = (w i : EReal)) (hpos : ∀ i < 8192, 0 < w i) :
    (∀ i j, i ≤ j → j < 8192 → cum a i ≤ cum a j) ∧ cum a 8191 = 1 + lift := by
  have coeSum : ∀ (n : ℕ) (f : ℕ → EReal) (g : ℕ → ℝ), (∀ i < n, f i = (g i : EReal)) →
      ∑ i ∈ Finset.range n, f i = ((∑ i ∈ Finset.range n, g i : ℝ) : EReal) := by
    intro n f g h
    induction n with
    | zero => simp
    | succ n ih => rw [Finset.sum_range_succ, Finset.sum_range_succ, ih fun i hi => h i (by omega), h n (Nat.lt_succ_self n), EReal.coe_add]
  obtain ⟨q, hq, -⟩ := lift_eq
  have hW : weightSum a = ((∑ i ∈ Finset.range 8192, w i : ℝ) : EReal) := coeSum 8192 _ _ hw
  have hWpos : 0 < ∑ i ∈ Finset.range 8192, w i :=
    Finset.sum_pos (fun i hi => hpos i (Finset.mem_range.mp hi)) ⟨0, by simp⟩
  have hs : ∀ i < 8192, share a i = ((w i / ∑ i ∈ Finset.range 8192, w i : ℝ) : EReal) := by
    intro i hi
    unfold share
    rw [hW, Ideal.div_coe hWpos.ne', hw i hi, ← EReal.coe_mul, mul_one_div]
  have hc : ∀ i < 8192, cum a i = (((∑ j ∈ Finset.range (i + 1), w j / ∑ i ∈ Finset.range 8192, w i) + q : ℝ) : EReal) := by
    intro i hi
    unfold cum
    rw [coeSum (i + 1) _ _ fun j hj => hs j (by omega), hq, EReal.coe_add]
  refine ⟨fun i j hij hj => ?_, ?_⟩
  · rw [hc i (by omega), hc j hj]
    refine EReal.coe_le_coe_iff.mpr (add_le_add (Finset.sum_le_sum_of_subset_of_nonneg (Finset.range_mono (by omega)) fun k hk _ => ?_) (le_refl q))
    exact (div_pos (hpos k (by have := Finset.mem_range.mp hk; omega)) hWpos).le
  · have h1 : ∑ j ∈ Finset.range (8191 + 1), w j / ∑ i ∈ Finset.range 8192, w i = 1 := by
      simp only [Nat.reduceAdd]
      rw [← Finset.sum_div]
      exact div_self hWpos.ne'
    rw [hc 8191 (by omega), h1, hq, EReal.coe_add, EReal.coe_one]

/-- A column whose magnitudes do not all vanish has weights that are positive reals. -/
theorem weights_real (a : ℕ → EReal) (h0 : ∀ i, 0 ≤ a i) (ht : total a ≠ 0) :
    ∃ w : ℕ → ℝ, (∀ i < 8192, weight a i = (w i : EReal)) ∧ ∀ i < 8192, 0 < w i := by
  suffices h : ∀ i, ∃ r : ℝ, i < 8192 → (weight a i = (r : EReal) ∧ 0 < r) by
    choose w hw using h
    exact ⟨w, fun i hi => (hw i hi).1, fun i hi => (hw i hi).2⟩
  intro i
  by_cases hi : i < 8192
  · suffices h : ∃ r : ℝ, Ideal.div (a i) (total a) = (r : EReal) by
      obtain ⟨r, hr⟩ := h
      refine ⟨Real.exp (r * 2), fun _ => ⟨?_, Real.exp_pos _⟩⟩
      unfold weight
      rw [hr, two_eq, ← EReal.coe_mul, Ideal.exp_coe]
    have hle : a i ≤ total a := Finset.single_le_sum (f := a) (fun j _ => h0 j) (Finset.mem_range.mpr hi)
    have htpos : 0 ≤ total a := Finset.sum_nonneg fun j _ => h0 j
    by_cases htop : total a = ⊤
    · refine ⟨0, ?_⟩
      rw [htop, Ideal.div, if_neg (by simp), EReal.inv_top, mul_zero]; rfl
    · obtain ⟨t, htr⟩ : ∃ t : ℝ, total a = (t : EReal) :=
        ⟨(total a).toReal, (EReal.coe_toReal htop (fun h => by rw [h] at htpos; simp at htpos)).symm⟩
      obtain ⟨y, hy⟩ : ∃ y : ℝ, a i = (y : EReal) :=
        ⟨(a i).toReal, (EReal.coe_toReal (fun h => htop (top_le_iff.mp (h ▸ hle))) (fun h => by have := h0 i; rw [h] at this; simp at this)).symm⟩
      have ht0 : t ≠ 0 := fun h => ht (by rw [htr, h]; rfl)
      exact ⟨y * (1 / t), by rw [htr, hy, Ideal.div_coe ht0, EReal.coe_mul]⟩
  · exact ⟨0, fun h => absurd h hi⟩

/-- Keeping an element `x` of the column whose magnitude reaches the crossing's is multiplying it by the mask of the
    magnitudes that reach the counted position's. -/
theorem select_eq (a : ℕ → EReal) (v x : EReal) (h0 : ∀ i, 0 ≤ a i) (hlow : low ≤ v) (hv : v < 1 + lift)
    (i : ℕ) (hi : i < 8192) (hx : a i = max x (-x)) :
    (if crossed a v ≤ max x (-x) then x else 0) = x * (if counted a v ≤ max x (-x) then 1 else 0) := by
  by_cases ht : total a = 0
  · have ha : a i = 0 := (Finset.sum_eq_zero_iff_of_nonneg fun j _ => h0 j).mp ht i (Finset.mem_range.mpr hi)
    have hx0 : x = 0 := by
      rw [hx] at ha
      have h1 : x ≤ 0 := ha ▸ le_max_left _ _
      have h2 : -x ≤ 0 := ha ▸ le_max_right _ _
      exact le_antisymm h1 (by simpa using EReal.neg_le_neg_iff.mpr h2)
    rw [hx0, zero_mul, ite_self]
  · obtain ⟨w, hw, hpos⟩ := weights_real a h0 ht
    obtain ⟨mono, hlast⟩ := cum_of_weights a w hw hpos
    obtain ⟨hc, he⟩ := crossed_eq a v mono hlow (by rw [hlast]; exact hv)
    rw [he, counted, if_pos hc]
    split
    · rw [mul_one]
    · rw [mul_zero]

end Cert.Column

end
-- ==== Proof.Vectors.lean ====
/- The body's vector steps read at one lane, over the extended reals. -/
module

public import proofs.«01_k».proof.Proof.Triple
public import proofs.«01_k».proof.Proof.Column
public import Idealize.ShloMosaic.Lib.Pipeline.Value
public import Idealize.ShloMosaic.Lib.ValueIdxCore

@[expose] public section

noncomputable section

namespace Cert.KernelIdeal.Band

open Idealize.ShloMosaic Idealize.ShloMosaic.ValueIdx
open Cert.KernelIdeal Cert.KernelIdeal.Facts₀ Cert.KernelIdeal.Facts
open Finset (range sum_range_succ)

/-! ## Elements of the buffer -/

/-- The magnitude of an extended real. -/
def mag (x : EReal) : EReal := max x (-x)

/-- The element at row `r` and position `p` of lane `l`. -/
def el (X : Vec Ideal S1x64x128x256 .f32) (l : Fin 256) (r p : ℕ) : EReal :=
  if h : r < 64 ∧ p < 128 then X (ix4 0 ⟨r, h.1⟩ ⟨p, h.2⟩ l) else 0

theorem el_fin (X : Vec Ideal S1x64x128x256 .f32) (l : Fin 256) (r : Fin 64) (p : Fin 128) : el X l r.val p.val = X (ix4 0 r p l) :=
  dif_pos ⟨r.isLt, p.isLt⟩

theorem el_mk (X : Vec Ideal S1x64x128x256 .f32) (l : Fin 256) (r p : ℕ) (hr : r < 64) (hp : p < 128) : el X l r p = X (ix4 0 ⟨r, hr⟩ ⟨p, hp⟩ l) :=
  dif_pos ⟨hr, hp⟩

/-- A block read at an index is the element there. -/
theorem cut_apply (X : Vec Ideal S1x64x128x256 .f32) {a b n k : ℕ} (inb : ∀ d, (![0, a, b, 0] : Fin 4 → ℕ) d + (![1, n, k, 256] : Fin 4 → ℕ) d ≤ S1x64x128x256.size d)
    (z : Fin 1) (r : Fin n) (p : Fin k) (l : Fin 256) :
    cut X ![0, a, b, 0] ![1, n, k, 256] inb (ix4 z r p l) = el X l (a + r.val) (b + p.val) := by
  have h1 : a + n ≤ 64 := inb 1
  have h2 : b + k ≤ 128 := inb 2
  rw [el_mk X l _ _ (by omega) (by omega)]
  refine congrArg X (funext fun d => Fin.ext ?_)
  show (![0, a, b, 0] : Fin 4 → ℕ) d + 1 * (ix4 z r p l d).val = (ix4 0 _ _ l d).val
  match d with
  | 0 => simp
  | 1 => simp
  | 2 => simp
  | 3 => simp

theorem row_apply (X : Vec Ideal S1x64x128x256 .f32) (n : ℕ) (h : n + 1 ≤ 64) (z w : Fin 1) (p : Fin 128) (l : Fin 256) :
    row X n h (ix4 z w p l) = el X l n p.val :=
  (cut_apply X (inbR h) z w p l).trans (by rw [Fin.val_eq_zero, Nat.add_zero, Nat.zero_add])

theorem row2_apply (X : Vec Ideal S1x64x128x256 .f32) (n : ℕ) (h : 2 * n + 2 ≤ 64) (z : Fin 1) (d : Fin 2) (p : Fin 128) (l : Fin 256) :
    row2 X n h (ix4 z d p l) = el X l (2 * n + d.val) p.val :=
  (cut_apply X (inbR h) z d p l).trans (by rw [Nat.zero_add])

theorem cut8_apply (X : Vec Ideal S1x64x128x256 .f32) (a b : ℕ) (ha : a + 8 ≤ 64) (hb : b + 8 ≤ 128) (z : Fin 1) (r p : Fin 8) (l : Fin 256) :
    cut8 X a b ha hb (ix4 z r p l) = el X l (a + r.val) (b + p.val) :=
  cut_apply X (inb8 ha hb) z r p l

/-- A replaced block read at an element: inside, the new value; outside, the old one. -/
theorem el_paste (O : Vec Ideal S1x64x128x256 .f32) {a b n k : ℕ} (inb : ∀ d, (![0, a, b, 0] : Fin 4 → ℕ) d + (![1, n, k, 256] : Fin 4 → ℕ) d ≤ S1x64x128x256.size d)
    (w : Vec Ideal (⟨4, ![1, n, k, 256]⟩ : Shape) .f32) (l : Fin 256) (r p : ℕ) (hr : r < 64) (hp : p < 128) :
    el (paste O ![0, a, b, 0] ![1, n, k, 256] inb w) l r p
      = if h : (a ≤ r ∧ r < a + n) ∧ (b ≤ p ∧ p < b + k) then w (ix4 0 ⟨r - a, by omega⟩ ⟨p - b, by omega⟩ l) else el O l r p := by
  rw [el_mk _ l r p hr hp]
  by_cases h : (a ≤ r ∧ r < a + n) ∧ (b ≤ p ∧ p < b + k)
  · rw [dif_pos h]
    have hm : ∀ d : Fin 4, (![0, a, b, 0] : Fin 4 → ℕ) d ≤ ((ix4 (0 : Fin 1) (⟨r, hr⟩ : Fin 64) (⟨p, hp⟩ : Fin 128) l) d).val
        ∧ ((ix4 (0 : Fin 1) (⟨r, hr⟩ : Fin 64) (⟨p, hp⟩ : Fin 128) l) d).val < (![0, a, b, 0] : Fin 4 → ℕ) d + (![1, n, k, 256] : Fin 4 → ℕ) d
      | 0 => ⟨Nat.le_refl _, Nat.zero_lt_one⟩
      | 1 => h.1
      | 2 => h.2
      | 3 => ⟨Nat.zero_le _, by simpa using l.isLt⟩
    refine (paste_of_mem O inb w _ hm).trans (congrArg w (funext fun d => Fin.ext ?_))
    rw [Rect.unitLocal_val]
    match d with
    | 0 => rfl
    | 1 => rfl
    | 2 => rfl
    | 3 => rfl
  · rw [dif_neg h, el_mk O l r p hr hp]
    exact paste_of_not_mem O inb w _ fun hm => h ⟨hm 1, hm 2⟩

/-! ## Sums -/

/-- A sum over `n * m` positions is a sum of sums over `m`. -/
theorem sum_rows (f : ℕ → EReal) (m n : ℕ) : ∑ i ∈ range (m * n), f i = ∑ r ∈ range n, ∑ p ∈ range m, f (m * r + p) := by
  induction n with
  | zero => simp
  | succ n ih => rw [Nat.mul_succ, Finset.sum_range_add, ih, sum_range_succ]

/-! ## The sum of the magnitudes -/

theorem zero1_apply (i : S1x256.Idx) : (zero1 : FVec Ideal S1x256 .f32) i = 0 := Column.zero_eq
theorem zero8_apply (i : S8x256.Idx) : (zero8 : FVec Ideal S8x256 .f32) i = 0 := Column.zero_eq

theorem addRow_apply (acc : FVec Ideal S1x256 .f32) (x : Vec Ideal S1x1x128x256 .f32) (z : Fin 1) (l : Fin 256) :
    addRow acc x (ix2 z l) = acc (ix2 z l) + ∑ p : Fin 128, mag (x (ix4 0 0 p l)) := by
  refine congrArg (acc (ix2 z l) + ·) ?_
  rw [shapeCast_apply _ shapeCasts_S256_S1x256 (ix2 z l) (ix1 l) (by simp [Shape.rowMajor_val_one, Shape.rowMajor_val_two])]
  refine (Ideal.multiReduction_add_single (a := (0 : Fin S128x256.rank)) _ _ _ _ _ _).trans ?_
  refine Finset.sum_congr rfl fun p _ => congrArg mag ?_
  exact shapeCast_apply _ _ _ (ix4 0 0 p l) (by
    rw [Shape.rowMajor_val_two, Shape.rowMajor_val_four]
    show ((0 * 1 + 0) * 128 + p.val) * 256 + l.val = p.val * 256 + l.val
    omega)

theorem sumTo_apply (X : Vec Ideal S1x64x128x256 .f32) (z : Fin 1) (l : Fin 256) :
    ∀ n h, sumTo X n h (ix2 z l) = ∑ r ∈ range n, ∑ p ∈ range 128, mag (el X l r p)
  | 0, _ => zero1_apply _
  | n + 1, h => by
    rw [sumTo, addRow_apply, sumTo_apply X z l n, sum_range_succ, Finset.sum_range (n := 128)]
    simp only [row_apply]

/-! ## The weights -/

theorem weights_apply (s1 : FVec Ideal S1x256 .f32) (x : Vec Ideal S1x2x128x256 .f32) (d : Fin 2) (p : Fin 128) (l : Fin 256) :
    weights s1 x (ix3 d p l) = Ideal.exp (Ideal.div (mag (x (ix4 0 d p l))) (s1 (ix2 0 l)) * Column.two) := by
  have h1 : shapeCast S2x128x256 x shapeCasts_S1x2x128x256_S2x128x256 (ix3 d p l) = x (ix4 0 d p l) :=
    shapeCast_apply _ _ _ (ix4 0 d p l) (by simp [Shape.rowMajor_val_three, Shape.rowMajor_val_four])
  have h2 : broadcastTo S2x128x256 (shapeCast S1x1x256 s1 shapeCasts_S1x256_S1x1x256) broadcasts_S1x1x256_S2x128x256 (ix3 d p l) = s1 (ix2 0 l) := by
    rw [broadcastTo_apply _ _ _ (ix3 0 0 l) (by intro a; match a with | 0 => rfl | 1 => rfl | 2 => rfl)]
    exact shapeCast_apply _ _ _ (ix2 0 l) (by simp [Shape.rowMajor_val_two, Shape.rowMajor_val_three])
  show Ideal.exp (Ideal.div (mag (shapeCast S2x128x256 x _ (ix3 d p l))) (broadcastTo S2x128x256 _ _ (ix3 d p l)) * Column.two) = _
  rw [h1, h2]

theorem eighth_apply (w : FVec Ideal S32x8x256 .f32) (j : ℕ) (hj : j < 32) (q : Fin 8) (l : Fin 256) :
    eighth w j hj (ix2 q l) = w (ix3 ⟨j, hj⟩ q l) := by
  unfold eighth
  rw [shapeCast_apply _ _ _ (ix3 0 q l) (by simp [Shape.rowMajor_val_two, Shape.rowMajor_val_three])]
  exact extractStridedSlice_apply _ _ _ _ (ix3 ⟨j, hj⟩ q l) (by intro a; match a with | 0 => rfl | 1 => simp | 2 => simp)

/-- The 32 groups of eight positions of two rows. -/
theorem groups_apply (w : FVec Ideal S2x128x256 .f32) (j : Fin 32) (q : Fin 8) (l : Fin 256) :
    shapeCast S32x8x256 w shapeCasts_S2x128x256_S32x8x256 (ix3 j q l)
      = w (ix3 ⟨(8 * j.val + q.val) / 128, by omega⟩ ⟨(8 * j.val + q.val) % 128, Nat.mod_lt _ (by norm_num)⟩ l) :=
  shapeCast_apply _ _ _ _ (by
    rw [Shape.rowMajor_val_three, Shape.rowMajor_val_three]
    show ((8 * j.val + q.val) / 128 * 128 + (8 * j.val + q.val) % 128) * 256 + l.val = (j.val * 8 + q.val) * 256 + l.val
    omega)

theorem accTo_apply (p : FVec Ideal S32x8x256 .f32) (acc : FVec Ideal S8x256 .f32) (q : Fin 8) (l : Fin 256) (f : ℕ → EReal)
    (hf : ∀ j : Fin 32, p (ix3 j q l) = f j.val) :
    ∀ n h, accTo p acc n h (ix2 q l) = acc (ix2 q l) + ∑ j ∈ range n, f j
  | 0, _ => by simp [accTo]
  | n + 1, h => by
    show accTo p acc n _ (ix2 q l) + eighth p n _ (ix2 q l) = _
    rw [accTo_apply p acc q l f hf n, eighth_apply, hf, sum_range_succ, add_assoc]

/-- The eight partial sums added together are their sum. -/
theorem folded_apply (acc : FVec Ideal S8x256 .f32) (y z : Fin 1) (l : Fin 256) : folded acc (ix3 y z l) = ∑ q : Fin 8, acc (ix2 q l) := by
  have h4 (w : FVec Ideal S8x256 .f32) (q : Fin 4) :
      (addf (extractStridedSlice S4x256 ![0, 0] w slices_S8x256_o0_0_S4x256) (extractStridedSlice S4x256 ![4, 0] w slices_S8x256_o4_0_S4x256)) (ix2 q l)
        = w (ix2 ⟨q.val, by omega⟩ l) + w (ix2 ⟨4 + q.val, by omega⟩ l) :=
    congrArg₂ (· + ·) (extractStridedSlice_apply _ _ _ _ _ (by intro a; match a with | 0 => simp | 1 => simp))
      (extractStridedSlice_apply _ _ _ _ _ (by intro a; match a with | 0 => simp | 1 => simp))
  have h2 (w : FVec Ideal S4x256 .f32) (q : Fin 2) :
      (addf (extractStridedSlice S2x256 ![0, 0] w slices_S4x256_o0_0_S2x256) (extractStridedSlice S2x256 ![2, 0] w slices_S4x256_o2_0_S2x256)) (ix2 q l)
        = w (ix2 ⟨q.val, by omega⟩ l) + w (ix2 ⟨2 + q.val, by omega⟩ l) :=
    congrArg₂ (· + ·) (extractStridedSlice_apply _ _ _ _ _ (by intro a; match a with | 0 => simp | 1 => simp))
      (extractStridedSlice_apply _ _ _ _ _ (by intro a; match a with | 0 => simp | 1 => simp))
  have h1 (w : FVec Ideal S2x256 .f32) :
      (addf (extractStridedSlice S1x256 ![0, 0] w slices_S2x256_o0_0_S1x256) (extractStridedSlice S1x256 ![1, 0] w slices_S2x256_o1_0_S1x256)) (ix2 0 l)
        = w (ix2 0 l) + w (ix2 1 l) :=
    congrArg₂ (· + ·) (extractStridedSlice_apply _ _ _ _ _ (by intro a; match a with | 0 => simp | 1 => simp))
      (extractStridedSlice_apply _ _ _ _ _ (by intro a; match a with | 0 => simp | 1 => simp))
  unfold folded
  rw [shapeCast_apply _ _ _ (ix2 0 l) (by simp [Shape.rowMajor_val_two, Shape.rowMajor_val_three]), h1, h2, h2, h4, h4, h4, h4]
  simp only [Fin.sum_univ_eight]
  show ((acc (ix2 0 l) + acc (ix2 4 l)) + (acc (ix2 2 l) + acc (ix2 6 l))) + ((acc (ix2 1 l) + acc (ix2 5 l)) + (acc (ix2 3 l) + acc (ix2 7 l))) = _
  abel

/-! ## The weights of a whole block -/

/-- The weight of position `i` of the column, from the sum `t` of the magnitudes. -/
def wt (X : Vec Ideal S1x64x128x256 .f32) (l : Fin 256) (t : EReal) (i : ℕ) : EReal :=
  Ideal.exp (Ideal.div (mag (el X l (i / 128) (i % 128))) t * Column.two)

theorem weightAcc_apply (X : Vec Ideal S1x64x128x256 .f32) (s1 : FVec Ideal S1x256 .f32) (q : Fin 8) (l : Fin 256) :
    ∀ n h, weightAcc X s1 n h (ix2 q l) = ∑ g ∈ range (32 * n), wt X l (s1 (ix2 0 l)) (8 * g + q.val)
  | 0, _ => zero8_apply _
  | n + 1, h => by
    rw [weightAcc, accTo_apply _ _ q l (fun j => wt X l (s1 (ix2 0 l)) (8 * (32 * n + j) + q.val)) _ 32, weightAcc_apply X s1 q l n,
      Nat.mul_succ, Finset.sum_range_add]
    intro j
    rw [groups_apply, weights_apply, row2_apply, wt]
    have h1 : (8 * (32 * n + j.val) + q.val) / 128 = 2 * n + (8 * j.val + q.val) / 128 := by omega
    have h2 : (8 * (32 * n + j.val) + q.val) % 128 = (8 * j.val + q.val) % 128 := by omega
    rw [h1, h2]

theorem weightOut_apply (X O : Vec Ideal S1x64x128x256 .f32) (s1 : FVec Ideal S1x256 .f32) (l : Fin 256) (r p : ℕ) (hr : r < 64) (hp : p < 128) :
    ∀ n h, el (weightOut X s1 O n h) l r p = if r < 2 * n then wt X l (s1 (ix2 0 l)) (128 * r + p) else el O l r p
  | 0, _ => by simp [weightOut]
  | n + 1, h => by
    rw [weightOut]
    refine (el_paste _ _ _ l r p hr hp).trans ?_
    rw [weightOut_apply X O s1 l r p hr hp n]
    by_cases hc : 2 * n ≤ r ∧ r < 2 * n + 2
    · rw [dif_pos ⟨hc, Nat.zero_le _, by omega⟩, if_pos (by omega)]
      rw [shapeCast_apply _ _ _ (ix3 ⟨r - 2 * n, by omega⟩ ⟨p, hp⟩ l) (by simp [Shape.rowMajor_val_three, Shape.rowMajor_val_four]),
        weights_apply, row2_apply, wt]
      have h1 : (128 * r + p) / 128 = r := by omega
      have h2 : (128 * r + p) % 128 = p := by omega
      have h3 : 2 * n + (r - 2 * n) = r := by omega
      rw [h1, h2]
      show Ideal.exp (Ideal.div (mag (el X l (2 * n + (r - 2 * n)) p)) _ * _) = _
      rw [h3]
    · rw [dif_neg (fun hx => hc hx.1)]
      by_cases h2 : r < 2 * n
      · rw [if_pos h2, if_pos (by omega)]
      · rw [if_neg h2, if_neg (by omega)]

/-! ## The column of a lane -/

/-- The magnitudes of a lane's column, position `128 r + p` holding row `r` and position `p`. -/
def col (X : Vec Ideal S1x64x128x256 .f32) (l : Fin 256) (i : ℕ) : EReal := mag (el X l (i / 128) (i % 128))

theorem col_at (X : Vec Ideal S1x64x128x256 .f32) (l : Fin 256) (r p : ℕ) (hp : p < 128) : col X l (128 * r + p) = mag (el X l r p) := by
  have h1 : (128 * r + p) / 128 = r := by omega
  have h2 : (128 * r + p) % 128 = p := by omega
  rw [col, h1, h2]

theorem total_apply (X : Vec Ideal S1x64x128x256 .f32) (z : Fin 1) (l : Fin 256) : total X (ix2 z l) = Column.total (col X l) := by
  rw [total, sumTo_apply, Column.total, show (8192 : ℕ) = 128 * 64 from rfl, sum_rows]
  exact Finset.sum_congr rfl fun r _ => Finset.sum_congr rfl fun p hp => (col_at X l r p (Finset.mem_range.1 hp)).symm

theorem weighted_apply (X : Vec Ideal S1x64x128x256 .f32) (l : Fin 256) (r p : ℕ) (hr : r < 64) (hp : p < 128) :
    el (weighted X) l r p = Column.weight (col X l) (128 * r + p) := by
  rw [weighted, weightOut_apply X X _ l r p hr hp, if_pos (by omega), total_apply, wt, Column.weight, col]

theorem weightSum_apply (X : Vec Ideal S1x64x128x256 .f32) (y z : Fin 1) (l : Fin 256) :
    weightSum X (ix3 y z l) = Column.weightSum (col X l) := by
  rw [weightSum, folded_apply, Column.weightSum, show (8192 : ℕ) = 8 * 1024 from rfl, sum_rows, Finset.sum_comm,
    Finset.sum_range (fun q => ∑ g ∈ range 1024, Column.weight (col X l) (8 * g + q))]
  exact Finset.sum_congr rfl fun q _ => by
    rw [weightAcc_apply, total_apply]
    exact Finset.sum_congr rfl fun g _ => by rw [wt, Column.weight, col]

end Cert.KernelIdeal.Band

end
-- ==== Proof.Scan.lean ====
/- The running sums and the crossings of the body read at one lane, over the extended reals, and what the body leaves there. -/
module

public import proofs.«01_k».proof.Proof.Vectors

@[expose] public section

noncomputable section

namespace Cert.KernelIdeal.Band

open Idealize.ShloMosaic Idealize.ShloMosaic.ValueIdx
open Cert.KernelIdeal Cert.KernelIdeal.Facts₀ Cert.KernelIdeal.Facts
open Finset (range sum_range_succ)

/-! ## Running sums -/

theorem shiftIn_zero (c : FVec Ideal S8x256 .f32) (w : FVec Ideal S8x8x256 .f32) (r p : Fin 8) (l : Fin 256) (hp : p.val = 0) :
    shiftIn c w (ix3 r p l) = c (ix2 r l) := by
  unfold shiftIn
  rw [concatenate_pair_apply_left (s₁ := S8x1x256) (1 : Fin S8x8x256.rank) _ _ _ _ rfl (ix3 r 0 l) (by intro b; match b with | 0 => rfl | 1 => exact hp.symm | 2 => rfl)]
  exact shapeCast_apply _ _ _ (ix2 r l) (by simp [Shape.rowMajor_val_two, Shape.rowMajor_val_three])

theorem shiftIn_succ (c : FVec Ideal S8x256 .f32) (w : FVec Ideal S8x8x256 .f32) (r p p' : Fin 8) (l : Fin 256) (hp : p.val = p'.val + 1) :
    shiftIn c w (ix3 r p l) = w (ix3 r p' l) := by
  unfold shiftIn
  have h7 : p'.val < 7 := by omega
  rw [concatenate_apply_piece (1 : Fin S8x8x256.rank) _ _ (ix3 r p l) 1 (by simp) S8x7x256 _ rfl rfl 1 rfl (ix3 r ⟨p'.val, h7⟩ l)
    (by intro b hb; match b with | 0 => rfl | 1 => exact absurd rfl hb | 2 => rfl) (by show 1 + p'.val = p.val; omega)]
  exact extractStridedSlice_apply _ _ _ _ (ix3 r p' l) (by intro b; match b with | 0 => simp | 1 => simp | 2 => simp)

theorem lastOf_apply (w : FVec Ideal S8x8x256 .f32) (r : Fin 8) (l : Fin 256) : lastOf w (ix2 r l) = w (ix3 r 7 l) := by
  unfold lastOf
  rw [shapeCast_apply _ _ _ (ix3 r 0 l) (by simp [Shape.rowMajor_val_two, Shape.rowMajor_val_three])]
  exact extractStridedSlice_apply _ _ _ _ (ix3 r 7 l) (by intro b; match b with | 0 => simp | 1 => rfl | 2 => simp)

/-- Each step settles one more position. -/
theorem scanStep_settles (th : FVec Ideal S8x8x256 .f32) (c : FVec Ideal S8x256 .f32) (w : FVec Ideal S8x8x256 .f32) (r : Fin 8) (l : Fin 256) (t : ℕ → EReal)
    (ht : ∀ p : Fin 8, th (ix3 r p l) = t p.val) (k : ℕ) (hw : ∀ p : Fin 8, p.val < k → w (ix3 r p l) = c (ix2 r l) + ∑ q ∈ range (p.val + 1), t q) :
    ∀ p : Fin 8, p.val < k + 1 → scanStep th c w (ix3 r p l) = c (ix2 r l) + ∑ q ∈ range (p.val + 1), t q := by
  intro p hp
  show th (ix3 r p l) + shiftIn c w (ix3 r p l) = _
  rw [ht]
  rcases Nat.eq_zero_or_pos p.val with h0 | h0
  · rw [shiftIn_zero c w r p l h0, h0, add_comm]; simp
  · have hq : p.val = (p.val - 1) + 1 := by omega
    have hlt : p.val - 1 < 8 := by omega
    rw [shiftIn_succ c w r p ⟨p.val - 1, hlt⟩ l hq, hw ⟨p.val - 1, hlt⟩ (by show p.val - 1 < k; omega)]
    show t p.val + (c (ix2 r l) + ∑ q ∈ range (p.val - 1 + 1), t q) = _
    rw [← hq, sum_range_succ t p.val, add_left_comm, add_comm (t p.val)]

theorem scanned_apply (th : FVec Ideal S8x8x256 .f32) (c : FVec Ideal S8x256 .f32) (r : Fin 8) (l : Fin 256) (t : ℕ → EReal)
    (ht : ∀ p : Fin 8, th (ix3 r p l) = t p.val) (p : Fin 8) :
    scanned th c (ix3 r p l) = c (ix2 r l) + ∑ q ∈ range (p.val + 1), t q := by
  have step := scanStep_settles th c
  exact step _ r l t ht 7 (step _ r l t ht 6 (step _ r l t ht 5 (step _ r l t ht 4 (step _ r l t ht 3 (step _ r l t ht 2 (step _ r l t ht 1
    (step _ r l t ht 0 (fun _ h => absurd h (Nat.not_lt_zero _))))))))) p p.isLt

theorem normed_apply (s2 : FVec Ideal S1x1x256 .f32) (v : Vec Ideal S1x8x8x256 .f32) (r p : Fin 8) (l : Fin 256) :
    normed s2 v (ix3 r p l) = Ideal.div (v (ix4 0 r p l)) (s2 (ix3 0 0 l)) :=
  congrArg₂ Ideal.div (shapeCast_apply _ _ _ (ix4 0 r p l) (by simp [Shape.rowMajor_val_three, Shape.rowMajor_val_four]))
    (broadcastTo_apply _ _ _ (ix3 0 0 l) (by intro a; match a with | 0 => rfl | 1 => rfl | 2 => rfl))

/-- The share of the element at row `r` and position `p`. -/
def shr (O : Vec Ideal S1x64x128x256 .f32) (s2 : FVec Ideal S1x1x256 .f32) (l : Fin 256) (r p : ℕ) : EReal := Ideal.div (el O l r p) (s2 (ix3 0 0 l))

theorem scanTo_apply (O : Vec Ideal S1x64x128x256 .f32) (s2 : FVec Ideal S1x1x256 .f32) (a : ℕ) (ha : a + 8 ≤ 64) (l : Fin 256) :
    ∀ n h, (∀ r : Fin 8, (scanTo O s2 a ha n h).1 (ix2 r l) = ∑ p ∈ range (8 * n), shr O s2 l (a + r.val) p)
      ∧ ∀ r p, r < 64 → p < 128 → el (scanTo O s2 a ha n h).2 l r p
          = if (a ≤ r ∧ r < a + 8) ∧ p < 8 * n then ∑ q ∈ range (p + 1), shr O s2 l r q else el O l r p
  | 0, _ => ⟨fun r => by unfold scanTo; exact (zero8_apply (ix2 r l)).trans (by simp), fun r p _ _ => by unfold scanTo; simp⟩
  | n + 1, h => by
    obtain ⟨ih1, ih2⟩ := scanTo_apply O s2 a ha l n (Nat.le_of_succ_le h)
    have key : ∀ r p : Fin 8, scanned (normed s2 (cut8 (scanTo O s2 a ha n (Nat.le_of_succ_le h)).2 a (8 * n) ha (by omega))) (scanTo O s2 a ha n (Nat.le_of_succ_le h)).1 (ix3 r p l)
        = ∑ q ∈ range (8 * n + p.val + 1), shr O s2 l (a + r.val) q := by
      intro r p
      rw [scanned_apply _ _ r l (fun q => shr O s2 l (a + r.val) (8 * n + q)) _ p, ih1 r, ← Finset.sum_range_add, Nat.add_assoc]
      intro q
      rw [normed_apply, cut8_apply, ih2 _ _ (by omega) (by omega), if_neg (by omega), shr]
    constructor
    · intro r
      unfold scanTo
      dsimp only
      rw [lastOf_apply, key r 7]
      rfl
    · intro r p hr hp
      unfold scanTo
      refine (el_paste _ (inb8 (b := 8 * n) ha (by omega)) _ l r p hr hp).trans ?_
      rw [ih2 r p hr hp]
      by_cases hc : (a ≤ r ∧ r < a + 8) ∧ (8 * n ≤ p ∧ p < 8 * n + 8)
      · rw [dif_pos hc, if_pos ⟨hc.1, by omega⟩]
        rw [shapeCast_apply _ _ _ (ix3 ⟨r - a, by omega⟩ ⟨p - 8 * n, by omega⟩ l) (by simp [Shape.rowMajor_val_three, Shape.rowMajor_val_four]), key]
        show ∑ q ∈ range (8 * n + (p - 8 * n) + 1), shr O s2 l (a + (r - a)) q = _
        rw [show a + (r - a) = r by omega, show 8 * n + (p - 8 * n) + 1 = p + 1 by omega]
      · rw [dif_neg hc]
        by_cases h2 : (a ≤ r ∧ r < a + 8) ∧ p < 8 * n
        · rw [if_pos h2, if_pos ⟨h2.1, by omega⟩]
        · rw [if_neg h2, if_neg (by omega)]

attribute [local irreducible] scanTo crossTo

theorem scanBlocks_apply (O : Vec Ideal S1x64x128x256 .f32) (s2 : FVec Ideal S1x1x256 .f32) (l : Fin 256) :
    ∀ k h r p, r < 64 → p < 128 → el (scanBlocks O s2 k h) l r p = if r < 8 * k then ∑ q ∈ range (p + 1), shr O s2 l r q else el O l r p
  | 0, _, r, p, _, _ => by simp [scanBlocks]
  | k + 1, h, r, p, hr, hp => by
    rw [scanBlocks, (scanTo_apply _ s2 (8 * k) _ l 16 _).2 r p hr hp, scanBlocks_apply O s2 l k (Nat.le_of_succ_le h) r p hr hp]
    by_cases h1 : r < 8 * k
    · rw [if_neg (by omega), if_pos h1, if_pos (by omega)]
    · by_cases h2 : r < 8 * k + 8
      · rw [if_pos ⟨⟨by omega, h2⟩, by omega⟩, if_pos (by omega)]
        refine Finset.sum_congr rfl fun q hq => ?_
        have hq' := Finset.mem_range.1 hq
        rw [shr, shr, scanBlocks_apply O s2 l k (Nat.le_of_succ_le h) r q hr (by omega), if_neg h1]
      · rw [if_neg (by omega), if_neg h1, if_neg (by omega)]

theorem carried_apply (O : Vec Ideal S1x64x128x256 .f32) (s2 : FVec Ideal S1x1x256 .f32) (k : ℕ) (h : k < 8) (r : Fin 8) (l : Fin 256) :
    carried O s2 k h (ix2 r l) = ∑ p ∈ range 128, shr O s2 l (8 * k + r.val) p := by
  rw [carried, (scanTo_apply _ s2 (8 * k) _ l 16 _).1 r]
  refine Finset.sum_congr rfl fun q hq => ?_
  have hq' := Finset.mem_range.1 hq
  rw [shr, shr, scanBlocks_apply O s2 l k _ _ q (by omega) (by omega), if_neg (by omega)]

/-! ## The sums of the rows before each row -/

theorem stacked_apply (s : Fin 8 → FVec Ideal S8x256 .f32) (k r : Fin 8) (l : Fin 256) (h : 8 * k.val + r.val < 64) :
    stacked (s 0) (s 1) (s 2) (s 3) (s 4) (s 5) (s 6) (s 7) (ix2 ⟨8 * k.val + r.val, h⟩ l) = s k (ix2 r l) := by
  unfold stacked
  exact concatenate_apply_piece (0 : Fin S64x256.rank) _ _ (ix2 ⟨8 * k.val + r.val, h⟩ l) k.val (by exact k.isLt) S8x256 (s k) (by fin_cases k <;> rfl) rfl (8 * k.val)
    (by fin_cases k <;> rfl) (ix2 r l) (by intro b hb; match b with | 0 => exact absurd rfl hb | 1 => rfl) rfl

theorem rowAt_apply (S : FVec Ideal S64x256 .f32) (j : ℕ) (hj : j < 64) (z : Fin 1) (l : Fin 256) : rowAt S j hj (ix2 z l) = S (ix2 ⟨j, hj⟩ l) :=
  extractStridedSlice_apply _ _ _ _ _ (by intro a; match a with | 0 => simp | 1 => simp)

theorem runTo_apply (S : FVec Ideal S64x256 .f32) (l : Fin 256) (f : ℕ → EReal) (hf : ∀ r : Fin 64, S (ix2 r l) = f r.val) (z : Fin 1) :
    ∀ j hj, runTo S j hj (ix2 z l) = ∑ i ∈ range (j + 1), f i
  | 0, _ => by rw [runTo, rowAt_apply, hf]; simp
  | j + 1, h => by
    show runTo S j _ (ix2 z l) + rowAt S (j + 1) _ (ix2 z l) = _
    rw [runTo_apply S l f hf z j, rowAt_apply, hf, sum_range_succ _ (j + 1)]

theorem runRows_length (S : FVec Ideal S64x256 .f32) (n : ℕ) (h : n ≤ 63) : (runRows S n h).length = n := by
  have := congrArg List.length (runRows_shapes S n h)
  simpa using this

theorem runRows_get (S : FVec Ideal S64x256 .f32) :
    ∀ n h i (hi : i < (runRows S n h).length) j (hj : j < 64), j = 63 - n + i → (runRows S n h)[i] = ⟨S1x256, runTo S j hj⟩
  | 0, _, i, hi, _, _, _ => absurd hi (by simp [runRows])
  | n + 1, h, 0, _, j, hj, e => by
    obtain rfl : j = 62 - n := by omega
    rfl
  | n + 1, h, i + 1, hi, j, hj, e => by
    exact runRows_get S n (Nat.le_of_succ_le h) i (Nat.lt_of_succ_lt_succ hi) j hj (by omega)

theorem before64_apply (S : FVec Ideal S64x256 .f32) (l : Fin 256) (f : ℕ → EReal) (hf : ∀ r : Fin 64, S (ix2 r l) = f r.val) (r : Fin 64) :
    before64 S (ix2 r l) = ∑ i ∈ range r.val, f i := by
  have hlen : (⟨S1x256, zero1⟩ :: runRows S 63 (Nat.le_refl _) : List ((s : Shape) × (s.Idx → Ideal .f32))).length = 64 := by
    rw [List.length_cons, runRows_length]
  have hpre : ∀ k, k ≤ 64 → ((((⟨S1x256, zero1⟩ :: runRows S 63 (Nat.le_refl _) : List ((s : Shape) × (s.Idx → Ideal .f32))).take k).map (·.1)).map
      fun s => if h : s.rank = S64x256.rank then s.size ((0 : Fin S64x256.rank).cast h.symm) else 0).sum = k := by
    intro k hk
    rw [List.map_take, List.map_cons, runRows_shapes, ← List.replicate_succ, List.take_replicate, List.map_replicate, List.sum_replicate, Nat.min_eq_left hk]
    exact Nat.mul_one k
  have piece : ∀ (x : FVec Ideal S1x256 .f32) (hx : (⟨S1x256, zero1⟩ :: runRows S 63 (Nat.le_refl _) : List ((s : Shape) × (s.Idx → Ideal .f32)))[r.val]'(by rw [hlen]; exact r.isLt) = ⟨S1x256, x⟩),
      before64 S (ix2 r l) = x (ix2 0 l) := by
    intro x hx
    unfold before64
    exact concatenate_apply_piece (0 : Fin S64x256.rank) _ _ (ix2 r l) r.val (by rw [hlen]; exact r.isLt) S1x256 x hx rfl r.val (hpre r.val r.isLt.le) (ix2 0 l)
      (by intro b hb; match b with | 0 => exact absurd rfl hb | 1 => rfl) rfl
  obtain ⟨r, hr⟩ := r
  match r, hr with
  | 0, hr => rw [piece zero1 rfl, zero1_apply]; simp
  | j + 1, hr =>
    rw [piece (runTo S j (by omega)) (runRows_get S 63 _ j _ j (by omega) (by omega)), runTo_apply S l f hf]

theorem starts_apply (O : Vec Ideal S1x64x128x256 .f32) (s2 : FVec Ideal S1x1x256 .f32) (r : Fin 64) (l : Fin 256) :
    starts O s2 (ix2 r l) = ∑ i ∈ range r.val, ∑ p ∈ range 128, shr O s2 l i p := by
  refine before64_apply _ l (fun i => ∑ p ∈ range 128, shr O s2 l i p) (fun i => ?_) r
  have h := stacked_apply (fun k => carried O s2 k.val k.isLt) ⟨i.val / 8, by omega⟩ ⟨i.val % 8, Nat.mod_lt _ (by norm_num)⟩ l
    (by show 8 * (i.val / 8) + i.val % 8 < 64; omega)
  rw [carried_apply] at h
  have e : 8 * (i.val / 8) + i.val % 8 = i.val := by omega
  simp only [e] at h
  exact h

/-! ## The crossings -/

theorem cumOf_apply (e : FVec Ideal S8x256 .f32) (v : Vec Ideal S1x8x8x256 .f32) (r p : Fin 8) (l : Fin 256) :
    cumOf e v (ix3 r p l) = (v (ix4 0 r p l) + e (ix2 r l)) + Column.lift :=
  congrArg (· + Column.lift) (congrArg₂ (· + ·) (shapeCast_apply _ _ _ (ix4 0 r p l) (by simp [Shape.rowMajor_val_three, Shape.rowMajor_val_four]))
    ((broadcastTo_apply _ _ _ (ix3 r 0 l) (by intro a; match a with | 0 => rfl | 1 => rfl | 2 => rfl)).trans
      (shapeCast_apply _ _ _ (ix2 r l) (by simp [Shape.rowMajor_val_two, Shape.rowMajor_val_three]))))

theorem raised_apply (e : FVec Ideal S8x256 .f32) (r : Fin 8) (l : Fin 256) : raised e (ix2 r l) = e (ix2 r l) + Column.lift := rfl

theorem firstPrev_apply (e : FVec Ideal S8x256 .f32) (r : Fin 8) (l : Fin 256) :
    firstPrev e (ix2 r l) = if r.val = 0 then Column.low else e (ix2 r l) + Column.lift := by
  show Scalar.select (Scalar.cmpi .eq (iota .tc S8x256 32 [0] iota_S8x256_d0_w32 (ix2 r l)) 0#32) Column.low (e (ix2 r l) + Column.lift) = _
  rw [iota_single_apply]
  fin_cases r <;> rfl

theorem rows8_apply (E : FVec Ideal S64x256 .f32) (a : ℕ) (ha : a + 8 ≤ 64) (r : Fin 8) (l : Fin 256) :
    rows8 E a ha (ix2 r l) = E (ix2 ⟨a + r.val, by omega⟩ l) :=
  extractStridedSlice_apply _ _ _ _ _ (by intro a; match a with | 0 => rfl | 1 => simp)

theorem drawn_apply (R : Vec Ideal S1x1x256 .f32) (l : Fin 256) : drawnRow R (ix3 0 0 l) = R (ix3 0 0 l) := by
  unfold drawnRow
  rw [shapeCast_apply _ _ _ (ix2 0 l) (by simp [Shape.rowMajor_val_two, Shape.rowMajor_val_three])]
  exact shapeCast_apply _ _ _ (ix3 0 0 l) (by simp [Shape.rowMajor_val_two, Shape.rowMajor_val_three])

/-- A choice by two comparisons. -/
theorem select_cmp (a v b x : EReal) :
    Scalar.select (Scalar.andi (Ideal.cmp .ogt a v) (Ideal.cmp .ole b v)) x 0 = if v < a ∧ b ≤ v then x else 0 := by
  by_cases h1 : v < a <;> by_cases h2 : b ≤ v <;> simp [Scalar.select, Scalar.andi, IntOp.andi, Ideal.cmp, h1, h2]

/-- The value before position `p` of a row with thresholds `c`, the first taking `b`. -/
def prior (b : EReal) (c : ℕ → EReal) (p : ℕ) : EReal := if p = 0 then b else c (p - 1)

theorem picked_apply (rv : FVec Ideal S1x1x256 .f32) (pc : FVec Ideal S8x256 .f32) (ct : FVec Ideal S8x8x256 .f32) (x : Vec Ideal S1x8x8x256 .f32)
    (r : Fin 8) (l : Fin 256) (c : ℕ → EReal) (hc : ∀ p : Fin 8, ct (ix3 r p l) = c p.val) :
    picked rv pc ct x (ix2 r l)
      = ∑ p : Fin 8, if rv (ix3 0 0 l) < c p.val ∧ prior (pc (ix2 r l)) c p.val ≤ rv (ix3 0 0 l) then mag (x (ix4 0 r p l)) else 0 := by
  unfold picked
  refine (Ideal.multiReduction_add_single (a := (1 : Fin S8x8x256.rank)) _ _ _ _ _ _).trans ?_
  refine Finset.sum_congr rfl fun (p : Fin 8) _ => ?_
  have hi : (reduces_S8x8x256_S8x256 : S8x8x256.Reduces [1] S8x256).lift (ix2 r l) p = ix3 r p l := funext fun b => by
    match b with | 0 => rfl | 1 => rfl | 2 => rfl
  rw [hi]
  have hb : broadcastTo S8x8x256 rv broadcasts_S1x1x256_S8x8x256 (ix3 r p l) = rv (ix3 0 0 l) :=
    broadcastTo_apply _ _ _ (ix3 0 0 l) (by intro a; match a with | 0 => rfl | 1 => rfl | 2 => rfl)
  have hs : shiftIn pc ct (ix3 r p l) = prior (pc (ix2 r l)) c p.val := by
    rcases Nat.eq_zero_or_pos p.val with h0 | h0
    · rw [shiftIn_zero pc ct r p l h0, prior, if_pos h0]
    · have hlt : p.val - 1 < 8 := by have := p.isLt; show p.val - 1 < 8; have h8 : p.val < 8 := p.isLt; omega
      rw [shiftIn_succ pc ct r p ⟨p.val - 1, hlt⟩ l (by show p.val = p.val - 1 + 1; omega), prior, if_neg (by omega), hc]
  have hx : shapeCast S8x8x256 x shapeCasts_S1x8x8x256_S8x8x256 (ix3 r p l) = x (ix4 0 r p l) :=
    shapeCast_apply _ _ _ (ix4 0 r p l) (by simp [Shape.rowMajor_val_three, Shape.rowMajor_val_four])
  show Scalar.select (Scalar.andi (Ideal.cmp .ogt (ct (ix3 r p l)) (broadcastTo S8x8x256 rv _ (ix3 r p l)))
    (Ideal.cmp .ole (shiftIn pc ct (ix3 r p l)) (broadcastTo S8x8x256 rv _ (ix3 r p l)))) (mag (shapeCast S8x8x256 x _ (ix3 r p l)))
    (Ideal.ofBits .f32 0x00000000#32) = _
  rw [hb, hs, hx, hc, Column.zero_eq, select_cmp]

theorem sum8_apply (g : FVec Ideal S8x256 .f32) (z : Fin 1) (l : Fin 256) : sum8 g (ix2 z l) = ∑ r : Fin 8, g (ix2 r l) := by
  unfold sum8
  rw [shapeCast_apply _ shapeCasts_S256_S1x256 (ix2 z l) (ix1 l) (by simp [Shape.rowMajor_val_one, Shape.rowMajor_val_two])]
  refine (Ideal.multiReduction_add_single (a := (0 : Fin S8x256.rank)) _ _ _ _ _ _).trans ?_
  exact Finset.sum_congr rfl fun r _ => congrArg g (funext fun b => by match b with | 0 => rfl | 1 => rfl)

/-- The cumulative threshold at row `r` and position `p`, from stored running sums `O` and a row start `e`. -/
def thr (O : Vec Ideal S1x64x128x256 .f32) (l : Fin 256) (r : ℕ) (e : EReal) (p : ℕ) : EReal := (el O l r p + e) + Column.lift

/-- The magnitudes at the crossings of a row among its first `n` positions. -/
def crossRow (X O : Vec Ideal S1x64x128x256 .f32) (l : Fin 256) (v : EReal) (r : ℕ) (e b : EReal) (n : ℕ) : EReal :=
  ∑ p ∈ range n, if v < thr O l r e p ∧ prior b (thr O l r e) p ≤ v then mag (el X l r p) else 0

theorem prior_add (b : EReal) (c : ℕ → EReal) (m p : ℕ) : prior (prior b c m) (fun q => c (m + q)) p = prior b c (m + p) := by
  rcases Nat.eq_zero_or_pos p with h | h
  · rw [prior, if_pos h, h, Nat.add_zero]
  · rw [prior, if_neg (by omega), prior, if_neg (by omega), Nat.add_sub_assoc h]

theorem crossTo_apply (X O : Vec Ideal S1x64x128x256 .f32) (rv : FVec Ideal S1x1x256 .f32) (e pc : FVec Ideal S8x256 .f32) (a : ℕ) (ha : a + 8 ≤ 64)
    (r : Fin 8) (l : Fin 256) :
    ∀ n h, (crossTo X O rv e pc a ha n h).1 (ix2 r l) = prior (pc (ix2 r l)) (thr O l (a + r.val) (e (ix2 r l))) (8 * n)
      ∧ (crossTo X O rv e pc a ha n h).2 (ix2 r l) = crossRow X O l (rv (ix3 0 0 l)) (a + r.val) (e (ix2 r l)) (pc (ix2 r l)) (8 * n)
  | 0, _ => ⟨by unfold crossTo; rfl, by unfold crossTo; exact (zero8_apply (ix2 r l)).trans (by simp [crossRow])⟩
  | n + 1, h => by
    obtain ⟨ih1, ih2⟩ := crossTo_apply X O rv e pc a ha r l n (Nat.le_of_succ_le h)
    have hct : ∀ p : Fin 8, cumOf e (cut8 O a (8 * n) ha (by omega)) (ix3 r p l) = thr O l (a + r.val) (e (ix2 r l)) (8 * n + p.val) := fun p => by
      rw [cumOf_apply, cut8_apply, thr]
    constructor
    · unfold crossTo
      dsimp only
      rw [lastOf_apply, hct 7, prior, if_neg (by omega)]
      rfl
    · unfold crossTo
      show (crossTo X O rv e pc a ha n _).2 (ix2 r l) + picked _ _ _ _ (ix2 r l) = _
      rw [picked_apply _ _ _ _ r l (fun p => thr O l (a + r.val) (e (ix2 r l)) (8 * n + p)) hct, ih1, ih2, crossRow, crossRow, Nat.mul_succ, Finset.sum_range_add]
      refine congrArg (_ + ·) (((Finset.sum_range (n := 8) _).trans (Finset.sum_congr rfl fun p _ => ?_)).symm)
      rw [prior_add, cut8_apply]

theorem crossAll_apply (X O : Vec Ideal S1x64x128x256 .f32) (rv : FVec Ideal S1x1x256 .f32) (E : FVec Ideal S64x256 .f32) (z : Fin 1) (l : Fin 256)
    (f : ℕ → EReal) (hf : ∀ r : Fin 64, E (ix2 r l) = f r.val) :
    ∀ k h, crossAll X O rv E k h (ix2 z l)
      = ∑ r ∈ range (8 * (k + 1)), crossRow X O l (rv (ix3 0 0 l)) r (f r) (if r = 0 then Column.low else f r + Column.lift) 128
  | 0, h => by
    unfold crossAll
    show zero1 (ix2 z l) + sum8 _ (ix2 z l) = _
    rw [zero1_apply, zero_add, sum8_apply, Finset.sum_range]
    refine Finset.sum_congr rfl fun (r : Fin 8) _ => ?_
    rw [(crossTo_apply X O rv _ _ 0 _ r l 16 _).2, firstPrev_apply, rows8_apply, hf]
    simp only [Nat.zero_add]
  | k + 1, h => by
    unfold crossAll
    show crossAll X O rv E k _ (ix2 z l) + sum8 _ (ix2 z l) = _
    rw [crossAll_apply X O rv E z l f hf k, sum8_apply, Nat.mul_succ 8 (k + 1), Finset.sum_range_add]
    refine congrArg (_ + ·) (((Finset.sum_range (n := 8) _).trans (Finset.sum_congr rfl fun (r : Fin 8) _ => ?_)).symm)
    rw [(crossTo_apply X O rv _ _ (8 * (k + 1)) _ r l 16 _).2, raised_apply, rows8_apply, hf, if_neg (by omega)]

/-! ## What the body leaves -/

theorem shr_weighted (X : Vec Ideal S1x64x128x256 .f32) (l : Fin 256) (r p : ℕ) (hr : r < 64) (hp : p < 128) :
    shr (weighted X) (weightSum X) l r p = Column.share (col X l) (128 * r + p) := by
  rw [shr, weighted_apply X l r p hr hp, weightSum_apply, Column.share]

/-- The magnitude the body gathers is the column's at its crossing. -/
theorem gathered_apply (X : Vec Ideal S1x64x128x256 .f32) (R : Vec Ideal S1x1x256 .f32) (z : Fin 1) (l : Fin 256) :
    gathered X R (ix2 z l) = Column.crossed (col X l) (R (ix3 0 0 l)) := by
  unfold gathered gatheredFrom
  rw [crossAll_apply X _ _ _ z l (fun r => ∑ i ∈ range (128 * r), Column.share (col X l) i) _ 7]
  · rw [drawn_apply, Column.crossed, show (8192 : ℕ) = 128 * 64 from rfl, show 8 * (7 + 1) = 64 from rfl, sum_rows]
    refine Finset.sum_congr rfl fun r hr => Finset.sum_congr rfl fun p hp => ?_
    have hr := Finset.mem_range.1 hr
    have hp := Finset.mem_range.1 hp
    have ht : ∀ q < 128, thr (scanBlocks (weighted X) (weightSum X) 8 (Nat.le_refl _)) l r (∑ i ∈ range (128 * r), Column.share (col X l) i) q
        = Column.cum (col X l) (128 * r + q) := by
      intro q hq
      rw [thr, scanBlocks_apply _ _ l 8 _ r q (by omega) hq, if_pos (by omega), Column.cum, Nat.add_assoc, Finset.sum_range_add _ (128 * r) (q + 1),
        add_comm (∑ i ∈ range (128 * r), Column.share (col X l) i)]
      refine congrArg (· + (∑ i ∈ range (128 * r), Column.share (col X l) i) + Column.lift) (Finset.sum_congr rfl fun i hi => shr_weighted X l r i (by omega) ?_)
      have := Finset.mem_range.1 hi
      omega
    rw [ht p hp, col_at X l r p hp]
    have hb : prior (if r = 0 then Column.low else (∑ i ∈ range (128 * r), Column.share (col X l) i) + Column.lift)
        (thr (scanBlocks (weighted X) (weightSum X) 8 (Nat.le_refl _)) l r (∑ i ∈ range (128 * r), Column.share (col X l) i)) p
        = Column.before (col X l) (128 * r + p) := by
      rcases Nat.eq_zero_or_pos p with h0 | h0
      · subst h0
        rw [prior, if_pos rfl, Column.before, Nat.add_zero]
        by_cases h : r = 0
        · rw [if_pos h, if_pos (by omega)]
        · rw [if_neg h, if_neg (by omega)]
      · rw [prior, if_neg (by omega), ht _ (by omega), ← Column.before_succ, show 128 * r + (p - 1) + 1 = 128 * r + p by omega]
    rw [hb]
  · intro r
    rw [starts_apply, sum_rows]
    refine Finset.sum_congr rfl fun i hi => Finset.sum_congr rfl fun p hp => shr_weighted X l i p ?_ (Finset.mem_range.1 hp)
    have := Finset.mem_range.1 hi
    have := r.isLt
    omega

theorem kept_apply (g : FVec Ideal S1x256 .f32) (x : Vec Ideal S1x1x128x256 .f32) (z w : Fin 1) (p : Fin 128) (l : Fin 256) :
    kept g x (ix4 z w p l) = if g (ix2 0 l) ≤ mag (x (ix4 0 0 p l)) then x (ix4 0 0 p l) else 0 := by
  unfold kept
  rw [shapeCast_apply _ _ _ (ix2 p l) (by simp [Shape.rowMajor_val_two, Shape.rowMajor_val_four])]
  have hx : shapeCast S128x256 x shapeCasts_S1x1x128x256_S128x256 (ix2 p l) = x (ix4 0 0 p l) :=
    shapeCast_apply _ _ _ _ (by simp [Shape.rowMajor_val_two, Shape.rowMajor_val_four])
  have hg : broadcastTo S128x256 g broadcasts_S1x256_S128x256 (ix2 p l) = g (ix2 0 l) :=
    broadcastTo_apply _ _ _ (ix2 0 l) (by intro a; match a with | 0 => rfl | 1 => rfl)
  show Scalar.select (Ideal.cmp .oge (mag (shapeCast S128x256 x _ (ix2 p l))) (broadcastTo S128x256 g _ (ix2 p l))) (shapeCast S128x256 x _ (ix2 p l))
    (Ideal.ofBits .f32 0x00000000#32) = _
  rw [hx, hg, Column.zero_eq]
  by_cases h : g (ix2 0 l) ≤ mag (x (ix4 0 0 p l)) <;> simp [Scalar.select, Ideal.cmp, h]

theorem keptOut_apply (X O : Vec Ideal S1x64x128x256 .f32) (g : FVec Ideal S1x256 .f32) (l : Fin 256) (r p : ℕ) (hr : r < 64) (hp : p < 128) :
    ∀ n h, el (keptOut X g O n h) l r p = if r < n then (if g (ix2 0 l) ≤ mag (el X l r p) then el X l r p else 0) else el O l r p
  | 0, _ => by simp [keptOut]
  | n + 1, h => by
    rw [keptOut]
    refine (el_paste _ (inbR (a := n) h) _ l r p hr hp).trans ?_
    rw [keptOut_apply X O g l r p hr hp n]
    by_cases hc : n ≤ r ∧ r < n + 1
    · obtain rfl : r = n := by omega
      rw [dif_pos ⟨hc, Nat.zero_le _, by omega⟩, kept_apply, row_apply, if_pos (show r < r + 1 by omega)]
      rfl
    · rw [dif_neg (fun hx => hc hx.1)]
      by_cases h2 : r < n
      · rw [if_pos h2, if_pos (show r < n + 1 by omega)]
      · rw [if_neg h2, if_neg (show ¬ r < n + 1 by omega)]

/-- What the body leaves at an element: the input's there if its magnitude is at least the one at the crossing, and otherwise zero. -/
theorem bandOut_apply (X : Vec Ideal S1x64x128x256 .f32) (R : Vec Ideal S1x1x256 .f32) (r : Fin 64) (p : Fin 128) (l : Fin 256) :
    bandOut X R (ix4 0 r p l)
      = if Column.crossed (col X l) (R (ix3 0 0 l)) ≤ mag (X (ix4 0 r p l)) then X (ix4 0 r p l) else 0 := by
  rw [← el_fin (bandOut X R) l r p, bandOut, keptOut_apply X X _ l r.val p.val r.isLt p.isLt, if_pos r.isLt, gathered_apply, el_fin]

end Cert.KernelIdeal.Band

end
-- ==== Proof.Array.lean ====
/- The kernel's result array, over the extended reals: every element from its own column and the drawn value of that column. -/
module

public import proofs.«01_k».proof.Proof.Run
public import proofs.«01_k».proof.Proof.Scan
public import Idealize.ShloMosaic.Lib.Pipeline.ValueKit.Geometry
public import Idealize.ShloMosaic.Lib.StableHlo.RunRead

@[expose] public section

noncomputable section

namespace Cert.KernelIdeal.Band

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The blocks at coordinates -/

theorem index0 : ∀ t : Fin cfg0.N, win0_0.index t = ![t.val / 8, 0, 0, t.val % 8] := (by decide +kernel : ∀ t : Fin grid0.N, _)
theorem index1 : ∀ t : Fin cfg0.N, win0_1.index t = ![t.val / 8, 0, t.val % 8] := (by decide +kernel : ∀ t : Fin grid0.N, _)
theorem index2 : ∀ t : Fin cfg0.N, win0_2.index t = ![t.val / 8, 0, 0, t.val % 8] := (by decide +kernel : ∀ t : Fin grid0.N, _)

/-- The magnitudes of a column of the whole array. -/
def colOf (X : Vec Ideal S4x64x128x2048 .f32) (b : Fin 4) (L : Fin 2048) (i : ℕ) : EReal :=
  if h : i / 128 < 64 ∧ i % 128 < 128 then mag (X (ix4 b ⟨i / 128, h.1⟩ ⟨i % 128, h.2⟩ L)) else 0

/-- The result array of an input array and drawn values. -/
def bandArray (X : Vec Ideal S4x64x128x2048 .f32) (R : Vec Ideal S4x1x2048 .f32) : Vec Ideal S4x64x128x2048 .f32 := fun y =>
  if Column.crossed (colOf X (y 0) (y 3)) (R (ix3 (y 0) 0 (y 3))) ≤ mag (X y) then X y else 0

theorem bandArray_apply (X : Vec Ideal S4x64x128x2048 .f32) (R : Vec Ideal S4x1x2048 .f32) (b : Fin 4) (r : Fin 64) (p : Fin 128) (L : Fin 2048) :
    bandArray X R (ix4 b r p L)
      = if Column.crossed (colOf X b L) (R (ix3 b 0 L)) ≤ mag (X (ix4 b r p L)) then X (ix4 b r p L) else 0 := rfl

theorem N_eq : cfg0.N = 32 := by decide +kernel

/-- The column of a block is the array's. -/
theorem col_block (X : Vec Ideal S4x64x128x2048 .f32) (Y : Vec Ideal S1x64x128x256 .f32) (b : Fin 4) (L : Fin 2048) (l : Fin 256)
    (h : ∀ (r : Fin 64) (p : Fin 128), Y (ix4 0 r p l) = X (ix4 b r p L)) : col Y l = colOf X b L := by
  funext i
  unfold col el colOf
  by_cases hc : i / 128 < 64 ∧ i % 128 < 128
  · rw [dif_pos hc, dif_pos hc, h]
  · rw [dif_neg hc, dif_neg hc]
    simp [mag]

theorem row_lt (t : Fin cfg0.N) : t.val / 8 < 4 := by
  have : t.val < 32 := lt_of_lt_of_eq t.isLt N_eq
  omega

theorem lane_lt (t : Fin cfg0.N) (l : Fin 256) : 256 * (t.val % 8) + l.val < 2048 := by
  have := l.isLt
  omega

/-- Where an element of the blocks of a point lies in the arrays. -/
abbrev place (t : Fin cfg0.N) (r : Fin 64) (p : Fin 128) (l : Fin 256) : S4x64x128x2048.Idx := ix4 ⟨t.val / 8, row_lt t⟩ r p ⟨256 * (t.val % 8) + l.val, lane_lt t l⟩

theorem emb0 (t : Fin cfg0.N) (r : Fin 64) (p : Fin 128) (l : Fin 256) : ((cfg0.win 0).blk t).view.emb (ix4 0 r p l) = place t r p l := by
  have e0 := index0 t
  refine funext fun a => Fin.ext ?_
  match a with
  | ⟨0, _⟩ => show win0_0.index t 0 * 1 + 1 * 0 = t.val / 8; rw [e0]; simp
  | ⟨1, _⟩ => show win0_0.index t 1 * 64 + 1 * r.val = r.val; rw [e0]; simp
  | ⟨2, _⟩ => show win0_0.index t 2 * 128 + 1 * p.val = p.val; rw [e0]; simp
  | ⟨3, _⟩ => show win0_0.index t 3 * 256 + 1 * l.val = 256 * (t.val % 8) + l.val; rw [e0]; simp; omega

theorem emb1 (t : Fin cfg0.N) (l : Fin 256) :
    ((cfg0.win 1).blk t).view.emb (ix3 0 0 l) = ix3 ⟨t.val / 8, row_lt t⟩ 0 ⟨256 * (t.val % 8) + l.val, lane_lt t l⟩ := by
  have e1 := index1 t
  refine funext fun a => Fin.ext ?_
  match a with
  | ⟨0, _⟩ => show win0_1.index t 0 * 1 + 1 * 0 = t.val / 8; rw [e1]; simp
  | ⟨1, _⟩ => show win0_1.index t 1 * 1 + 1 * 0 = 0; rw [e1]; simp
  | ⟨2, _⟩ => show win0_1.index t 2 * 256 + 1 * l.val = 256 * (t.val % 8) + l.val; rw [e1]; simp; omega

theorem emb2 (t : Fin cfg0.N) (r : Fin 64) (p : Fin 128) (l : Fin 256) : ((cfg0.win 2).blk t).view.emb (ix4 0 r p l) = place t r p l := by
  have e2 := index2 t
  refine funext fun a => Fin.ext ?_
  match a with
  | ⟨0, _⟩ => show win0_2.index t 0 * 1 + 1 * 0 = t.val / 8; rw [e2]; simp
  | ⟨1, _⟩ => show win0_2.index t 1 * 64 + 1 * r.val = r.val; rw [e2]; simp
  | ⟨2, _⟩ => show win0_2.index t 2 * 128 + 1 * p.val = p.val; rw [e2]; simp
  | ⟨3, _⟩ => show win0_2.index t 3 * 256 + 1 * l.val = 256 * (t.val % 8) + l.val; rw [e2]; simp; omega

/-- The blocks of any array contents, read at coordinates. -/
theorem read0 (X : Vec Ideal S4x64x128x2048 .f32) (t : Fin cfg0.N) (r : Fin 64) (p : Fin 128) (l : Fin 256) :
    (((cfg0.win 0).blk t).view.read (Elt Ideal) X : Vec Ideal S1x64x128x256 .f32) (ix4 0 r p l) = X (place t r p l) :=
  congrArg X (emb0 t r p l)

theorem read1 (R : Vec Ideal S4x1x2048 .f32) (t : Fin cfg0.N) (l : Fin 256) :
    (((cfg0.win 1).blk t).view.read (Elt Ideal) R : Vec Ideal S1x1x256 .f32) (ix3 0 0 l)
      = R (ix3 ⟨t.val / 8, row_lt t⟩ 0 ⟨256 * (t.val % 8) + l.val, lane_lt t l⟩) :=
  congrArg R (emb1 t l)

theorem read2 (X : Vec Ideal S4x64x128x2048 .f32) (t : Fin cfg0.N) (r : Fin 64) (p : Fin 128) (l : Fin 256) :
    (((cfg0.win 2).blk t).view.read (Elt Ideal) X : Vec Ideal S1x64x128x256 .f32) (ix4 0 r p l) = X (place t r p l) :=
  congrArg X (emb2 t r p l)

/-- The body's band of a point's blocks is that block of the result array. -/
theorem band_block (X : Vec Ideal S4x64x128x2048 .f32) (R : Vec Ideal S4x1x2048 .f32) (t : Fin cfg0.N) :
    bandOut (((cfg0.win 0).blk t).view.read (Elt Ideal) X : Vec Ideal S1x64x128x256 .f32) (((cfg0.win 1).blk t).view.read (Elt Ideal) R : Vec Ideal S1x1x256 .f32)
      = (((cfg0.win 2).blk t).view.read (Elt Ideal) (bandArray X R) : Vec Ideal S1x64x128x256 .f32) := by
  funext y
  obtain ⟨z, r, p, l, rfl⟩ : ∃ (z : Fin 1) (r : Fin 64) (p : Fin 128) (l : Fin 256), y = ix4 z r p l := ⟨y 0, y 1, y 2, y 3, eq_ix4 y⟩
  obtain rfl : z = 0 := Subsingleton.elim _ _
  rw [bandOut_apply, read2, bandArray_apply, read0, read1, col_block X _ ⟨t.val / 8, row_lt t⟩ ⟨256 * (t.val % 8) + l.val, lane_lt t l⟩ l fun r p => read0 X t r p l]

theorem flushed_eq (c : Dev nD) (t : Fin cfg0.N) :
    (bandDats m 0 c).flushed 2 t = ((cfg0.win 2).blk t).view.read (Elt Ideal) (bandArray (V m c main_v9) (V m c main_v8)) := by
  show (cfg0.win 2).cut (grid0.coords t) ((bandDats m 0 c).after 2 t) = _
  rw [bandDats_after2]
  exact band_block (V m c main_v9) (V m c main_v8) t

/-- The result array after the run. -/
theorem final (c : Dev nD) : (bandDats m 0 c).arrAt 2 cfg0.N = bandArray (V m c main_v9) (V m c main_v8) :=
  (bandDats m 0 c).arrAt_eq_of_cover 2 _ (fun t _ => flushed_eq m c t) (Pipeline.Window.Covers.cover (cfg0.win 2) (by decide +kernel) (Memref.isWhole_whole _))

/-! ## The arrays the region finds, and the result -/

theorem reshaped8 (W : Valuation τ sig (Elt Ideal)) :
    StableHlo.after hostOps0_2 W (Proc.devRef .tc main_v8) = shapeCast S4x1x2048 (W (Proc.devRef .tc main_v7)) shapeCasts_S4x2048_S4x1x2048 := by
  after_reads_simp
  rfl

theorem reshaped9 (W : Valuation τ sig (Elt Ideal)) :
    StableHlo.after hostOps0_2 W (Proc.devRef .tc main_v9) = shapeCast S4x64x128x2048 (W (Proc.devRef .tc main_arg0)) shapeCasts_S4x8192x2048_S4x64x128x2048 := by
  after_reads_simp
  rfl

theorem kept0 (W : Valuation τ sig (Elt Ideal)) : StableHlo.after hostOps0_2 W (Proc.devRef .tc main_arg0) = W (Proc.devRef .tc main_arg0) := by
  after_reads_simp

theorem reshaped11 (W : Valuation τ sig (Elt Ideal)) :
    StableHlo.after hostOps1 W (Proc.devRef .tc main_v11) = shapeCast S4x8192x2048 (W (Proc.devRef .tc main_v10)) shapeCasts_S4x64x128x2048_S4x8192x2048 := by
  after_reads_simp
  rfl

/-- The buffers after the drawing. -/
def drawnAt (c : Dev nD) : Valuation τ sig (Elt Ideal) := StableHlo.after hostOps0_1 (StableHlo.after hostOps0 fun b => m (c, b))

/-- The drawn values. -/
def drawn (c : Dev nD) : Vec Ideal S4x2048 .f32 := drawnAt m c (Proc.devRef .tc main_v7)

theorem V0_eq (c : Dev nD) : V0 m c = StableHlo.after hostOps0_2 (drawnAt m c) := by
  unfold drawnAt
  rw [← StableHlo.after_append, ← StableHlo.after_append]
  rfl

/-- The argument. -/
abbrev arg (c : Dev nD) : Vec Ideal S4x8192x2048 .f32 := m ((c : Thread nD τ).loc main_arg0)

theorem V_v8 (c : Dev nD) : V m c main_v8 = shapeCast S4x1x2048 (drawn m c) shapeCasts_S4x2048_S4x1x2048 := by
  show V0 m c (Proc.devRef .tc main_v8) = _
  rw [V0_eq, reshaped8, drawn]

theorem V_v9 (c : Dev nD) : V m c main_v9 = shapeCast S4x64x128x2048 (arg m c) shapeCasts_S4x8192x2048_S4x64x128x2048 := by
  have h := V_main_arg0 m c
  have h' : V0 m c (Proc.devRef .tc main_arg0) = arg m c := h
  rw [V0_eq, kept0] at h'
  show V0 m c (Proc.devRef .tc main_v9) = _
  rw [V0_eq, reshaped9, h']

/-- The magnitudes of a column of the argument. -/
def column (X : Vec Ideal S4x8192x2048 .f32) (b : Fin 4) (L : Fin 2048) (i : ℕ) : EReal :=
  if h : i < 8192 then mag (X (ix3 b ⟨i, h⟩ L)) else 0

/-- The result of an argument and drawn values. -/
def result (X : Vec Ideal S4x8192x2048 .f32) (R : Vec Ideal S4x2048 .f32) : Vec Ideal S4x8192x2048 .f32 := fun y =>
  if Column.crossed (column X (y 0) (y 2)) (R (ix2 (y 0) (y 2))) ≤ mag (X y) then X y else 0

theorem split_apply (X : Vec Ideal S4x8192x2048 .f32) (b : Fin 4) (r : Fin 64) (p : Fin 128) (L : Fin 2048) (i : Fin 8192) (hi : i.val = 128 * r.val + p.val) :
    shapeCast S4x64x128x2048 X shapeCasts_S4x8192x2048_S4x64x128x2048 (ix4 b r p L) = X (ix3 b i L) :=
  shapeCast_apply _ _ _ _ (by
    rw [Shape.rowMajor_val_three, Shape.rowMajor_val_four]
    show (b.val * 8192 + i.val) * 2048 + L.val = ((b.val * 64 + r.val) * 128 + p.val) * 2048 + L.val
    omega)

theorem joined (X : Vec Ideal S4x8192x2048 .f32) (R : Vec Ideal S4x2048 .f32) :
    shapeCast S4x8192x2048 (bandArray (shapeCast S4x64x128x2048 X shapeCasts_S4x8192x2048_S4x64x128x2048) (shapeCast S4x1x2048 R shapeCasts_S4x2048_S4x1x2048))
      shapeCasts_S4x64x128x2048_S4x8192x2048 = result X R := by
  funext y
  obtain ⟨b, i, L, rfl⟩ : ∃ (b : Fin 4) (i : Fin 8192) (L : Fin 2048), y = ix3 b i L := ⟨y 0, y 1, y 2, eq_ix3 y⟩
  have hr : i.val / 128 < 64 := by have := i.isLt; omega
  have hp : i.val % 128 < 128 := Nat.mod_lt _ (by norm_num)
  rw [shapeCast_apply _ _ _ (ix4 b ⟨i.val / 128, hr⟩ ⟨i.val % 128, hp⟩ L) (by
    rw [Shape.rowMajor_val_three, Shape.rowMajor_val_four]
    show ((b.val * 64 + i.val / 128) * 128 + i.val % 128) * 2048 + L.val = (b.val * 8192 + i.val) * 2048 + L.val
    omega), bandArray_apply, split_apply X b _ _ L i (by show i.val = 128 * (i.val / 128) + i.val % 128; omega),
    shapeCast_apply R _ _ (ix2 b L) (by
      rw [Shape.rowMajor_val_two, Shape.rowMajor_val_three]
      show b.val * 2048 + L.val = (b.val * 1 + 0) * 2048 + L.val
      omega)]
  have hc : colOf (shapeCast S4x64x128x2048 X shapeCasts_S4x8192x2048_S4x64x128x2048) b L = column X b L := by
    funext k
    unfold colOf column
    by_cases hk : k < 8192
    · rw [dif_pos hk, dif_pos ⟨by omega, Nat.mod_lt _ (by norm_num)⟩, split_apply X b _ _ L ⟨k, hk⟩ (by show k = 128 * (k / 128) + k % 128; omega)]
    · rw [dif_neg hk, dif_neg (by omega)]
  rw [hc]
  rfl

theorem main_v11_mem : main_v11 ∈ Pipeline.restRefs sig spec0 := by decide

/-- The kernel ends with its result array at `result`, its argument as it was. -/
theorem band_value : θ_run defs (onTc (τ := τ) (main (F := Ideal))) ⟨m, fun _ => 0, ρ⟩ (fun r => ∀ c : Dev nD,
      r.2.mem ((c.tc : Thread nD τ).loc main_v11) = result (arg m c) (drawn m c)
      ∧ r.2.mem ((c.tc : Thread nD τ).loc main_arg0) = m ((c.tc : Thread nD τ).loc main_arg0)) := by
  refine (θ_run defs _ _).mono (fun r h c => ⟨?_, h.2.1 c⟩) (θ_run_and (band_run m ρ) (band_frame m ρ))
  refine ((h.1.1 c).2 main_v11 main_v11_mem).trans ?_
  unfold Pipeline.afterTail₀
  show StableHlo.after hostOps1 _ (Proc.devRef .tc main_v11) = _
  rw [reshaped11]
  have hw := Pipeline.withArrays_arr spec0 (by decide) c (V0 m c) (fun w => (bandDats m 0 c).arrAt w cfg0.N) 2
  refine (congrArg (fun A => shapeCast S4x8192x2048 A shapeCasts_S4x64x128x2048_S4x8192x2048) (hw.trans (final m c))).trans ?_
  rw [V_v9, V_v8, joined]

end Cert.KernelIdeal.Band

end
-- ==== Proof.RefLine.lean ====
/- The reference's @main as one straight line of operations over the whole arrays: the ones before the random draw, the
   draw itself in seven stretches, and the ones after it. `main_eq` says that @main is that line. -/
module

public import Idealize.ShloMosaic.Lib.StableHlo.Run
public import Idealize.ShloMosaic.Lib.Pipeline.Regions
public import proofs.«01_k».proof.Proof.Gen.ReferenceIdeal

@[expose] public section

noncomputable section

namespace Cert.ReferenceIdeal.Line

open Cert.ReferenceIdeal Cert.ReferenceIdeal.Facts₀ Cert.ReferenceIdeal.Facts
open Idealize.ShloMosaic Idealize.ShloMosaic.TcCoe Idealize.ShloMosaic.StableHlo Idealize.SL.Sem

variable {F : FTy → Type} [FloatOps F]

/-- @main before the draw. -/
abbrev opsHead : List (HloOp τ sig (Elt F)) :=
  [ unary main_arg0 main_v0 (Host.absf : (⟨S4x8192x2048, .f32⟩ : BufTy).Contents (Elt F) → (⟨S4x8192x2048, .f32⟩ : BufTy).Contents (Elt F)),
    nullary main_cst (constant S_ .f32 0x00000000#32),
    binary main_v0 main_cst main_v1 ((fun x v => Host.reduceAdd x v reducesTo_S4x8192x2048_S4x2048_d1 h_S_) : (⟨S4x8192x2048, .f32⟩ : BufTy).Contents (Elt F) → (⟨S_, .f32⟩ : BufTy).Contents (Elt F) → (⟨S4x2048, .f32⟩ : BufTy).Contents (Elt F)),
    unary main_v1 main_v2 (broadcastInDim S4x1x2048 ![0, 2] bcast_S4x2048_S4x1x2048_0_2 : (⟨S4x2048, .f32⟩ : BufTy).Contents (Elt F) → (⟨S4x1x2048, .f32⟩ : BufTy).Contents (Elt F)),
    unary main_v2 main_v3 (broadcastInDim S4x8192x2048 ![0, 1, 2] bcast_S4x1x2048_S4x8192x2048_0_1_2 : (⟨S4x1x2048, .f32⟩ : BufTy).Contents (Elt F) → (⟨S4x8192x2048, .f32⟩ : BufTy).Contents (Elt F)),
    binary main_v0 main_v3 main_v4 (Host.divf : (⟨S4x8192x2048, .f32⟩ : BufTy).Contents (Elt F) → (⟨S4x8192x2048, .f32⟩ : BufTy).Contents (Elt F) → (⟨S4x8192x2048, .f32⟩ : BufTy).Contents (Elt F)),
    nullary main_cst_0 (constant S_ .f32 0x40000000#32),
    unary main_cst_0 main_v5 (broadcastInDim S4x8192x2048 ![] bcast_S_S4x8192x2048 : (⟨S_, .f32⟩ : BufTy).Contents (Elt F) → (⟨S4x8192x2048, .f32⟩ : BufTy).Contents (Elt F)),
    binary main_v4 main_v5 main_v6 (mulf : (⟨S4x8192x2048, .f32⟩ : BufTy).Contents (Elt F) → (⟨S4x8192x2048, .f32⟩ : BufTy).Contents (Elt F) → (⟨S4x8192x2048, .f32⟩ : BufTy).Contents (Elt F)),
    unary main_v6 main_v7 (Host.exp : (⟨S4x8192x2048, .f32⟩ : BufTy).Contents (Elt F) → (⟨S4x8192x2048, .f32⟩ : BufTy).Contents (Elt F)),
    nullary main_cst_1 (constant S_ .f32 0x00000000#32),
    binary main_v7 main_cst_1 main_v8 ((fun x v => Host.reduceAdd x v reducesTo_S4x8192x2048_S4x2048_d1 h_S_) : (⟨S4x8192x2048, .f32⟩ : BufTy).Contents (Elt F) → (⟨S_, .f32⟩ : BufTy).Contents (Elt F) → (⟨S4x2048, .f32⟩ : BufTy).Contents (Elt F)),
    unary main_v8 main_v9 (broadcastInDim S4x1x2048 ![0, 2] bcast_S4x2048_S4x1x2048_0_2 : (⟨S4x2048, .f32⟩ : BufTy).Contents (Elt F) → (⟨S4x1x2048, .f32⟩ : BufTy).Contents (Elt F)),
    unary main_v9 main_v10 (broadcastInDim S4x8192x2048 ![0, 1, 2] bcast_S4x1x2048_S4x8192x2048_0_1_2 : (⟨S4x1x2048, .f32⟩ : BufTy).Contents (Elt F) → (⟨S4x8192x2048, .f32⟩ : BufTy).Contents (Elt F)),
    binary main_v7 main_v10 main_v11 (Host.divf : (⟨S4x8192x2048, .f32⟩ : BufTy).Contents (Elt F) → (⟨S4x8192x2048, .f32⟩ : BufTy).Contents (Elt F) → (⟨S4x8192x2048, .f32⟩ : BufTy).Contents (Elt F)),
    TRef.nullary (.of main_call0_call0_cst : TRef sig ⟨S_, .f32⟩) (constant S_ .f32 0x00000000#32),
    TRef.unary (.of main_call0_call0_cst : TRef sig ⟨S_, .f32⟩) (.of main_call0_call0_v0 : TRef sig ⟨S_, .f32⟩) (broadcastInDim S_ ![] bcast_S_S_),
    TRef.binary (.of main_v11 : TRef sig ⟨S4x8192x2048, .f32⟩) (.of main_call0_call0_v0 : TRef sig ⟨S_, .f32⟩) (.of main_v12 : TRef sig ⟨S4x8192x2048, .f32⟩) (fun x v => Host.reduceWindowAdd ![1, 8192, 1] ![1, 1, 1] ![0, 8191, 0] ![0, 0, 0] x v reduceWindows_S4x8192x2048_S4x8192x2048_w1s1p0_0_w8192s1p8191_0_w1s1p0_0 h_S_),
    nullary main_cst_2 (constant S_ .f32 0x3A83126F#32),
    unary main_cst_2 main_v13 (broadcastInDim S4x8192x2048 ![] bcast_S_S4x8192x2048 : (⟨S_, .f32⟩ : BufTy).Contents (Elt F) → (⟨S4x8192x2048, .f32⟩ : BufTy).Contents (Elt F)),
    binary main_v12 main_v13 main_v14 (addf : (⟨S4x8192x2048, .f32⟩ : BufTy).Contents (Elt F) → (⟨S4x8192x2048, .f32⟩ : BufTy).Contents (Elt F) → (⟨S4x8192x2048, .f32⟩ : BufTy).Contents (Elt F)),
    nullary main_c (constantI S_ 32 42#32),
    nullary main_c_3 (constantI S_ 32 32#32),
    binary main_c main_c_3 main_v15 (Host.shrui : (⟨S_, .i32⟩ : BufTy).Contents (Elt F) → (⟨S_, .i32⟩ : BufTy).Contents (Elt F) → (⟨S_, .i32⟩ : BufTy).Contents (Elt F)),
    unary main_v15 main_v16 (id : (⟨S_, .i32⟩ : BufTy).Contents (Elt F) → (⟨S_, .i32⟩ : BufTy).Contents (Elt F)),
    unary main_v16 main_v17 (broadcastInDim S1 ![] bcast_S_S1 : (⟨S_, .i32⟩ : BufTy).Contents (Elt F) → (⟨S1, .i32⟩ : BufTy).Contents (Elt F)),
    nullary main_c_4 (constantI S_ 32 4294967295#32),
    binary main_c main_c_4 main_v18 (andi : (⟨S_, .i32⟩ : BufTy).Contents (Elt F) → (⟨S_, .i32⟩ : BufTy).Contents (Elt F) → (⟨S_, .i32⟩ : BufTy).Contents (Elt F)),
    unary main_v18 main_v19 (id : (⟨S_, .i32⟩ : BufTy).Contents (Elt F) → (⟨S_, .i32⟩ : BufTy).Contents (Elt F)),
    unary main_v19 main_v20 (broadcastInDim S1 ![] bcast_S_S1 : (⟨S_, .i32⟩ : BufTy).Contents (Elt F) → (⟨S1, .i32⟩ : BufTy).Contents (Elt F)),
    binary main_v17 main_v20 main_v21 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_cst_5 (constant S_ .f32 0x00000000#32),
    nullary main_cst_6 (constant S_ .f32 0x3F800000#32) ]

theorem opsHead_sub : (opsHead : List (HloOp τ sig (Elt F))).Forall fun op => op.bufs ⊆ tcRefs τ sig :=
  ⟨unary_bufs_sub .., nullary_bufs_sub .., binary_bufs_sub .., unary_bufs_sub .., unary_bufs_sub .., binary_bufs_sub .., nullary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub ..⟩

/-- The references they write. -/
abbrev opsHead_W : List (Ref sig .tc) :=
  [main_v0, main_cst, main_v1, main_v2, main_v3, main_v4, main_cst_0, main_v5, main_v6, main_v7, main_cst_1, main_v8, main_v9, main_v10, main_v11, main_call0_call0_cst, main_call0_call0_v0, main_v12, main_cst_2, main_v13, main_v14, main_c, main_c_3, main_v15, main_v16, main_v17, main_c_4, main_v18, main_v19, main_v20, main_v21, main_cst_5, main_cst_6]

theorem opsHead_writes : (opsHead : List (HloOp τ sig (Elt F))).map HloOp.writes = opsHead_W.map fun w => {Proc.devRef (τ := τ) .tc w} := rfl

theorem opsHead_fresh : (opsHead : List (HloOp τ sig (Elt F))).map HloOp.fresh = (opsHead (F := F)).map fun _ => (∅ : Finset (DevRef τ sig)) := rfl

/-- The draw, operations 1 to 22 of 262. -/
abbrev opsDraw0 : List (HloOp τ sig (Elt F)) :=
  [ TRef.unary (.of main_cst_5 : TRef sig ⟨S_, .f32⟩) (.of main_call1_v0 : TRef sig ⟨S_, .f32⟩) id,
    TRef.unary (.of main_cst_6 : TRef sig ⟨S_, .f32⟩) (.of main_call1_v1 : TRef sig ⟨S_, .f32⟩) id,
    TRef.unary (.of main_call1_v0 : TRef sig ⟨S_, .f32⟩) (.of main_call1_v2 : TRef sig ⟨S1x1, .f32⟩) (broadcastInDim S1x1 ![] bcast_S_S1x1),
    TRef.unary (.of main_call1_v1 : TRef sig ⟨S_, .f32⟩) (.of main_call1_v3 : TRef sig ⟨S1x1, .f32⟩) (broadcastInDim S1x1 ![] bcast_S_S1x1),
    TRef.unary (.of main_v21 : TRef sig ⟨S2, .i32⟩) (.of main_call1_v4 : TRef sig ⟨S1, .i32⟩) (extractStridedSlice S1 ![0] · slices_S2_S1_0),
    TRef.reshape (.of main_call1_v4 : TRef sig ⟨S1, .i32⟩) (.of main_call1_v5 : TRef sig ⟨S_, .i32⟩) (rfl : (.i32 : EltTy) = .i32) shapeCasts_S1_S_,
    TRef.unary (.of main_v21 : TRef sig ⟨S2, .i32⟩) (.of main_call1_v6 : TRef sig ⟨S1, .i32⟩) (extractStridedSlice S1 ![1] · slices_S2_S1_1),
    TRef.reshape (.of main_call1_v6 : TRef sig ⟨S1, .i32⟩) (.of main_call1_v7 : TRef sig ⟨S_, .i32⟩) (rfl : (.i32 : EltTy) = .i32) shapeCasts_S1_S_,
    TRef.nullary (.of main_call1_v8 : TRef sig ⟨S4x2048, .i64⟩) (iotaInDim S4x2048 64 0),
    TRef.nullary (.of main_call1_v9 : TRef sig ⟨S4x2048, .i64⟩) (iotaInDim S4x2048 64 1),
    TRef.nullary (.of main_call1_c : TRef sig ⟨S_, .i64⟩) (constantI S_ 64 2048#64),
    TRef.unary (.of main_call1_c : TRef sig ⟨S_, .i64⟩) (.of main_call1_v10 : TRef sig ⟨S4x2048, .i64⟩) (broadcastInDim S4x2048 ![] bcast_S_S4x2048),
    TRef.binary (.of main_call1_v10 : TRef sig ⟨S4x2048, .i64⟩) (.of main_call1_v8 : TRef sig ⟨S4x2048, .i64⟩) (.of main_call1_v11 : TRef sig ⟨S4x2048, .i64⟩) muli,
    TRef.nullary (.of main_call1_c_0 : TRef sig ⟨S_, .i64⟩) (constantI S_ 64 1#64),
    TRef.unary (.of main_call1_c_0 : TRef sig ⟨S_, .i64⟩) (.of main_call1_v12 : TRef sig ⟨S4x2048, .i64⟩) (broadcastInDim S4x2048 ![] bcast_S_S4x2048),
    TRef.binary (.of main_call1_v12 : TRef sig ⟨S4x2048, .i64⟩) (.of main_call1_v9 : TRef sig ⟨S4x2048, .i64⟩) (.of main_call1_v13 : TRef sig ⟨S4x2048, .i64⟩) muli,
    TRef.binary (.of main_call1_v11 : TRef sig ⟨S4x2048, .i64⟩) (.of main_call1_v13 : TRef sig ⟨S4x2048, .i64⟩) (.of main_call1_v14 : TRef sig ⟨S4x2048, .i64⟩) addi,
    TRef.nullary (.of main_call1_c_1 : TRef sig ⟨S_, .i64⟩) (constantI S_ 64 32#64),
    TRef.unary (.of main_call1_c_1 : TRef sig ⟨S_, .i64⟩) (.of main_call1_v15 : TRef sig ⟨S4x2048, .i64⟩) (broadcastInDim S4x2048 ![] bcast_S_S4x2048),
    TRef.binary (.of main_call1_v14 : TRef sig ⟨S4x2048, .i64⟩) (.of main_call1_v15 : TRef sig ⟨S4x2048, .i64⟩) (.of main_call1_v16 : TRef sig ⟨S4x2048, .i64⟩) Host.shrui,
    TRef.unary (.of main_call1_v14 : TRef sig ⟨S4x2048, .i64⟩) (.of main_call1_v17 : TRef sig ⟨S4x2048, .i32⟩) (trunci 32 · natLt_32_64),
    TRef.unary (.of main_call1_v16 : TRef sig ⟨S4x2048, .i64⟩) (.of main_call1_v18 : TRef sig ⟨S4x2048, .i32⟩) (trunci 32 · natLt_32_64) ]

theorem opsDraw0_sub : (opsDraw0 : List (HloOp τ sig (Elt F))).Forall fun op => op.bufs ⊆ tcRefs τ sig :=
  ⟨unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub ..⟩

/-- The references they write. -/
abbrev opsDraw0_W : List (Ref sig .tc) :=
  [main_call1_v0, main_call1_v1, main_call1_v2, main_call1_v3, main_call1_v4, main_call1_v5, main_call1_v6, main_call1_v7, main_call1_v8, main_call1_v9, main_call1_c, main_call1_v10, main_call1_v11, main_call1_c_0, main_call1_v12, main_call1_v13, main_call1_v14, main_call1_c_1, main_call1_v15, main_call1_v16, main_call1_v17, main_call1_v18]

theorem opsDraw0_writes : (opsDraw0 : List (HloOp τ sig (Elt F))).map HloOp.writes = opsDraw0_W.map fun w => {Proc.devRef (τ := τ) .tc w} := rfl

theorem opsDraw0_fresh : (opsDraw0 : List (HloOp τ sig (Elt F))).map HloOp.fresh = (opsDraw0 (F := F)).map fun _ => (∅ : Finset (DevRef τ sig)) := rfl

/-- The draw, operations 23 to 65 of 262. -/
abbrev opsDraw1 : List (HloOp τ sig (Elt F)) :=
  [ TRef.binary (.of main_call1_v5 : TRef sig ⟨S_, .i32⟩) (.of main_call1_v7 : TRef sig ⟨S_, .i32⟩) (.of main_call1_call0_v0 : TRef sig ⟨S_, .i32⟩) xori,
    TRef.nullary (.of main_call1_call0_c : TRef sig ⟨S_, .i32⟩) (constantI S_ 32 466688986#32),
    TRef.binary (.of main_call1_call0_v0 : TRef sig ⟨S_, .i32⟩) (.of main_call1_call0_c : TRef sig ⟨S_, .i32⟩) (.of main_call1_call0_v1 : TRef sig ⟨S_, .i32⟩) xori,
    TRef.unary (.of main_call1_v5 : TRef sig ⟨S_, .i32⟩) (.of main_call1_call0_v2 : TRef sig ⟨S4x2048, .i32⟩) (broadcastInDim S4x2048 ![] bcast_S_S4x2048),
    TRef.binary (.of main_call1_v18 : TRef sig ⟨S4x2048, .i32⟩) (.of main_call1_call0_v2 : TRef sig ⟨S4x2048, .i32⟩) (.of main_call1_call0_v3 : TRef sig ⟨S4x2048, .i32⟩) addi,
    TRef.unary (.of main_call1_v7 : TRef sig ⟨S_, .i32⟩) (.of main_call1_call0_v4 : TRef sig ⟨S4x2048, .i32⟩) (broadcastInDim S4x2048 ![] bcast_S_S4x2048),
    TRef.binary (.of main_call1_v17 : TRef sig ⟨S4x2048, .i32⟩) (.of main_call1_call0_v4 : TRef sig ⟨S4x2048, .i32⟩) (.of main_call1_call0_v5 : TRef sig ⟨S4x2048, .i32⟩) addi,
    TRef.binary (.of main_call1_call0_v3 : TRef sig ⟨S4x2048, .i32⟩) (.of main_call1_call0_v5 : TRef sig ⟨S4x2048, .i32⟩) (.of main_call1_call0_v6 : TRef sig ⟨S4x2048, .i32⟩) addi,
    TRef.nullary (.of main_call1_call0_c_0 : TRef sig ⟨S_, .i32⟩) (constantI S_ 32 13#32),
    TRef.unary (.of main_call1_call0_c_0 : TRef sig ⟨S_, .i32⟩) (.of main_call1_call0_v7 : TRef sig ⟨S4x2048, .i32⟩) (broadcastInDim S4x2048 ![] bcast_S_S4x2048),
    TRef.binary (.of main_call1_call0_v5 : TRef sig ⟨S4x2048, .i32⟩) (.of main_call1_call0_v7 : TRef sig ⟨S4x2048, .i32⟩) (.of main_call1_call0_v8 : TRef sig ⟨S4x2048, .i32⟩) Host.shli,
    TRef.nullary (.of main_call1_call0_c_1 : TRef sig ⟨S_, .i32⟩) (constantI S_ 32 19#32),
    TRef.unary (.of main_call1_call0_c_1 : TRef sig ⟨S_, .i32⟩) (.of main_call1_call0_v9 : TRef sig ⟨S4x2048, .i32⟩) (broadcastInDim S4x2048 ![] bcast_S_S4x2048),
    TRef.binary (.of main_call1_call0_v5 : TRef sig ⟨S4x2048, .i32⟩) (.of main_call1_call0_v9 : TRef sig ⟨S4x2048, .i32⟩) (.of main_call1_call0_v10 : TRef sig ⟨S4x2048, .i32⟩) Host.shrui,
    TRef.binary (.of main_call1_call0_v8 : TRef sig ⟨S4x2048, .i32⟩) (.of main_call1_call0_v10 : TRef sig ⟨S4x2048, .i32⟩) (.of main_call1_call0_v11 : TRef sig ⟨S4x2048, .i32⟩) ori,
    TRef.binary (.of main_call1_call0_v6 : TRef sig ⟨S4x2048, .i32⟩) (.of main_call1_call0_v11 : TRef sig ⟨S4x2048, .i32⟩) (.of main_call1_call0_v12 : TRef sig ⟨S4x2048, .i32⟩) xori,
    TRef.binary (.of main_call1_call0_v6 : TRef sig ⟨S4x2048, .i32⟩) (.of main_call1_call0_v12 : TRef sig ⟨S4x2048, .i32⟩) (.of main_call1_call0_v13 : TRef sig ⟨S4x2048, .i32⟩) addi,
    TRef.nullary (.of main_call1_call0_c_2 : TRef sig ⟨S_, .i32⟩) (constantI S_ 32 15#32),
    TRef.unary (.of main_call1_call0_c_2 : TRef sig ⟨S_, .i32⟩) (.of main_call1_call0_v14 : TRef sig ⟨S4x2048, .i32⟩) (broadcastInDim S4x2048 ![] bcast_S_S4x2048),
    TRef.binary (.of main_call1_call0_v12 : TRef sig ⟨S4x2048, .i32⟩) (.of main_call1_call0_v14 : TRef sig ⟨S4x2048, .i32⟩) (.of main_call1_call0_v15 : TRef sig ⟨S4x2048, .i32⟩) Host.shli,
    TRef.nullary (.of main_call1_call0_c_3 : TRef sig ⟨S_, .i32⟩) (constantI S_ 32 17#32),
    TRef.unary (.of main_call1_call0_c_3 : TRef sig ⟨S_, .i32⟩) (.of main_call1_call0_v16 : TRef sig ⟨S4x2048, .i32⟩) (broadcastInDim S4x2048 ![] bcast_S_S4x2048),
    TRef.binary (.of main_call1_call0_v12 : TRef sig ⟨S4x2048, .i32⟩) (.of main_call1_call0_v16 : TRef sig ⟨S4x2048, .i32⟩) (.of main_call1_call0_v17 : TRef sig ⟨S4x2048, .i32⟩) Host.shrui,
    TRef.binary (.of main_call1_call0_v15 : TRef sig ⟨S4x2048, .i32⟩) (.of main_call1_call0_v17 : TRef sig ⟨S4x2048, .i32⟩) (.of main_call1_call0_v18 : TRef sig ⟨S4x2048, .i32⟩) ori,
    TRef.binary (.of main_call1_call0_v13 : TRef sig ⟨S4x2048, .i32⟩) (.of main_call1_call0_v18 : TRef sig ⟨S4x2048, .i32⟩) (.of main_call1_call0_v19 : TRef sig ⟨S4x2048, .i32⟩) xori,
    TRef.binary (.of main_call1_call0_v13 : TRef sig ⟨S4x2048, .i32⟩) (.of main_call1_call0_v19 : TRef sig ⟨S4x2048, .i32⟩) (.of main_call1_call0_v20 : TRef sig ⟨S4x2048, .i32⟩) addi,
    TRef.nullary (.of main_call1_call0_c_4 : TRef sig ⟨S_, .i32⟩) (constantI S_ 32 26#32),
    TRef.unary (.of main_call1_call0_c_4 : TRef sig ⟨S_, .i32⟩) (.of main_call1_call0_v21 : TRef sig ⟨S4x2048, .i32⟩) (broadcastInDim S4x2048 ![] bcast_S_S4x2048),
    TRef.binary (.of main_call1_call0_v19 : TRef sig ⟨S4x2048, .i32⟩) (.of main_call1_call0_v21 : TRef sig ⟨S4x2048, .i32⟩) (.of main_call1_call0_v22 : TRef sig ⟨S4x2048, .i32⟩) Host.shli,
    TRef.nullary (.of main_call1_call0_c_5 : TRef sig ⟨S_, .i32⟩) (constantI S_ 32 6#32),
    TRef.unary (.of main_call1_call0_c_5 : TRef sig ⟨S_, .i32⟩) (.of main_call1_call0_v23 : TRef sig ⟨S4x2048, .i32⟩) (broadcastInDim S4x2048 ![] bcast_S_S4x2048),
    TRef.binary (.of main_call1_call0_v19 : TRef sig ⟨S4x2048, .i32⟩) (.of main_call1_call0_v23 : TRef sig ⟨S4x2048, .i32⟩) (.of main_call1_call0_v24 : TRef sig ⟨S4x2048, .i32⟩) Host.shrui,
    TRef.binary (.of main_call1_call0_v22 : TRef sig ⟨S4x2048, .i32⟩) (.of main_call1_call0_v24 : TRef sig ⟨S4x2048, .i32⟩) (.of main_call1_call0_v25 : TRef sig ⟨S4x2048, .i32⟩) ori,
    TRef.binary (.of main_call1_call0_v20 : TRef sig ⟨S4x2048, .i32⟩) (.of main_call1_call0_v25 : TRef sig ⟨S4x2048, .i32⟩) (.of main_call1_call0_v26 : TRef sig ⟨S4x2048, .i32⟩) xori,
    TRef.binary (.of main_call1_call0_v20 : TRef sig ⟨S4x2048, .i32⟩) (.of main_call1_call0_v26 : TRef sig ⟨S4x2048, .i32⟩) (.of main_call1_call0_v27 : TRef sig ⟨S4x2048, .i32⟩) addi,
    TRef.nullary (.of main_call1_call0_c_6 : TRef sig ⟨S_, .i32⟩) (constantI S_ 32 6#32),
    TRef.unary (.of main_call1_call0_c_6 : TRef sig ⟨S_, .i32⟩) (.of main_call1_call0_v28 : TRef sig ⟨S4x2048, .i32⟩) (broadcastInDim S4x2048 ![] bcast_S_S4x2048),
    TRef.binary (.of main_call1_call0_v26 : TRef sig ⟨S4x2048, .i32⟩) (.of main_call1_call0_v28 : TRef sig ⟨S4x2048, .i32⟩) (.of main_call1_call0_v29 : TRef sig ⟨S4x2048, .i32⟩) Host.shli,
    TRef.nullary (.of main_call1_call0_c_7 : TRef sig ⟨S_, .i32⟩) (constantI S_ 32 26#32),
    TRef.unary (.of main_call1_call0_c_7 : TRef sig ⟨S_, .i32⟩) (.of main_call1_call0_v30 : TRef sig ⟨S4x2048, .i32⟩) (broadcastInDim S4x2048 ![] bcast_S_S4x2048),
    TRef.binary (.of main_call1_call0_v26 : TRef sig ⟨S4x2048, .i32⟩) (.of main_call1_call0_v30 : TRef sig ⟨S4x2048, .i32⟩) (.of main_call1_call0_v31 : TRef sig ⟨S4x2048, .i32⟩) Host.shrui,
    TRef.binary (.of main_call1_call0_v29 : TRef sig ⟨S4x2048, .i32⟩) (.of main_call1_call0_v31 : TRef sig ⟨S4x2048, .i32⟩) (.of main_call1_call0_v32 : TRef sig ⟨S4x2048, .i32⟩) ori,
    TRef.binary (.of main_call1_call0_v27 : TRef sig ⟨S4x2048, .i32⟩) (.of main_call1_call0_v32 : TRef sig ⟨S4x2048, .i32⟩) (.of main_call1_call0_v33 : TRef sig ⟨S4x2048, .i32⟩) xori ]

theorem opsDraw1_sub : (opsDraw1 : List (HloOp τ sig (Elt F))).Forall fun op => op.bufs ⊆ tcRefs τ sig :=
  ⟨binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩

/-- The references they write. -/
abbrev opsDraw1_W : List (Ref sig .tc) :=
  [main_call1_call0_v0, main_call1_call0_c, main_call1_call0_v1, main_call1_call0_v2, main_call1_call0_v3, main_call1_call0_v4, main_call1_call0_v5, main_call1_call0_v6, main_call1_call0_c_0, main_call1_call0_v7, main_call1_call0_v8, main_call1_call0_c_1, main_call1_call0_v9, main_call1_call0_v10, main_call1_call0_v11, main_call1_call0_v12, main_call1_call0_v13, main_call1_call0_c_2, main_call1_call0_v14, main_call1_call0_v15, main_call1_call0_c_3, main_call1_call0_v16, main_call1_call0_v17, main_call1_call0_v18, main_call1_call0_v19, main_call1_call0_v20, main_call1_call0_c_4, main_call1_call0_v21, main_call1_call0_v22, main_call1_call0_c_5, main_call1_call0_v23, main_call1_call0_v24, main_call1_call0_v25, main_call1_call0_v26, main_call1_call0_v27, main_call1_call0_c_6, main_call1_call0_v28, main_call1_call0_v29, main_call1_call0_c_7, main_call1_call0_v30, main_call1_call0_v31, main_call1_call0_v32, main_call1_call0_v33]

theorem opsDraw1_writes : (opsDraw1 : List (HloOp τ sig (Elt F))).map HloOp.writes = opsDraw1_W.map fun w => {Proc.devRef (τ := τ) .tc w} := rfl

theorem opsDraw1_fresh : (opsDraw1 : List (HloOp τ sig (Elt F))).map HloOp.fresh = (opsDraw1 (F := F)).map fun _ => (∅ : Finset (DevRef τ sig)) := rfl

/-- The draw, operations 66 to 110 of 262. -/
abbrev opsDraw2 : List (HloOp τ sig (Elt F)) :=
  [ TRef.unary (.of main_call1_v7 : TRef sig ⟨S_, .i32⟩) (.of main_call1_call0_v34 : TRef sig ⟨S4x2048, .i32⟩) (broadcastInDim S4x2048 ![] bcast_S_S4x2048),
    TRef.binary (.of main_call1_call0_v27 : TRef sig ⟨S4x2048, .i32⟩) (.of main_call1_call0_v34 : TRef sig ⟨S4x2048, .i32⟩) (.of main_call1_call0_v35 : TRef sig ⟨S4x2048, .i32⟩) addi,
    TRef.unary (.of main_call1_call0_v1 : TRef sig ⟨S_, .i32⟩) (.of main_call1_call0_v36 : TRef sig ⟨S4x2048, .i32⟩) (broadcastInDim S4x2048 ![] bcast_S_S4x2048),
    TRef.binary (.of main_call1_call0_v33 : TRef sig ⟨S4x2048, .i32⟩) (.of main_call1_call0_v36 : TRef sig ⟨S4x2048, .i32⟩) (.of main_call1_call0_v37 : TRef sig ⟨S4x2048, .i32⟩) addi,
    TRef.nullary (.of main_call1_call0_c_8 : TRef sig ⟨S_, .i32⟩) (constantI S_ 32 1#32),
    TRef.unary (.of main_call1_call0_c_8 : TRef sig ⟨S_, .i32⟩) (.of main_call1_call0_v38 : TRef sig ⟨S4x2048, .i32⟩) (broadcastInDim S4x2048 ![] bcast_S_S4x2048),
    TRef.binary (.of main_call1_call0_v37 : TRef sig ⟨S4x2048, .i32⟩) (.of main_call1_call0_v38 : TRef sig ⟨S4x2048, .i32⟩) (.of main_call1_call0_v39 : TRef sig ⟨S4x2048, .i32⟩) addi,
    TRef.binary (.of main_call1_call0_v35 : TRef sig ⟨S4x2048, .i32⟩) (.of main_call1_call0_v39 : TRef sig ⟨S4x2048, .i32⟩) (.of main_call1_call0_v40 : TRef sig ⟨S4x2048, .i32⟩) addi,
    TRef.nullary (.of main_call1_call0_c_9 : TRef sig ⟨S_, .i32⟩) (constantI S_ 32 17#32),
    TRef.unary (.of main_call1_call0_c_9 : TRef sig ⟨S_, .i32⟩) (.of main_call1_call0_v41 : TRef sig ⟨S4x2048, .i32⟩) (broadcastInDim S4x2048 ![] bcast_S_S4x2048),
    TRef.binary (.of main_call1_call0_v39 : TRef sig ⟨S4x2048, .i32⟩) (.of main_call1_call0_v41 : TRef sig ⟨S4x2048, .i32⟩) (.of main_call1_call0_v42 : TRef sig ⟨S4x2048, .i32⟩) Host.shli,
    TRef.nullary (.of main_call1_call0_c_10 : TRef sig ⟨S_, .i32⟩) (constantI S_ 32 15#32),
    TRef.unary (.of main_call1_call0_c_10 : TRef sig ⟨S_, .i32⟩) (.of main_call1_call0_v43 : TRef sig ⟨S4x2048, .i32⟩) (broadcastInDim S4x2048 ![] bcast_S_S4x2048),
    TRef.binary (.of main_call1_call0_v39 : TRef sig ⟨S4x2048, .i32⟩) (.of main_call1_call0_v43 : TRef sig ⟨S4x2048, .i32⟩) (.of main_call1_call0_v44 : TRef sig ⟨S4x2048, .i32⟩) Host.shrui,
    TRef.binary (.of main_call1_call0_v42 : TRef sig ⟨S4x2048, .i32⟩) (.of main_call1_call0_v44 : TRef sig ⟨S4x2048, .i32⟩) (.of main_call1_call0_v45 : TRef sig ⟨S4x2048, .i32⟩) ori,
    TRef.binary (.of main_call1_call0_v40 : TRef sig ⟨S4x2048, .i32⟩) (.of main_call1_call0_v45 : TRef sig ⟨S4x2048, .i32⟩) (.of main_call1_call0_v46 : TRef sig ⟨S4x2048, .i32⟩) xori,
    TRef.binary (.of main_call1_call0_v40 : TRef sig ⟨S4x2048, .i32⟩) (.of main_call1_call0_v46 : TRef sig ⟨S4x2048, .i32⟩) (.of main_call1_call0_v47 : TRef sig ⟨S4x2048, .i32⟩) addi,
    TRef.nullary (.of main_call1_call0_c_11 : TRef sig ⟨S_, .i32⟩) (constantI S_ 32 29#32),
    TRef.unary (.of main_call1_call0_c_11 : TRef sig ⟨S_, .i32⟩) (.of main_call1_call0_v48 : TRef sig ⟨S4x2048, .i32⟩) (broadcastInDim S4x2048 ![] bcast_S_S4x2048),
    TRef.binary (.of main_call1_call0_v46 : TRef sig ⟨S4x2048, .i32⟩) (.of main_call1_call0_v48 : TRef sig ⟨S4x2048, .i32⟩) (.of main_call1_call0_v49 : TRef sig ⟨S4x2048, .i32⟩) Host.shli,
    TRef.nullary (.of main_call1_call0_c_12 : TRef sig ⟨S_, .i32⟩) (constantI S_ 32 3#32),
    TRef.unary (.of main_call1_call0_c_12 : TRef sig ⟨S_, .i32⟩) (.of main_call1_call0_v50 : TRef sig ⟨S4x2048, .i32⟩) (broadcastInDim S4x2048 ![] bcast_S_S4x2048),
    TRef.binary (.of main_call1_call0_v46 : TRef sig ⟨S4x2048, .i32⟩) (.of main_call1_call0_v50 : TRef sig ⟨S4x2048, .i32⟩) (.of main_call1_call0_v51 : TRef sig ⟨S4x2048, .i32⟩) Host.shrui,
    TRef.binary (.of main_call1_call0_v49 : TRef sig ⟨S4x2048, .i32⟩) (.of main_call1_call0_v51 : TRef sig ⟨S4x2048, .i32⟩) (.of main_call1_call0_v52 : TRef sig ⟨S4x2048, .i32⟩) ori,
    TRef.binary (.of main_call1_call0_v47 : TRef sig ⟨S4x2048, .i32⟩) (.of main_call1_call0_v52 : TRef sig ⟨S4x2048, .i32⟩) (.of main_call1_call0_v53 : TRef sig ⟨S4x2048, .i32⟩) xori,
    TRef.binary (.of main_call1_call0_v47 : TRef sig ⟨S4x2048, .i32⟩) (.of main_call1_call0_v53 : TRef sig ⟨S4x2048, .i32⟩) (.of main_call1_call0_v54 : TRef sig ⟨S4x2048, .i32⟩) addi,
    TRef.nullary (.of main_call1_call0_c_13 : TRef sig ⟨S_, .i32⟩) (constantI S_ 32 16#32),
    TRef.unary (.of main_call1_call0_c_13 : TRef sig ⟨S_, .i32⟩) (.of main_call1_call0_v55 : TRef sig ⟨S4x2048, .i32⟩) (broadcastInDim S4x2048 ![] bcast_S_S4x2048),
    TRef.binary (.of main_call1_call0_v53 : TRef sig ⟨S4x2048, .i32⟩) (.of main_call1_call0_v55 : TRef sig ⟨S4x2048, .i32⟩) (.of main_call1_call0_v56 : TRef sig ⟨S4x2048, .i32⟩) Host.shli,
    TRef.nullary (.of main_call1_call0_c_14 : TRef sig ⟨S_, .i32⟩) (constantI S_ 32 16#32),
    TRef.unary (.of main_call1_call0_c_14 : TRef sig ⟨S_, .i32⟩) (.of main_call1_call0_v57 : TRef sig ⟨S4x2048, .i32⟩) (broadcastInDim S4x2048 ![] bcast_S_S4x2048),
    TRef.binary (.of main_call1_call0_v53 : TRef sig ⟨S4x2048, .i32⟩) (.of main_call1_call0_v57 : TRef sig ⟨S4x2048, .i32⟩) (.of main_call1_call0_v58 : TRef sig ⟨S4x2048, .i32⟩) Host.shrui,
    TRef.binary (.of main_call1_call0_v56 : TRef sig ⟨S4x2048, .i32⟩) (.of main_call1_call0_v58 : TRef sig ⟨S4x2048, .i32⟩) (.of main_call1_call0_v59 : TRef sig ⟨S4x2048, .i32⟩) ori,
    TRef.binary (.of main_call1_call0_v54 : TRef sig ⟨S4x2048, .i32⟩) (.of main_call1_call0_v59 : TRef sig ⟨S4x2048, .i32⟩) (.of main_call1_call0_v60 : TRef sig ⟨S4x2048, .i32⟩) xori,
    TRef.binary (.of main_call1_call0_v54 : TRef sig ⟨S4x2048, .i32⟩) (.of main_call1_call0_v60 : TRef sig ⟨S4x2048, .i32⟩) (.of main_call1_call0_v61 : TRef sig ⟨S4x2048, .i32⟩) addi,
    TRef.nullary (.of main_call1_call0_c_15 : TRef sig ⟨S_, .i32⟩) (constantI S_ 32 24#32),
    TRef.unary (.of main_call1_call0_c_15 : TRef sig ⟨S_, .i32⟩) (.of main_call1_call0_v62 : TRef sig ⟨S4x2048, .i32⟩) (broadcastInDim S4x2048 ![] bcast_S_S4x2048),
    TRef.binary (.of main_call1_call0_v60 : TRef sig ⟨S4x2048, .i32⟩) (.of main_call1_call0_v62 : TRef sig ⟨S4x2048, .i32⟩) (.of main_call1_call0_v63 : TRef sig ⟨S4x2048, .i32⟩) Host.shli,
    TRef.nullary (.of main_call1_call0_c_16 : TRef sig ⟨S_, .i32⟩) (constantI S_ 32 8#32),
    TRef.unary (.of main_call1_call0_c_16 : TRef sig ⟨S_, .i32⟩) (.of main_call1_call0_v64 : TRef sig ⟨S4x2048, .i32⟩) (broadcastInDim S4x2048 ![] bcast_S_S4x2048),
    TRef.binary (.of main_call1_call0_v60 : TRef sig ⟨S4x2048, .i32⟩) (.of main_call1_call0_v64 : TRef sig ⟨S4x2048, .i32⟩) (.of main_call1_call0_v65 : TRef sig ⟨S4x2048, .i32⟩) Host.shrui,
    TRef.binary (.of main_call1_call0_v63 : TRef sig ⟨S4x2048, .i32⟩) (.of main_call1_call0_v65 : TRef sig ⟨S4x2048, .i32⟩) (.of main_call1_call0_v66 : TRef sig ⟨S4x2048, .i32⟩) ori,
    TRef.binary (.of main_call1_call0_v61 : TRef sig ⟨S4x2048, .i32⟩) (.of main_call1_call0_v66 : TRef sig ⟨S4x2048, .i32⟩) (.of main_call1_call0_v67 : TRef sig ⟨S4x2048, .i32⟩) xori,
    TRef.unary (.of main_call1_call0_v1 : TRef sig ⟨S_, .i32⟩) (.of main_call1_call0_v68 : TRef sig ⟨S4x2048, .i32⟩) (broadcastInDim S4x2048 ![] bcast_S_S4x2048),
    TRef.binary (.of main_call1_call0_v61 : TRef sig ⟨S4x2048, .i32⟩) (.of main_call1_call0_v68 : TRef sig ⟨S4x2048, .i32⟩) (.of main_call1_call0_v69 : TRef sig ⟨S4x2048, .i32⟩) addi ]

theorem opsDraw2_sub : (opsDraw2 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub ..⟩

/-- The references they write. -/
abbrev opsDraw2_W : List (Ref sig .tc) :=
  [main_call1_call0_v34, main_call1_call0_v35, main_call1_call0_v36, main_call1_call0_v37, main_call1_call0_c_8, main_call1_call0_v38, main_call1_call0_v39, main_call1_call0_v40, main_call1_call0_c_9, main_call1_call0_v41, main_call1_call0_v42, main_call1_call0_c_10, main_call1_call0_v43, main_call1_call0_v44, main_call1_call0_v45, main_call1_call0_v46, main_call1_call0_v47, main_call1_call0_c_11, main_call1_call0_v48, main_call1_call0_v49, main_call1_call0_c_12, main_call1_call0_v50, main_call1_call0_v51, main_call1_call0_v52, main_call1_call0_v53, main_call1_call0_v54, main_call1_call0_c_13, main_call1_call0_v55, main_call1_call0_v56, main_call1_call0_c_14, main_call1_call0_v57, main_call1_call0_v58, main_call1_call0_v59, main_call1_call0_v60, main_call1_call0_v61, main_call1_call0_c_15, main_call1_call0_v62, main_call1_call0_v63, main_call1_call0_c_16, main_call1_call0_v64, main_call1_call0_v65, main_call1_call0_v66, main_call1_call0_v67, main_call1_call0_v68, main_call1_call0_v69]

theorem opsDraw2_writes : (opsDraw2 : List (HloOp τ sig (Elt F))).map HloOp.writes = opsDraw2_W.map fun w => {Proc.devRef (τ := τ) .tc w} := rfl

theorem opsDraw2_fresh : (opsDraw2 : List (HloOp τ sig (Elt F))).map HloOp.fresh = (opsDraw2 (F := F)).map fun _ => (∅ : Finset (DevRef τ sig)) := rfl

/-- The draw, operations 111 to 153 of 262. -/
abbrev opsDraw3 : List (HloOp τ sig (Elt F)) :=
  [ TRef.unary (.of main_call1_v5 : TRef sig ⟨S_, .i32⟩) (.of main_call1_call0_v70 : TRef sig ⟨S4x2048, .i32⟩) (broadcastInDim S4x2048 ![] bcast_S_S4x2048),
    TRef.binary (.of main_call1_call0_v67 : TRef sig ⟨S4x2048, .i32⟩) (.of main_call1_call0_v70 : TRef sig ⟨S4x2048, .i32⟩) (.of main_call1_call0_v71 : TRef sig ⟨S4x2048, .i32⟩) addi,
    TRef.nullary (.of main_call1_call0_c_17 : TRef sig ⟨S_, .i32⟩) (constantI S_ 32 2#32),
    TRef.unary (.of main_call1_call0_c_17 : TRef sig ⟨S_, .i32⟩) (.of main_call1_call0_v72 : TRef sig ⟨S4x2048, .i32⟩) (broadcastInDim S4x2048 ![] bcast_S_S4x2048),
    TRef.binary (.of main_call1_call0_v71 : TRef sig ⟨S4x2048, .i32⟩) (.of main_call1_call0_v72 : TRef sig ⟨S4x2048, .i32⟩) (.of main_call1_call0_v73 : TRef sig ⟨S4x2048, .i32⟩) addi,
    TRef.binary (.of main_call1_call0_v69 : TRef sig ⟨S4x2048, .i32⟩) (.of main_call1_call0_v73 : TRef sig ⟨S4x2048, .i32⟩) (.of main_call1_call0_v74 : TRef sig ⟨S4x2048, .i32⟩) addi,
    TRef.nullary (.of main_call1_call0_c_18 : TRef sig ⟨S_, .i32⟩) (constantI S_ 32 13#32),
    TRef.unary (.of main_call1_call0_c_18 : TRef sig ⟨S_, .i32⟩) (.of main_call1_call0_v75 : TRef sig ⟨S4x2048, .i32⟩) (broadcastInDim S4x2048 ![] bcast_S_S4x2048),
    TRef.binary (.of main_call1_call0_v73 : TRef sig ⟨S4x2048, .i32⟩) (.of main_call1_call0_v75 : TRef sig ⟨S4x2048, .i32⟩) (.of main_call1_call0_v76 : TRef sig ⟨S4x2048, .i32⟩) Host.shli,
    TRef.nullary (.of main_call1_call0_c_19 : TRef sig ⟨S_, .i32⟩) (constantI S_ 32 19#32),
    TRef.unary (.of main_call1_call0_c_19 : TRef sig ⟨S_, .i32⟩) (.of main_call1_call0_v77 : TRef sig ⟨S4x2048, .i32⟩) (broadcastInDim S4x2048 ![] bcast_S_S4x2048),
    TRef.binary (.of main_call1_call0_v73 : TRef sig ⟨S4x2048, .i32⟩) (.of main_call1_call0_v77 : TRef sig ⟨S4x2048, .i32⟩) (.of main_call1_call0_v78 : TRef sig ⟨S4x2048, .i32⟩) Host.shrui,
    TRef.binary (.of main_call1_call0_v76 : TRef sig ⟨S4x2048, .i32⟩) (.of main_call1_call0_v78 : TRef sig ⟨S4x2048, .i32⟩) (.of main_call1_call0_v79 : TRef sig ⟨S4x2048, .i32⟩) ori,
    TRef.binary (.of main_call1_call0_v74 : TRef sig ⟨S4x2048, .i32⟩) (.of main_call1_call0_v79 : TRef sig ⟨S4x2048, .i32⟩) (.of main_call1_call0_v80 : TRef sig ⟨S4x2048, .i32⟩) xori,
    TRef.binary (.of main_call1_call0_v74 : TRef sig ⟨S4x2048, .i32⟩) (.of main_call1_call0_v80 : TRef sig ⟨S4x2048, .i32⟩) (.of main_call1_call0_v81 : TRef sig ⟨S4x2048, .i32⟩) addi,
    TRef.nullary (.of main_call1_call0_c_20 : TRef sig ⟨S_, .i32⟩) (constantI S_ 32 15#32),
    TRef.unary (.of main_call1_call0_c_20 : TRef sig ⟨S_, .i32⟩) (.of main_call1_call0_v82 : TRef sig ⟨S4x2048, .i32⟩) (broadcastInDim S4x2048 ![] bcast_S_S4x2048),
    TRef.binary (.of main_call1_call0_v80 : TRef sig ⟨S4x2048, .i32⟩) (.of main_call1_call0_v82 : TRef sig ⟨S4x2048, .i32⟩) (.of main_call1_call0_v83 : TRef sig ⟨S4x2048, .i32⟩) Host.shli,
    TRef.nullary (.of main_call1_call0_c_21 : TRef sig ⟨S_, .i32⟩) (constantI S_ 32 17#32),
    TRef.unary (.of main_call1_call0_c_21 : TRef sig ⟨S_, .i32⟩) (.of main_call1_call0_v84 : TRef sig ⟨S4x2048, .i32⟩) (broadcastInDim S4x2048 ![] bcast_S_S4x2048),
    TRef.binary (.of main_call1_call0_v80 : TRef sig ⟨S4x2048, .i32⟩) (.of main_call1_call0_v84 : TRef sig ⟨S4x2048, .i32⟩) (.of main_call1_call0_v85 : TRef sig ⟨S4x2048, .i32⟩) Host.shrui,
    TRef.binary (.of main_call1_call0_v83 : TRef sig ⟨S4x2048, .i32⟩) (.of main_call1_call0_v85 : TRef sig ⟨S4x2048, .i32⟩) (.of main_call1_call0_v86 : TRef sig ⟨S4x2048, .i32⟩) ori,
    TRef.binary (.of main_call1_call0_v81 : TRef sig ⟨S4x2048, .i32⟩) (.of main_call1_call0_v86 : TRef sig ⟨S4x2048, .i32⟩) (.of main_call1_call0_v87 : TRef sig ⟨S4x2048, .i32⟩) xori,
    TRef.binary (.of main_call1_call0_v81 : TRef sig ⟨S4x2048, .i32⟩) (.of main_call1_call0_v87 : TRef sig ⟨S4x2048, .i32⟩) (.of main_call1_call0_v88 : TRef sig ⟨S4x2048, .i32⟩) addi,
    TRef.nullary (.of main_call1_call0_c_22 : TRef sig ⟨S_, .i32⟩) (constantI S_ 32 26#32),
    TRef.unary (.of main_call1_call0_c_22 : TRef sig ⟨S_, .i32⟩) (.of main_call1_call0_v89 : TRef sig ⟨S4x2048, .i32⟩) (broadcastInDim S4x2048 ![] bcast_S_S4x2048),
    TRef.binary (.of main_call1_call0_v87 : TRef sig ⟨S4x2048, .i32⟩) (.of main_call1_call0_v89 : TRef sig ⟨S4x2048, .i32⟩) (.of main_call1_call0_v90 : TRef sig ⟨S4x2048, .i32⟩) Host.shli,
    TRef.nullary (.of main_call1_call0_c_23 : TRef sig ⟨S_, .i32⟩) (constantI S_ 32 6#32),
    TRef.unary (.of main_call1_call0_c_23 : TRef sig ⟨S_, .i32⟩) (.of main_call1_call0_v91 : TRef sig ⟨S4x2048, .i32⟩) (broadcastInDim S4x2048 ![] bcast_S_S4x2048),
    TRef.binary (.of main_call1_call0_v87 : TRef sig ⟨S4x2048, .i32⟩) (.of main_call1_call0_v91 : TRef sig ⟨S4x2048, .i32⟩) (.of main_call1_call0_v92 : TRef sig ⟨S4x2048, .i32⟩) Host.shrui,
    TRef.binary (.of main_call1_call0_v90 : TRef sig ⟨S4x2048, .i32⟩) (.of main_call1_call0_v92 : TRef sig ⟨S4x2048, .i32⟩) (.of main_call1_call0_v93 : TRef sig ⟨S4x2048, .i32⟩) ori,
    TRef.binary (.of main_call1_call0_v88 : TRef sig ⟨S4x2048, .i32⟩) (.of main_call1_call0_v93 : TRef sig ⟨S4x2048, .i32⟩) (.of main_call1_call0_v94 : TRef sig ⟨S4x2048, .i32⟩) xori,
    TRef.binary (.of main_call1_call0_v88 : TRef sig ⟨S4x2048, .i32⟩) (.of main_call1_call0_v94 : TRef sig ⟨S4x2048, .i32⟩) (.of main_call1_call0_v95 : TRef sig ⟨S4x2048, .i32⟩) addi,
    TRef.nullary (.of main_call1_call0_c_24 : TRef sig ⟨S_, .i32⟩) (constantI S_ 32 6#32),
    TRef.unary (.of main_call1_call0_c_24 : TRef sig ⟨S_, .i32⟩) (.of main_call1_call0_v96 : TRef sig ⟨S4x2048, .i32⟩) (broadcastInDim S4x2048 ![] bcast_S_S4x2048),
    TRef.binary (.of main_call1_call0_v94 : TRef sig ⟨S4x2048, .i32⟩) (.of main_call1_call0_v96 : TRef sig ⟨S4x2048, .i32⟩) (.of main_call1_call0_v97 : TRef sig ⟨S4x2048, .i32⟩) Host.shli,
    TRef.nullary (.of main_call1_call0_c_25 : TRef sig ⟨S_, .i32⟩) (constantI S_ 32 26#32),
    TRef.unary (.of main_call1_call0_c_25 : TRef sig ⟨S_, .i32⟩) (.of main_call1_call0_v98 : TRef sig ⟨S4x2048, .i32⟩) (broadcastInDim S4x2048 ![] bcast_S_S4x2048),
    TRef.binary (.of main_call1_call0_v94 : TRef sig ⟨S4x2048, .i32⟩) (.of main_call1_call0_v98 : TRef sig ⟨S4x2048, .i32⟩) (.of main_call1_call0_v99 : TRef sig ⟨S4x2048, .i32⟩) Host.shrui,
    TRef.binary (.of main_call1_call0_v97 : TRef sig ⟨S4x2048, .i32⟩) (.of main_call1_call0_v99 : TRef sig ⟨S4x2048, .i32⟩) (.of main_call1_call0_v100 : TRef sig ⟨S4x2048, .i32⟩) ori,
    TRef.binary (.of main_call1_call0_v95 : TRef sig ⟨S4x2048, .i32⟩) (.of main_call1_call0_v100 : TRef sig ⟨S4x2048, .i32⟩) (.of main_call1_call0_v101 : TRef sig ⟨S4x2048, .i32⟩) xori,
    TRef.unary (.of main_call1_v5 : TRef sig ⟨S_, .i32⟩) (.of main_call1_call0_v102 : TRef sig ⟨S4x2048, .i32⟩) (broadcastInDim S4x2048 ![] bcast_S_S4x2048),
    TRef.binary (.of main_call1_call0_v95 : TRef sig ⟨S4x2048, .i32⟩) (.of main_call1_call0_v102 : TRef sig ⟨S4x2048, .i32⟩) (.of main_call1_call0_v103 : TRef sig ⟨S4x2048, .i32⟩) addi ]

theorem opsDraw3_sub : (opsDraw3 : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub ..⟩

/-- The references they write. -/
abbrev opsDraw3_W : List (Ref sig .tc) :=
  [main_call1_call0_v70, main_call1_call0_v71, main_call1_call0_c_17, main_call1_call0_v72, main_call1_call0_v73, main_call1_call0_v74, main_call1_call0_c_18, main_call1_call0_v75, main_call1_call0_v76, main_call1_call0_c_19, main_call1_call0_v77, main_call1_call0_v78, main_call1_call0_v79, main_call1_call0_v80, main_call1_call0_v81, main_call1_call0_c_20, main_call1_call0_v82, main_call1_call0_v83, main_call1_call0_c_21, main_call1_call0_v84, main_call1_call0_v85, main_call1_call0_v86, main_call1_call0_v87, main_call1_call0_v88, main_call1_call0_c_22, main_call1_call0_v89, main_call1_call0_v90, main_call1_call0_c_23, main_call1_call0_v91, main_call1_call0_v92, main_call1_call0_v93, main_call1_call0_v94, main_call1_call0_v95, main_call1_call0_c_24, main_call1_call0_v96, main_call1_call0_v97, main_call1_call0_c_25, main_call1_call0_v98, main_call1_call0_v99, main_call1_call0_v100, main_call1_call0_v101, main_call1_call0_v102, main_call1_call0_v103]

theorem opsDraw3_writes : (opsDraw3 : List (HloOp τ sig (Elt F))).map HloOp.writes = opsDraw3_W.map fun w => {Proc.devRef (τ := τ) .tc w} := rfl

theorem opsDraw3_fresh : (opsDraw3 : List (HloOp τ sig (Elt F))).map HloOp.fresh = (opsDraw3 (F := F)).map fun _ => (∅ : Finset (DevRef τ sig)) := rfl

/-- The draw, operations 154 to 201 of 262. -/
abbrev opsDraw4 : List (HloOp τ sig (Elt F)) :=
  [ TRef.unary (.of main_call1_v7 : TRef sig ⟨S_, .i32⟩) (.of main_call1_call0_v104 : TRef sig ⟨S4x2048, .i32⟩) (broadcastInDim S4x2048 ![] bcast_S_S4x2048),
    TRef.binary (.of main_call1_call0_v101 : TRef sig ⟨S4x2048, .i32⟩) (.of main_call1_call0_v104 : TRef sig ⟨S4x2048, .i32⟩) (.of main_call1_call0_v105 : TRef sig ⟨S4x2048, .i32⟩) addi,
    TRef.nullary (.of main_call1_call0_c_26 : TRef sig ⟨S_, .i32⟩) (constantI S_ 32 3#32),
    TRef.unary (.of main_call1_call0_c_26 : TRef sig ⟨S_, .i32⟩) (.of main_call1_call0_v106 : TRef sig ⟨S4x2048, .i32⟩) (broadcastInDim S4x2048 ![] bcast_S_S4x2048),
    TRef.binary (.of main_call1_call0_v105 : TRef sig ⟨S4x2048, .i32⟩) (.of main_call1_call0_v106 : TRef sig ⟨S4x2048, .i32⟩) (.of main_call1_call0_v107 : TRef sig ⟨S4x2048, .i32⟩) addi,
    TRef.binary (.of main_call1_call0_v103 : TRef sig ⟨S4x2048, .i32⟩) (.of main_call1_call0_v107 : TRef sig ⟨S4x2048, .i32⟩) (.of main_call1_call0_v108 : TRef sig ⟨S4x2048, .i32⟩) addi,
    TRef.nullary (.of main_call1_call0_c_27 : TRef sig ⟨S_, .i32⟩) (constantI S_ 32 17#32),
    TRef.unary (.of main_call1_call0_c_27 : TRef sig ⟨S_, .i32⟩) (.of main_call1_call0_v109 : TRef sig ⟨S4x2048, .i32⟩) (broadcastInDim S4x2048 ![] bcast_S_S4x2048),
    TRef.binary (.of main_call1_call0_v107 : TRef sig ⟨S4x2048, .i32⟩) (.of main_call1_call0_v109 : TRef sig ⟨S4x2048, .i32⟩) (.of main_call1_call0_v110 : TRef sig ⟨S4x2048, .i32⟩) Host.shli,
    TRef.nullary (.of main_call1_call0_c_28 : TRef sig ⟨S_, .i32⟩) (constantI S_ 32 15#32),
    TRef.unary (.of main_call1_call0_c_28 : TRef sig ⟨S_, .i32⟩) (.of main_call1_call0_v111 : TRef sig ⟨S4x2048, .i32⟩) (broadcastInDim S4x2048 ![] bcast_S_S4x2048),
    TRef.binary (.of main_call1_call0_v107 : TRef sig ⟨S4x2048, .i32⟩) (.of main_call1_call0_v111 : TRef sig ⟨S4x2048, .i32⟩) (.of main_call1_call0_v112 : TRef sig ⟨S4x2048, .i32⟩) Host.shrui,
    TRef.binary (.of main_call1_call0_v110 : TRef sig ⟨S4x2048, .i32⟩) (.of main_call1_call0_v112 : TRef sig ⟨S4x2048, .i32⟩) (.of main_call1_call0_v113 : TRef sig ⟨S4x2048, .i32⟩) ori,
    TRef.binary (.of main_call1_call0_v108 : TRef sig ⟨S4x2048, .i32⟩) (.of main_call1_call0_v113 : TRef sig ⟨S4x2048, .i32⟩) (.of main_call1_call0_v114 : TRef sig ⟨S4x2048, .i32⟩) xori,
    TRef.binary (.of main_call1_call0_v108 : TRef sig ⟨S4x2048, .i32⟩) (.of main_call1_call0_v114 : TRef sig ⟨S4x2048, .i32⟩) (.of main_call1_call0_v115 : TRef sig ⟨S4x2048, .i32⟩) addi,
    TRef.nullary (.of main_call1_call0_c_29 : TRef sig ⟨S_, .i32⟩) (constantI S_ 32 29#32),
    TRef.unary (.of main_call1_call0_c_29 : TRef sig ⟨S_, .i32⟩) (.of main_call1_call0_v116 : TRef sig ⟨S4x2048, .i32⟩) (broadcastInDim S4x2048 ![] bcast_S_S4x2048),
    TRef.binary (.of main_call1_call0_v114 : TRef sig ⟨S4x2048, .i32⟩) (.of main_call1_call0_v116 : TRef sig ⟨S4x2048, .i32⟩) (.of main_call1_call0_v117 : TRef sig ⟨S4x2048, .i32⟩) Host.shli,
    TRef.nullary (.of main_call1_call0_c_30 : TRef sig ⟨S_, .i32⟩) (constantI S_ 32 3#32),
    TRef.unary (.of main_call1_call0_c_30 : TRef sig ⟨S_, .i32⟩) (.of main_call1_call0_v118 : TRef sig ⟨S4x2048, .i32⟩) (broadcastInDim S4x2048 ![] bcast_S_S4x2048),
    TRef.binary (.of main_call1_call0_v114 : TRef sig ⟨S4x2048, .i32⟩) (.of main_call1_call0_v118 : TRef sig ⟨S4x2048, .i32⟩) (.of main_call1_call0_v119 : TRef sig ⟨S4x2048, .i32⟩) Host.shrui,
    TRef.binary (.of main_call1_call0_v117 : TRef sig ⟨S4x2048, .i32⟩) (.of main_call1_call0_v119 : TRef sig ⟨S4x2048, .i32⟩) (.of main_call1_call0_v120 : TRef sig ⟨S4x2048, .i32⟩) ori,
    TRef.binary (.of main_call1_call0_v115 : TRef sig ⟨S4x2048, .i32⟩) (.of main_call1_call0_v120 : TRef sig ⟨S4x2048, .i32⟩) (.of main_call1_call0_v121 : TRef sig ⟨S4x2048, .i32⟩) xori,
    TRef.binary (.of main_call1_call0_v115 : TRef sig ⟨S4x2048, .i32⟩) (.of main_call1_call0_v121 : TRef sig ⟨S4x2048, .i32⟩) (.of main_call1_call0_v122 : TRef sig ⟨S4x2048, .i32⟩) addi,
    TRef.nullary (.of main_call1_call0_c_31 : TRef sig ⟨S_, .i32⟩) (constantI S_ 32 16#32),
    TRef.unary (.of main_call1_call0_c_31 : TRef sig ⟨S_, .i32⟩) (.of main_call1_call0_v123 : TRef sig ⟨S4x2048, .i32⟩) (broadcastInDim S4x2048 ![] bcast_S_S4x2048),
    TRef.binary (.of main_call1_call0_v121 : TRef sig ⟨S4x2048, .i32⟩) (.of main_call1_call0_v123 : TRef sig ⟨S4x2048, .i32⟩) (.of main_call1_call0_v124 : TRef sig ⟨S4x2048, .i32⟩) Host.shli,
    TRef.nullary (.of main_call1_call0_c_32 : TRef sig ⟨S_, .i32⟩) (constantI S_ 32 16#32),
    TRef.unary (.of main_call1_call0_c_32 : TRef sig ⟨S_, .i32⟩) (.of main_call1_call0_v125 : TRef sig ⟨S4x2048, .i32⟩) (broadcastInDim S4x2048 ![] bcast_S_S4x2048),
    TRef.binary (.of main_call1_call0_v121 : TRef sig ⟨S4x2048, .i32⟩) (.of main_call1_call0_v125 : TRef sig ⟨S4x2048, .i32⟩) (.of main_call1_call0_v126 : TRef sig ⟨S4x2048, .i32⟩) Host.shrui,
    TRef.binary (.of main_call1_call0_v124 : TRef sig ⟨S4x2048, .i32⟩) (.of main_call1_call0_v126 : TRef sig ⟨S4x2048, .i32⟩) (.of main_call1_call0_v127 : TRef sig ⟨S4x2048, .i32⟩) ori,
    TRef.binary (.of main_call1_call0_v122 : TRef sig ⟨S4x2048, .i32⟩) (.of main_call1_call0_v127 : TRef sig ⟨S4x2048, .i32⟩) (.of main_call1_call0_v128 : TRef sig ⟨S4x2048, .i32⟩) xori,
    TRef.binary (.of main_call1_call0_v122 : TRef sig ⟨S4x2048, .i32⟩) (.of main_call1_call0_v128 : TRef sig ⟨S4x2048, .i32⟩) (.of main_call1_call0_v129 : TRef sig ⟨S4x2048, .i32⟩) addi,
    TRef.nullary (.of main_call1_call0_c_33 : TRef sig ⟨S_, .i32⟩) (constantI S_ 32 24#32),
    TRef.unary (.of main_call1_call0_c_33 : TRef sig ⟨S_, .i32⟩) (.of main_call1_call0_v130 : TRef sig ⟨S4x2048, .i32⟩) (broadcastInDim S4x2048 ![] bcast_S_S4x2048),
    TRef.binary (.of main_call1_call0_v128 : TRef sig ⟨S4x2048, .i32⟩) (.of main_call1_call0_v130 : TRef sig ⟨S4x2048, .i32⟩) (.of main_call1_call0_v131 : TRef sig ⟨S4x2048, .i32⟩) Host.shli,
    TRef.nullary (.of main_call1_call0_c_34 : TRef sig ⟨S_, .i32⟩) (constantI S_ 32 8#32),
    TRef.unary (.of main_call1_call0_c_34 : TRef sig ⟨S_, .i32⟩) (.of main_call1_call0_v132 : TRef sig ⟨S4x2048, .i32⟩) (broadcastInDim S4x2048 ![] bcast_S_S4x2048),
    TRef.binary (.of main_call1_call0_v128 : TRef sig ⟨S4x2048, .i32⟩) (.of main_call1_call0_v132 : TRef sig ⟨S4x2048, .i32⟩) (.of main_call1_call0_v133 : TRef sig ⟨S4x2048, .i32⟩) Host.shrui,
    TRef.binary (.of main_call1_call0_v131 : TRef sig ⟨S4x2048, .i32⟩) (.of main_call1_call0_v133 : TRef sig ⟨S4x2048, .i32⟩) (.of main_call1_call0_v134 : TRef sig ⟨S4x2048, .i32⟩) ori,
    TRef.binary (.of main_call1_call0_v129 : TRef sig ⟨S4x2048, .i32⟩) (.of main_call1_call0_v134 : TRef sig ⟨S4x2048, .i32⟩) (.of main_call1_call0_v135 : TRef sig ⟨S4x2048, .i32⟩) xori,
    TRef.unary (.of main_call1_v7 : TRef sig ⟨S_, .i32⟩) (.of main_call1_call0_v136 : TRef sig ⟨S4x2048, .i32⟩) (broadcastInDim S4x2048 ![] bcast_S_S4x2048),
    TRef.binary (.of main_call1_call0_v129 : TRef sig ⟨S4x2048, .i32⟩) (.of main_call1_call0_v136 : TRef sig ⟨S4x2048, .i32⟩) (.of main_call1_call0_v137 : TRef sig ⟨S4x2048, .i32⟩) addi,
    TRef.unary (.of main_call1_call0_v1 : TRef sig ⟨S_, .i32⟩) (.of main_call1_call0_v138 : TRef sig ⟨S4x2048, .i32⟩) (broadcastInDim S4x2048 ![] bcast_S_S4x2048),
    TRef.binary (.of main_call1_call0_v135 : TRef sig ⟨S4x2048, .i32⟩) (.of main_call1_call0_v138 : TRef sig ⟨S4x2048, .i32⟩) (.of main_call1_call0_v139 : TRef sig ⟨S4x2048, .i32⟩) addi,
    TRef.nullary (.of main_call1_call0_c_35 : TRef sig ⟨S_, .i32⟩) (constantI S_ 32 4#32),
    TRef.unary (.of main_call1_call0_c_35 : TRef sig ⟨S_, .i32⟩) (.of main_call1_call0_v140 : TRef sig ⟨S4x2048, .i32⟩) (broadcastInDim S4x2048 ![] bcast_S_S4x2048),
    TRef.binary (.of main_call1_call0_v139 : TRef sig ⟨S4x2048, .i32⟩) (.of main_call1_call0_v140 : TRef sig ⟨S4x2048, .i32⟩) (.of main_call1_call0_v141 : TRef sig ⟨S4x2048, .i32⟩) addi ]

theorem opsDraw4_sub : (opsDraw4 : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

/-- The references they write. -/
abbrev opsDraw4_W : List (Ref sig .tc) :=
  [main_call1_call0_v104, main_call1_call0_v105, main_call1_call0_c_26, main_call1_call0_v106, main_call1_call0_v107, main_call1_call0_v108, main_call1_call0_c_27, main_call1_call0_v109, main_call1_call0_v110, main_call1_call0_c_28, main_call1_call0_v111, main_call1_call0_v112, main_call1_call0_v113, main_call1_call0_v114, main_call1_call0_v115, main_call1_call0_c_29, main_call1_call0_v116, main_call1_call0_v117, main_call1_call0_c_30, main_call1_call0_v118, main_call1_call0_v119, main_call1_call0_v120, main_call1_call0_v121, main_call1_call0_v122, main_call1_call0_c_31, main_call1_call0_v123, main_call1_call0_v124, main_call1_call0_c_32, main_call1_call0_v125, main_call1_call0_v126, main_call1_call0_v127, main_call1_call0_v128, main_call1_call0_v129, main_call1_call0_c_33, main_call1_call0_v130, main_call1_call0_v131, main_call1_call0_c_34, main_call1_call0_v132, main_call1_call0_v133, main_call1_call0_v134, main_call1_call0_v135, main_call1_call0_v136, main_call1_call0_v137, main_call1_call0_v138, main_call1_call0_v139, main_call1_call0_c_35, main_call1_call0_v140, main_call1_call0_v141]

theorem opsDraw4_writes : (opsDraw4 : List (HloOp τ sig (Elt F))).map HloOp.writes = opsDraw4_W.map fun w => {Proc.devRef (τ := τ) .tc w} := rfl

theorem opsDraw4_fresh : (opsDraw4 : List (HloOp τ sig (Elt F))).map HloOp.fresh = (opsDraw4 (F := F)).map fun _ => (∅ : Finset (DevRef τ sig)) := rfl

/-- The draw, operations 202 to 245 of 262. -/
abbrev opsDraw5 : List (HloOp τ sig (Elt F)) :=
  [ TRef.binary (.of main_call1_call0_v137 : TRef sig ⟨S4x2048, .i32⟩) (.of main_call1_call0_v141 : TRef sig ⟨S4x2048, .i32⟩) (.of main_call1_call0_v142 : TRef sig ⟨S4x2048, .i32⟩) addi,
    TRef.nullary (.of main_call1_call0_c_36 : TRef sig ⟨S_, .i32⟩) (constantI S_ 32 13#32),
    TRef.unary (.of main_call1_call0_c_36 : TRef sig ⟨S_, .i32⟩) (.of main_call1_call0_v143 : TRef sig ⟨S4x2048, .i32⟩) (broadcastInDim S4x2048 ![] bcast_S_S4x2048),
    TRef.binary (.of main_call1_call0_v141 : TRef sig ⟨S4x2048, .i32⟩) (.of main_call1_call0_v143 : TRef sig ⟨S4x2048, .i32⟩) (.of main_call1_call0_v144 : TRef sig ⟨S4x2048, .i32⟩) Host.shli,
    TRef.nullary (.of main_call1_call0_c_37 : TRef sig ⟨S_, .i32⟩) (constantI S_ 32 19#32),
    TRef.unary (.of main_call1_call0_c_37 : TRef sig ⟨S_, .i32⟩) (.of main_call1_call0_v145 : TRef sig ⟨S4x2048, .i32⟩) (broadcastInDim S4x2048 ![] bcast_S_S4x2048),
    TRef.binary (.of main_call1_call0_v141 : TRef sig ⟨S4x2048, .i32⟩) (.of main_call1_call0_v145 : TRef sig ⟨S4x2048, .i32⟩) (.of main_call1_call0_v146 : TRef sig ⟨S4x2048, .i32⟩) Host.shrui,
    TRef.binary (.of main_call1_call0_v144 : TRef sig ⟨S4x2048, .i32⟩) (.of main_call1_call0_v146 : TRef sig ⟨S4x2048, .i32⟩) (.of main_call1_call0_v147 : TRef sig ⟨S4x2048, .i32⟩) ori,
    TRef.binary (.of main_call1_call0_v142 : TRef sig ⟨S4x2048, .i32⟩) (.of main_call1_call0_v147 : TRef sig ⟨S4x2048, .i32⟩) (.of main_call1_call0_v148 : TRef sig ⟨S4x2048, .i32⟩) xori,
    TRef.binary (.of main_call1_call0_v142 : TRef sig ⟨S4x2048, .i32⟩) (.of main_call1_call0_v148 : TRef sig ⟨S4x2048, .i32⟩) (.of main_call1_call0_v149 : TRef sig ⟨S4x2048, .i32⟩) addi,
    TRef.nullary (.of main_call1_call0_c_38 : TRef sig ⟨S_, .i32⟩) (constantI S_ 32 15#32),
    TRef.unary (.of main_call1_call0_c_38 : TRef sig ⟨S_, .i32⟩) (.of main_call1_call0_v150 : TRef sig ⟨S4x2048, .i32⟩) (broadcastInDim S4x2048 ![] bcast_S_S4x2048),
    TRef.binary (.of main_call1_call0_v148 : TRef sig ⟨S4x2048, .i32⟩) (.of main_call1_call0_v150 : TRef sig ⟨S4x2048, .i32⟩) (.of main_call1_call0_v151 : TRef sig ⟨S4x2048, .i32⟩) Host.shli,
    TRef.nullary (.of main_call1_call0_c_39 : TRef sig ⟨S_, .i32⟩) (constantI S_ 32 17#32),
    TRef.unary (.of main_call1_call0_c_39 : TRef sig ⟨S_, .i32⟩) (.of main_call1_call0_v152 : TRef sig ⟨S4x2048, .i32⟩) (broadcastInDim S4x2048 ![] bcast_S_S4x2048),
    TRef.binary (.of main_call1_call0_v148 : TRef sig ⟨S4x2048, .i32⟩) (.of main_call1_call0_v152 : TRef sig ⟨S4x2048, .i32⟩) (.of main_call1_call0_v153 : TRef sig ⟨S4x2048, .i32⟩) Host.shrui,
    TRef.binary (.of main_call1_call0_v151 : TRef sig ⟨S4x2048, .i32⟩) (.of main_call1_call0_v153 : TRef sig ⟨S4x2048, .i32⟩) (.of main_call1_call0_v154 : TRef sig ⟨S4x2048, .i32⟩) ori,
    TRef.binary (.of main_call1_call0_v149 : TRef sig ⟨S4x2048, .i32⟩) (.of main_call1_call0_v154 : TRef sig ⟨S4x2048, .i32⟩) (.of main_call1_call0_v155 : TRef sig ⟨S4x2048, .i32⟩) xori,
    TRef.binary (.of main_call1_call0_v149 : TRef sig ⟨S4x2048, .i32⟩) (.of main_call1_call0_v155 : TRef sig ⟨S4x2048, .i32⟩) (.of main_call1_call0_v156 : TRef sig ⟨S4x2048, .i32⟩) addi,
    TRef.nullary (.of main_call1_call0_c_40 : TRef sig ⟨S_, .i32⟩) (constantI S_ 32 26#32),
    TRef.unary (.of main_call1_call0_c_40 : TRef sig ⟨S_, .i32⟩) (.of main_call1_call0_v157 : TRef sig ⟨S4x2048, .i32⟩) (broadcastInDim S4x2048 ![] bcast_S_S4x2048),
    TRef.binary (.of main_call1_call0_v155 : TRef sig ⟨S4x2048, .i32⟩) (.of main_call1_call0_v157 : TRef sig ⟨S4x2048, .i32⟩) (.of main_call1_call0_v158 : TRef sig ⟨S4x2048, .i32⟩) Host.shli,
    TRef.nullary (.of main_call1_call0_c_41 : TRef sig ⟨S_, .i32⟩) (constantI S_ 32 6#32),
    TRef.unary (.of main_call1_call0_c_41 : TRef sig ⟨S_, .i32⟩) (.of main_call1_call0_v159 : TRef sig ⟨S4x2048, .i32⟩) (broadcastInDim S4x2048 ![] bcast_S_S4x2048),
    TRef.binary (.of main_call1_call0_v155 : TRef sig ⟨S4x2048, .i32⟩) (.of main_call1_call0_v159 : TRef sig ⟨S4x2048, .i32⟩) (.of main_call1_call0_v160 : TRef sig ⟨S4x2048, .i32⟩) Host.shrui,
    TRef.binary (.of main_call1_call0_v158 : TRef sig ⟨S4x2048, .i32⟩) (.of main_call1_call0_v160 : TRef sig ⟨S4x2048, .i32⟩) (.of main_call1_call0_v161 : TRef sig ⟨S4x2048, .i32⟩) ori,
    TRef.binary (.of main_call1_call0_v156 : TRef sig ⟨S4x2048, .i32⟩) (.of main_call1_call0_v161 : TRef sig ⟨S4x2048, .i32⟩) (.of main_call1_call0_v162 : TRef sig ⟨S4x2048, .i32⟩) xori,
    TRef.binary (.of main_call1_call0_v156 : TRef sig ⟨S4x2048, .i32⟩) (.of main_call1_call0_v162 : TRef sig ⟨S4x2048, .i32⟩) (.of main_call1_call0_v163 : TRef sig ⟨S4x2048, .i32⟩) addi,
    TRef.nullary (.of main_call1_call0_c_42 : TRef sig ⟨S_, .i32⟩) (constantI S_ 32 6#32),
    TRef.unary (.of main_call1_call0_c_42 : TRef sig ⟨S_, .i32⟩) (.of main_call1_call0_v164 : TRef sig ⟨S4x2048, .i32⟩) (broadcastInDim S4x2048 ![] bcast_S_S4x2048),
    TRef.binary (.of main_call1_call0_v162 : TRef sig ⟨S4x2048, .i32⟩) (.of main_call1_call0_v164 : TRef sig ⟨S4x2048, .i32⟩) (.of main_call1_call0_v165 : TRef sig ⟨S4x2048, .i32⟩) Host.shli,
    TRef.nullary (.of main_call1_call0_c_43 : TRef sig ⟨S_, .i32⟩) (constantI S_ 32 26#32),
    TRef.unary (.of main_call1_call0_c_43 : TRef sig ⟨S_, .i32⟩) (.of main_call1_call0_v166 : TRef sig ⟨S4x2048, .i32⟩) (broadcastInDim S4x2048 ![] bcast_S_S4x2048),
    TRef.binary (.of main_call1_call0_v162 : TRef sig ⟨S4x2048, .i32⟩) (.of main_call1_call0_v166 : TRef sig ⟨S4x2048, .i32⟩) (.of main_call1_call0_v167 : TRef sig ⟨S4x2048, .i32⟩) Host.shrui,
    TRef.binary (.of main_call1_call0_v165 : TRef sig ⟨S4x2048, .i32⟩) (.of main_call1_call0_v167 : TRef sig ⟨S4x2048, .i32⟩) (.of main_call1_call0_v168 : TRef sig ⟨S4x2048, .i32⟩) ori,
    TRef.binary (.of main_call1_call0_v163 : TRef sig ⟨S4x2048, .i32⟩) (.of main_call1_call0_v168 : TRef sig ⟨S4x2048, .i32⟩) (.of main_call1_call0_v169 : TRef sig ⟨S4x2048, .i32⟩) xori,
    TRef.unary (.of main_call1_call0_v1 : TRef sig ⟨S_, .i32⟩) (.of main_call1_call0_v170 : TRef sig ⟨S4x2048, .i32⟩) (broadcastInDim S4x2048 ![] bcast_S_S4x2048),
    TRef.binary (.of main_call1_call0_v163 : TRef sig ⟨S4x2048, .i32⟩) (.of main_call1_call0_v170 : TRef sig ⟨S4x2048, .i32⟩) (.of main_call1_v19_0 : TRef sig ⟨S4x2048, .i32⟩) addi,
    TRef.unary (.of main_call1_v5 : TRef sig ⟨S_, .i32⟩) (.of main_call1_call0_v172 : TRef sig ⟨S4x2048, .i32⟩) (broadcastInDim S4x2048 ![] bcast_S_S4x2048),
    TRef.binary (.of main_call1_call0_v169 : TRef sig ⟨S4x2048, .i32⟩) (.of main_call1_call0_v172 : TRef sig ⟨S4x2048, .i32⟩) (.of main_call1_call0_v173 : TRef sig ⟨S4x2048, .i32⟩) addi,
    TRef.nullary (.of main_call1_call0_c_44 : TRef sig ⟨S_, .i32⟩) (constantI S_ 32 5#32),
    TRef.unary (.of main_call1_call0_c_44 : TRef sig ⟨S_, .i32⟩) (.of main_call1_call0_v174 : TRef sig ⟨S4x2048, .i32⟩) (broadcastInDim S4x2048 ![] bcast_S_S4x2048),
    TRef.binary (.of main_call1_call0_v173 : TRef sig ⟨S4x2048, .i32⟩) (.of main_call1_call0_v174 : TRef sig ⟨S4x2048, .i32⟩) (.of main_call1_v19_1 : TRef sig ⟨S4x2048, .i32⟩) addi,
    TRef.binary (.of main_call1_v19_0 : TRef sig ⟨S4x2048, .i32⟩) (.of main_call1_v19_1 : TRef sig ⟨S4x2048, .i32⟩) (.of main_call1_v20 : TRef sig ⟨S4x2048, .i32⟩) xori ]

theorem opsDraw5_sub : (opsDraw5 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩

/-- The references they write. -/
abbrev opsDraw5_W : List (Ref sig .tc) :=
  [main_call1_call0_v142, main_call1_call0_c_36, main_call1_call0_v143, main_call1_call0_v144, main_call1_call0_c_37, main_call1_call0_v145, main_call1_call0_v146, main_call1_call0_v147, main_call1_call0_v148, main_call1_call0_v149, main_call1_call0_c_38, main_call1_call0_v150, main_call1_call0_v151, main_call1_call0_c_39, main_call1_call0_v152, main_call1_call0_v153, main_call1_call0_v154, main_call1_call0_v155, main_call1_call0_v156, main_call1_call0_c_40, main_call1_call0_v157, main_call1_call0_v158, main_call1_call0_c_41, main_call1_call0_v159, main_call1_call0_v160, main_call1_call0_v161, main_call1_call0_v162, main_call1_call0_v163, main_call1_call0_c_42, main_call1_call0_v164, main_call1_call0_v165, main_call1_call0_c_43, main_call1_call0_v166, main_call1_call0_v167, main_call1_call0_v168, main_call1_call0_v169, main_call1_call0_v170, main_call1_v19_0, main_call1_call0_v172, main_call1_call0_v173, main_call1_call0_c_44, main_call1_call0_v174, main_call1_v19_1, main_call1_v20]

theorem opsDraw5_writes : (opsDraw5 : List (HloOp τ sig (Elt F))).map HloOp.writes = opsDraw5_W.map fun w => {Proc.devRef (τ := τ) .tc w} := rfl

theorem opsDraw5_fresh : (opsDraw5 : List (HloOp τ sig (Elt F))).map HloOp.fresh = (opsDraw5 (F := F)).map fun _ => (∅ : Finset (DevRef τ sig)) := rfl

/-- The draw, operations 246 to 262 of 262. -/
abbrev opsDraw6 : List (HloOp τ sig (Elt F)) :=
  [ TRef.nullary (.of main_call1_c_2 : TRef sig ⟨S_, .i32⟩) (constantI S_ 32 9#32),
    TRef.unary (.of main_call1_c_2 : TRef sig ⟨S_, .i32⟩) (.of main_call1_v21 : TRef sig ⟨S4x2048, .i32⟩) (broadcastInDim S4x2048 ![] bcast_S_S4x2048),
    TRef.binary (.of main_call1_v20 : TRef sig ⟨S4x2048, .i32⟩) (.of main_call1_v21 : TRef sig ⟨S4x2048, .i32⟩) (.of main_call1_v22 : TRef sig ⟨S4x2048, .i32⟩) Host.shrui,
    TRef.nullary (.of main_call1_c_3 : TRef sig ⟨S_, .i32⟩) (constantI S_ 32 1065353216#32),
    TRef.unary (.of main_call1_c_3 : TRef sig ⟨S_, .i32⟩) (.of main_call1_v23 : TRef sig ⟨S4x2048, .i32⟩) (broadcastInDim S4x2048 ![] bcast_S_S4x2048),
    TRef.binary (.of main_call1_v22 : TRef sig ⟨S4x2048, .i32⟩) (.of main_call1_v23 : TRef sig ⟨S4x2048, .i32⟩) (.of main_call1_v24 : TRef sig ⟨S4x2048, .i32⟩) ori,
    TRef.unary (.of main_call1_v24 : TRef sig ⟨S4x2048, .i32⟩) (.of main_call1_v25 : TRef sig ⟨S4x2048, .f32⟩) (bitcastToFloat .f32),
    TRef.nullary (.of main_call1_cst : TRef sig ⟨S_, .f32⟩) (constant S_ .f32 0x3F800000#32),
    TRef.unary (.of main_call1_cst : TRef sig ⟨S_, .f32⟩) (.of main_call1_v26 : TRef sig ⟨S4x2048, .f32⟩) (broadcastInDim S4x2048 ![] bcast_S_S4x2048),
    TRef.binary (.of main_call1_v25 : TRef sig ⟨S4x2048, .f32⟩) (.of main_call1_v26 : TRef sig ⟨S4x2048, .f32⟩) (.of main_call1_v27 : TRef sig ⟨S4x2048, .f32⟩) subf,
    TRef.binary (.of main_call1_v3 : TRef sig ⟨S1x1, .f32⟩) (.of main_call1_v2 : TRef sig ⟨S1x1, .f32⟩) (.of main_call1_v28 : TRef sig ⟨S1x1, .f32⟩) subf,
    TRef.unary (.of main_call1_v28 : TRef sig ⟨S1x1, .f32⟩) (.of main_call1_v29 : TRef sig ⟨S4x2048, .f32⟩) (broadcastInDim S4x2048 ![0, 1] bcast_S1x1_S4x2048_0_1),
    TRef.binary (.of main_call1_v27 : TRef sig ⟨S4x2048, .f32⟩) (.of main_call1_v29 : TRef sig ⟨S4x2048, .f32⟩) (.of main_call1_v30 : TRef sig ⟨S4x2048, .f32⟩) mulf,
    TRef.unary (.of main_call1_v2 : TRef sig ⟨S1x1, .f32⟩) (.of main_call1_v31 : TRef sig ⟨S4x2048, .f32⟩) (broadcastInDim S4x2048 ![0, 1] bcast_S1x1_S4x2048_0_1),
    TRef.binary (.of main_call1_v30 : TRef sig ⟨S4x2048, .f32⟩) (.of main_call1_v31 : TRef sig ⟨S4x2048, .f32⟩) (.of main_call1_v32 : TRef sig ⟨S4x2048, .f32⟩) addf,
    TRef.unary (.of main_call1_v2 : TRef sig ⟨S1x1, .f32⟩) (.of main_call1_v33 : TRef sig ⟨S4x2048, .f32⟩) (broadcastInDim S4x2048 ![0, 1] bcast_S1x1_S4x2048_0_1),
    TRef.binary (.of main_call1_v33 : TRef sig ⟨S4x2048, .f32⟩) (.of main_call1_v32 : TRef sig ⟨S4x2048, .f32⟩) (.of main_v22 : TRef sig ⟨S4x2048, .f32⟩) maximumf ]

theorem opsDraw6_sub : (opsDraw6 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub ..⟩

/-- The references they write. -/
abbrev opsDraw6_W : List (Ref sig .tc) :=
  [main_call1_c_2, main_call1_v21, main_call1_v22, main_call1_c_3, main_call1_v23, main_call1_v24, main_call1_v25, main_call1_cst, main_call1_v26, main_call1_v27, main_call1_v28, main_call1_v29, main_call1_v30, main_call1_v31, main_call1_v32, main_call1_v33, main_v22]

theorem opsDraw6_writes : (opsDraw6 : List (HloOp τ sig (Elt F))).map HloOp.writes = opsDraw6_W.map fun w => {Proc.devRef (τ := τ) .tc w} := rfl

theorem opsDraw6_fresh : (opsDraw6 : List (HloOp τ sig (Elt F))).map HloOp.fresh = (opsDraw6 (F := F)).map fun _ => (∅ : Finset (DevRef τ sig)) := rfl

/-- @main after the draw. -/
abbrev opsTail : List (HloOp τ sig (Elt F)) :=
  [ unary main_v22 main_v23 (broadcastInDim S4x1x2048 ![0, 2] bcast_S4x2048_S4x1x2048_0_2 : (⟨S4x2048, .f32⟩ : BufTy).Contents (Elt F) → (⟨S4x1x2048, .f32⟩ : BufTy).Contents (Elt F)),
    unary main_v23 main_v24 (broadcastInDim S4x8192x2048 ![0, 1, 2] bcast_S4x1x2048_S4x8192x2048_0_1_2 : (⟨S4x1x2048, .f32⟩ : BufTy).Contents (Elt F) → (⟨S4x8192x2048, .f32⟩ : BufTy).Contents (Elt F)),
    binary main_v14 main_v24 main_v25 (cmpf .ole : (⟨S4x8192x2048, .f32⟩ : BufTy).Contents (Elt F) → (⟨S4x8192x2048, .f32⟩ : BufTy).Contents (Elt F) → (⟨S4x8192x2048, .i1⟩ : BufTy).Contents (Elt F)),
    unary main_v25 main_v26 ((extui 32 · natLt_1_32) : (⟨S4x8192x2048, .i1⟩ : BufTy).Contents (Elt F) → (⟨S4x8192x2048, .i32⟩ : BufTy).Contents (Elt F)),
    nullary main_c_7 (constantI S_ 32 0#32),
    binary main_v26 main_c_7 main_v27 ((fun x v => Host.reduce IntOp.addi x v reducesTo_S4x8192x2048_S4x2048_d1 h_S_) : (⟨S4x8192x2048, .i32⟩ : BufTy).Contents (Elt F) → (⟨S_, .i32⟩ : BufTy).Contents (Elt F) → (⟨S4x2048, .i32⟩ : BufTy).Contents (Elt F)),
    unary main_v27 main_v28 (broadcastInDim S4x1x2048 ![0, 2] bcast_S4x2048_S4x1x2048_0_2 : (⟨S4x2048, .i32⟩ : BufTy).Contents (Elt F) → (⟨S4x1x2048, .i32⟩ : BufTy).Contents (Elt F)),
    TRef.nullary (.of main_call2_c : TRef sig ⟨S_, .i32⟩) (constantI S_ 32 0#32),
    TRef.unary (.of main_call2_c : TRef sig ⟨S_, .i32⟩) (.of main_call2_v0 : TRef sig ⟨S4x1x2048, .i32⟩) (broadcastInDim S4x1x2048 ![] bcast_S_S4x1x2048),
    TRef.binary (.of main_v28 : TRef sig ⟨S4x1x2048, .i32⟩) (.of main_call2_v0 : TRef sig ⟨S4x1x2048, .i32⟩) (.of main_call2_v1 : TRef sig ⟨S4x1x2048, .i1⟩) (cmpi .slt),
    TRef.nullary (.of main_call2_c_0 : TRef sig ⟨S_, .i32⟩) (constantI S_ 32 8192#32),
    TRef.unary (.of main_call2_c_0 : TRef sig ⟨S_, .i32⟩) (.of main_call2_v2 : TRef sig ⟨S4x1x2048, .i32⟩) (broadcastInDim S4x1x2048 ![] bcast_S_S4x1x2048),
    TRef.binary (.of main_v28 : TRef sig ⟨S4x1x2048, .i32⟩) (.of main_call2_v2 : TRef sig ⟨S4x1x2048, .i32⟩) (.of main_call2_v3 : TRef sig ⟨S4x1x2048, .i32⟩) addi,
    TRef.ternary (.of main_call2_v1 : TRef sig ⟨S4x1x2048, .i1⟩) (.of main_call2_v3 : TRef sig ⟨S4x1x2048, .i32⟩) (.of main_v28 : TRef sig ⟨S4x1x2048, .i32⟩) (.of main_call2_v4 : TRef sig ⟨S4x1x2048, .i32⟩) select,
    TRef.reshape (.of main_call2_v4 : TRef sig ⟨S4x1x2048, .i32⟩) (.of main_call2_v5 : TRef sig ⟨S4x1x2048x1, .i32⟩) (rfl : (.i32 : EltTy) = .i32) shapeCasts_S4x1x2048_S4x1x2048x1,
    TRef.nullary (.of main_call2_c_1 : TRef sig ⟨S1, .i32⟩) (constantI S1 32 8191#32),
    TRef.nullary (.of main_call2_c_2 : TRef sig ⟨S_, .i32⟩) (constantI S_ 32 0#32),
    TRef.unary (.of main_call2_c_2 : TRef sig ⟨S_, .i32⟩) (.of main_call2_v6 : TRef sig ⟨S4x1x2048x1, .i32⟩) (broadcastInDim S4x1x2048x1 ![] bcast_S_S4x1x2048x1),
    TRef.binary (.of main_call2_v5 : TRef sig ⟨S4x1x2048x1, .i32⟩) (.of main_call2_v6 : TRef sig ⟨S4x1x2048x1, .i32⟩) (.of main_call2_v7 : TRef sig ⟨S4x1x2048x1, .i1⟩) (cmpi .sge),
    TRef.unary (.of main_call2_c_1 : TRef sig ⟨S1, .i32⟩) (.of main_call2_v8 : TRef sig ⟨S1x1x1x1, .i32⟩) (broadcastInDim S1x1x1x1 ![3] bcast_S1_S1x1x1x1_3),
    TRef.unary (.of main_call2_v8 : TRef sig ⟨S1x1x1x1, .i32⟩) (.of main_call2_v9 : TRef sig ⟨S4x1x2048x1, .i32⟩) (broadcastInDim S4x1x2048x1 ![0, 1, 2, 3] bcast_S1x1x1x1_S4x1x2048x1_0_1_2_3),
    TRef.binary (.of main_call2_v5 : TRef sig ⟨S4x1x2048x1, .i32⟩) (.of main_call2_v9 : TRef sig ⟨S4x1x2048x1, .i32⟩) (.of main_call2_v10 : TRef sig ⟨S4x1x2048x1, .i1⟩) (cmpi .sle),
    TRef.binary (.of main_call2_v7 : TRef sig ⟨S4x1x2048x1, .i1⟩) (.of main_call2_v10 : TRef sig ⟨S4x1x2048x1, .i1⟩) (.of main_call2_v11 : TRef sig ⟨S4x1x2048x1, .i1⟩) andi,
    TRef.nullary (.of main_call2_c_3 : TRef sig ⟨S_, .i1⟩) (constantI S_ 1 1#1),
    TRef.binary (.of main_call2_v11 : TRef sig ⟨S4x1x2048x1, .i1⟩) (.of main_call2_c_3 : TRef sig ⟨S_, .i1⟩) (.of main_call2_v12 : TRef sig ⟨S4x1x2048, .i1⟩) (fun x v => Host.reduce IntOp.andi x v reducesTo_S4x1x2048x1_S4x1x2048_d3 h_S_),
    TRef.binary (.of main_v0 : TRef sig ⟨S4x8192x2048, .f32⟩) (.of main_call2_v5 : TRef sig ⟨S4x1x2048x1, .i32⟩) (.of main_call2_v13 : TRef sig ⟨S4x1x2048, .f32⟩) (fun x i => Host.gather gather_S4x8192x2048_S4x1x2048x1_S4x1x2048_n_1_02_02_1_3_111 x i),
    TRef.nullary (.of main_call2_cst : TRef sig ⟨S_, .f32⟩) (constant S_ .f32 0x7FC00000#32),
    TRef.unary (.of main_call2_cst : TRef sig ⟨S_, .f32⟩) (.of main_call2_v14 : TRef sig ⟨S4x1x2048, .f32⟩) (broadcastInDim S4x1x2048 ![] bcast_S_S4x1x2048),
    TRef.ternary (.of main_call2_v12 : TRef sig ⟨S4x1x2048, .i1⟩) (.of main_call2_v13 : TRef sig ⟨S4x1x2048, .f32⟩) (.of main_call2_v14 : TRef sig ⟨S4x1x2048, .f32⟩) (.of main_v29 : TRef sig ⟨S4x1x2048, .f32⟩) select,
    unary main_v29 main_v30 (broadcastInDim S4x8192x2048 ![0, 1, 2] bcast_S4x1x2048_S4x8192x2048_0_1_2 : (⟨S4x1x2048, .f32⟩ : BufTy).Contents (Elt F) → (⟨S4x8192x2048, .f32⟩ : BufTy).Contents (Elt F)),
    binary main_v0 main_v30 main_v31 (cmpf .oge : (⟨S4x8192x2048, .f32⟩ : BufTy).Contents (Elt F) → (⟨S4x8192x2048, .f32⟩ : BufTy).Contents (Elt F) → (⟨S4x8192x2048, .i1⟩ : BufTy).Contents (Elt F)),
    unary main_v31 main_v32 (uitofp .f32 : (⟨S4x8192x2048, .i1⟩ : BufTy).Contents (Elt F) → (⟨S4x8192x2048, .f32⟩ : BufTy).Contents (Elt F)),
    binary main_arg0 main_v32 main_v33 (mulf : (⟨S4x8192x2048, .f32⟩ : BufTy).Contents (Elt F) → (⟨S4x8192x2048, .f32⟩ : BufTy).Contents (Elt F) → (⟨S4x8192x2048, .f32⟩ : BufTy).Contents (Elt F)) ]

theorem opsTail_sub : (opsTail : List (HloOp τ sig (Elt F))).Forall fun op => op.bufs ⊆ tcRefs τ sig :=
  ⟨unary_bufs_sub .., unary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., binary_bufs_sub .., unary_bufs_sub .., binary_bufs_sub ..⟩

/-- The references they write. -/
abbrev opsTail_W : List (Ref sig .tc) :=
  [main_v23, main_v24, main_v25, main_v26, main_c_7, main_v27, main_v28, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v29, main_v30, main_v31, main_v32, main_v33]

theorem opsTail_writes : (opsTail : List (HloOp τ sig (Elt F))).map HloOp.writes = opsTail_W.map fun w => {Proc.devRef (τ := τ) .tc w} := rfl

theorem opsTail_fresh : (opsTail : List (HloOp τ sig (Elt F))).map HloOp.fresh = (opsTail (F := F)).map fun _ => (∅ : Finset (DevRef τ sig)) := rfl

/-- @main's operations, in order. -/
def ops : List (HloOp τ sig (Elt F)) := opsHead ++ (opsDraw0 ++ (opsDraw1 ++ (opsDraw2 ++ (opsDraw3 ++ (opsDraw4 ++ (opsDraw5 ++ (opsDraw6 ++ (opsTail))))))))

set_option maxRecDepth 65536 in
/-- @main is that straight line. -/
theorem main_eq (c : Dev nD) : main (F := F) c = seq ops := by
  chain_rfl

theorem ops_sub : (ops : List (HloOp τ sig (Elt F))).Forall fun op => op.bufs ⊆ tcRefs τ sig := by
  simp only [ops, List.forall_append]
  exact ⟨opsHead_sub, opsDraw0_sub, opsDraw1_sub, opsDraw2_sub, opsDraw3_sub, opsDraw4_sub, opsDraw5_sub, opsDraw6_sub, opsTail_sub⟩

theorem ops_fresh : ∀ op ∈ (ops : List (HloOp τ sig (Elt F))), op.fresh = ∅ := by
  rw [← List.forall_iff_forall_mem]
  simp only [ops, List.forall_append]
  exact ⟨forall_fresh_of_map opsHead_fresh, forall_fresh_of_map opsDraw0_fresh, forall_fresh_of_map opsDraw1_fresh, forall_fresh_of_map opsDraw2_fresh, forall_fresh_of_map opsDraw3_fresh, forall_fresh_of_map opsDraw4_fresh, forall_fresh_of_map opsDraw5_fresh, forall_fresh_of_map opsDraw6_fresh, forall_fresh_of_map opsTail_fresh⟩

theorem scopedRefs_eq : (Finset.univ.filter fun b : Ref sig .tc => b.isScoped) = ∅ := by decide +kernel
theorem scopedSems_eq : (Finset.univ.filter fun sm : SemLoc sig => sm.isScoped .tc) = ∅ := by decide +kernel

end Cert.ReferenceIdeal.Line

end
-- ==== Proof.Draw.lean ====
/- The kernel and the reference draw the same uniform values: the two lines of the draw hold the same operations over different
   buffers, so they are compared a stretch at a time, by the values that are still to be read after it. -/
module

public import proofs.«01_k».proof.Proof.RefLine
public import proofs.«01_k».proof.Proof.Gen.KernelIdeal.Launch
public import Idealize.ShloMosaic.Lib.StableHlo.RunRead
public import Idealize.ShloMosaic.Lib.Pipeline.Frame
public import proofs.«01_k».proof.Proof.Column

@[expose] public section

noncomputable section

namespace Cert.Draw

open Idealize.ShloMosaic Idealize.ShloMosaic.TcCoe Idealize.ShloMosaic.StableHlo Idealize.SL.Sem

variable {F : FTy → Type} [FloatOps F]
variable {W : Valuation Cert.KernelIdeal.τ Cert.KernelIdeal.sig (Elt F)} {V : Valuation Cert.ReferenceIdeal.τ Cert.ReferenceIdeal.sig (Elt F)}

/-- The values and the key the draw starts from agree. -/
def Agree0 (W : Valuation Cert.KernelIdeal.τ Cert.KernelIdeal.sig (Elt F)) (V : Valuation Cert.ReferenceIdeal.τ Cert.ReferenceIdeal.sig (Elt F)) : Prop :=
  W (Proc.devRef .tc Cert.KernelIdeal.main_cst) = V (Proc.devRef .tc Cert.ReferenceIdeal.main_cst_5) ∧
  W (Proc.devRef .tc Cert.KernelIdeal.main_cst_2) = V (Proc.devRef .tc Cert.ReferenceIdeal.main_cst_6) ∧
  W (Proc.devRef .tc Cert.KernelIdeal.main_v6) = V (Proc.devRef .tc Cert.ReferenceIdeal.main_v21)

/-- The values still to be read after 22 operations of the draw agree. -/
def Agree1 (W : Valuation Cert.KernelIdeal.τ Cert.KernelIdeal.sig (Elt F)) (V : Valuation Cert.ReferenceIdeal.τ Cert.ReferenceIdeal.sig (Elt F)) : Prop :=
  W (Proc.devRef .tc Cert.KernelIdeal.main_call0_v5) = V (Proc.devRef .tc Cert.ReferenceIdeal.main_call1_v5) ∧
  W (Proc.devRef .tc Cert.KernelIdeal.main_call0_v7) = V (Proc.devRef .tc Cert.ReferenceIdeal.main_call1_v7) ∧
  W (Proc.devRef .tc Cert.KernelIdeal.main_call0_v18) = V (Proc.devRef .tc Cert.ReferenceIdeal.main_call1_v18) ∧
  W (Proc.devRef .tc Cert.KernelIdeal.main_call0_v17) = V (Proc.devRef .tc Cert.ReferenceIdeal.main_call1_v17) ∧
  W (Proc.devRef .tc Cert.KernelIdeal.main_call0_v3) = V (Proc.devRef .tc Cert.ReferenceIdeal.main_call1_v3) ∧
  W (Proc.devRef .tc Cert.KernelIdeal.main_call0_v2) = V (Proc.devRef .tc Cert.ReferenceIdeal.main_call1_v2)

/-- The values still to be read after 65 operations of the draw agree. -/
def Agree2 (W : Valuation Cert.KernelIdeal.τ Cert.KernelIdeal.sig (Elt F)) (V : Valuation Cert.ReferenceIdeal.τ Cert.ReferenceIdeal.sig (Elt F)) : Prop :=
  W (Proc.devRef .tc Cert.KernelIdeal.main_call0_v5) = V (Proc.devRef .tc Cert.ReferenceIdeal.main_call1_v5) ∧
  W (Proc.devRef .tc Cert.KernelIdeal.main_call0_v7) = V (Proc.devRef .tc Cert.ReferenceIdeal.main_call1_v7) ∧
  W (Proc.devRef .tc Cert.KernelIdeal.main_call0_call0_v27) = V (Proc.devRef .tc Cert.ReferenceIdeal.main_call1_call0_v27) ∧
  W (Proc.devRef .tc Cert.KernelIdeal.main_call0_call0_v1) = V (Proc.devRef .tc Cert.ReferenceIdeal.main_call1_call0_v1) ∧
  W (Proc.devRef .tc Cert.KernelIdeal.main_call0_call0_v33) = V (Proc.devRef .tc Cert.ReferenceIdeal.main_call1_call0_v33) ∧
  W (Proc.devRef .tc Cert.KernelIdeal.main_call0_v3) = V (Proc.devRef .tc Cert.ReferenceIdeal.main_call1_v3) ∧
  W (Proc.devRef .tc Cert.KernelIdeal.main_call0_v2) = V (Proc.devRef .tc Cert.ReferenceIdeal.main_call1_v2)

/-- The values still to be read after 110 operations of the draw agree. -/
def Agree3 (W : Valuation Cert.KernelIdeal.τ Cert.KernelIdeal.sig (Elt F)) (V : Valuation Cert.ReferenceIdeal.τ Cert.ReferenceIdeal.sig (Elt F)) : Prop :=
  W (Proc.devRef .tc Cert.KernelIdeal.main_call0_v5) = V (Proc.devRef .tc Cert.ReferenceIdeal.main_call1_v5) ∧
  W (Proc.devRef .tc Cert.KernelIdeal.main_call0_v7) = V (Proc.devRef .tc Cert.ReferenceIdeal.main_call1_v7) ∧
  W (Proc.devRef .tc Cert.KernelIdeal.main_call0_call0_v1) = V (Proc.devRef .tc Cert.ReferenceIdeal.main_call1_call0_v1) ∧
  W (Proc.devRef .tc Cert.KernelIdeal.main_call0_call0_v67) = V (Proc.devRef .tc Cert.ReferenceIdeal.main_call1_call0_v67) ∧
  W (Proc.devRef .tc Cert.KernelIdeal.main_call0_call0_v69) = V (Proc.devRef .tc Cert.ReferenceIdeal.main_call1_call0_v69) ∧
  W (Proc.devRef .tc Cert.KernelIdeal.main_call0_v3) = V (Proc.devRef .tc Cert.ReferenceIdeal.main_call1_v3) ∧
  W (Proc.devRef .tc Cert.KernelIdeal.main_call0_v2) = V (Proc.devRef .tc Cert.ReferenceIdeal.main_call1_v2)

/-- The values still to be read after 153 operations of the draw agree. -/
def Agree4 (W : Valuation Cert.KernelIdeal.τ Cert.KernelIdeal.sig (Elt F)) (V : Valuation Cert.ReferenceIdeal.τ Cert.ReferenceIdeal.sig (Elt F)) : Prop :=
  W (Proc.devRef .tc Cert.KernelIdeal.main_call0_v5) = V (Proc.devRef .tc Cert.ReferenceIdeal.main_call1_v5) ∧
  W (Proc.devRef .tc Cert.KernelIdeal.main_call0_v7) = V (Proc.devRef .tc Cert.ReferenceIdeal.main_call1_v7) ∧
  W (Proc.devRef .tc Cert.KernelIdeal.main_call0_call0_v1) = V (Proc.devRef .tc Cert.ReferenceIdeal.main_call1_call0_v1) ∧
  W (Proc.devRef .tc Cert.KernelIdeal.main_call0_call0_v101) = V (Proc.devRef .tc Cert.ReferenceIdeal.main_call1_call0_v101) ∧
  W (Proc.devRef .tc Cert.KernelIdeal.main_call0_call0_v103) = V (Proc.devRef .tc Cert.ReferenceIdeal.main_call1_call0_v103) ∧
  W (Proc.devRef .tc Cert.KernelIdeal.main_call0_v3) = V (Proc.devRef .tc Cert.ReferenceIdeal.main_call1_v3) ∧
  W (Proc.devRef .tc Cert.KernelIdeal.main_call0_v2) = V (Proc.devRef .tc Cert.ReferenceIdeal.main_call1_v2)

/-- The values still to be read after 201 operations of the draw agree. -/
def Agree5 (W : Valuation Cert.KernelIdeal.τ Cert.KernelIdeal.sig (Elt F)) (V : Valuation Cert.ReferenceIdeal.τ Cert.ReferenceIdeal.sig (Elt F)) : Prop :=
  W (Proc.devRef .tc Cert.KernelIdeal.main_call0_v5) = V (Proc.devRef .tc Cert.ReferenceIdeal.main_call1_v5) ∧
  W (Proc.devRef .tc Cert.KernelIdeal.main_call0_call0_v1) = V (Proc.devRef .tc Cert.ReferenceIdeal.main_call1_call0_v1) ∧
  W (Proc.devRef .tc Cert.KernelIdeal.main_call0_call0_v137) = V (Proc.devRef .tc Cert.ReferenceIdeal.main_call1_call0_v137) ∧
  W (Proc.devRef .tc Cert.KernelIdeal.main_call0_call0_v141) = V (Proc.devRef .tc Cert.ReferenceIdeal.main_call1_call0_v141) ∧
  W (Proc.devRef .tc Cert.KernelIdeal.main_call0_v3) = V (Proc.devRef .tc Cert.ReferenceIdeal.main_call1_v3) ∧
  W (Proc.devRef .tc Cert.KernelIdeal.main_call0_v2) = V (Proc.devRef .tc Cert.ReferenceIdeal.main_call1_v2)

/-- The values still to be read after 245 operations of the draw agree. -/
def Agree6 (W : Valuation Cert.KernelIdeal.τ Cert.KernelIdeal.sig (Elt F)) (V : Valuation Cert.ReferenceIdeal.τ Cert.ReferenceIdeal.sig (Elt F)) : Prop :=
  W (Proc.devRef .tc Cert.KernelIdeal.main_call0_v20) = V (Proc.devRef .tc Cert.ReferenceIdeal.main_call1_v20) ∧
  W (Proc.devRef .tc Cert.KernelIdeal.main_call0_v3) = V (Proc.devRef .tc Cert.ReferenceIdeal.main_call1_v3) ∧
  W (Proc.devRef .tc Cert.KernelIdeal.main_call0_v2) = V (Proc.devRef .tc Cert.ReferenceIdeal.main_call1_v2)

/-- The drawn values agree. -/
def Agree7 (W : Valuation Cert.KernelIdeal.τ Cert.KernelIdeal.sig (Elt F)) (V : Valuation Cert.ReferenceIdeal.τ Cert.ReferenceIdeal.sig (Elt F)) : Prop :=
  W (Proc.devRef .tc Cert.KernelIdeal.main_v7) = V (Proc.devRef .tc Cert.ReferenceIdeal.main_v22)

theorem step0 (h : Agree0 W V) : Agree1 (after ((Cert.KernelIdeal.Gen.hostOps0_1.drop 0).take 22) W) (after Cert.ReferenceIdeal.Line.opsDraw0 V) := by
  obtain ⟨h0, h1, h2⟩ := h
  refine ⟨?_, ?_, ?_, ?_, ?_, ?_⟩ <;> after_reads_simp <;> simp only [h0, h1, h2] <;> rfl

theorem step1 (h : Agree1 W V) : Agree2 (after ((Cert.KernelIdeal.Gen.hostOps0_1.drop 22).take 43) W) (after Cert.ReferenceIdeal.Line.opsDraw1 V) := by
  obtain ⟨h0, h1, h2, h3, h4, h5⟩ := h
  refine ⟨?_, ?_, ?_, ?_, ?_, ?_, ?_⟩ <;> after_reads_simp <;> simp only [h0, h1, h2, h3, h4, h5] <;> rfl

theorem step2 (h : Agree2 W V) : Agree3 (after ((Cert.KernelIdeal.Gen.hostOps0_1.drop 65).take 45) W) (after Cert.ReferenceIdeal.Line.opsDraw2 V) := by
  obtain ⟨h0, h1, h2, h3, h4, h5, h6⟩ := h
  refine ⟨?_, ?_, ?_, ?_, ?_, ?_, ?_⟩ <;> after_reads_simp <;> simp only [h0, h1, h2, h3, h4, h5, h6] <;> rfl

theorem step3 (h : Agree3 W V) : Agree4 (after ((Cert.KernelIdeal.Gen.hostOps0_1.drop 110).take 43) W) (after Cert.ReferenceIdeal.Line.opsDraw3 V) := by
  obtain ⟨h0, h1, h2, h3, h4, h5, h6⟩ := h
  refine ⟨?_, ?_, ?_, ?_, ?_, ?_, ?_⟩ <;> after_reads_simp <;> simp only [h0, h1, h2, h3, h4, h5, h6] <;> rfl

theorem step4 (h : Agree4 W V) : Agree5 (after ((Cert.KernelIdeal.Gen.hostOps0_1.drop 153).take 48) W) (after Cert.ReferenceIdeal.Line.opsDraw4 V) := by
  obtain ⟨h0, h1, h2, h3, h4, h5, h6⟩ := h
  refine ⟨?_, ?_, ?_, ?_, ?_, ?_⟩ <;> after_reads_simp <;> simp only [h0, h1, h2, h3, h4, h5, h6] <;> rfl

theorem step5 (h : Agree5 W V) : Agree6 (after ((Cert.KernelIdeal.Gen.hostOps0_1.drop 201).take 44) W) (after Cert.ReferenceIdeal.Line.opsDraw5 V) := by
  obtain ⟨h0, h1, h2, h3, h4, h5⟩ := h
  refine ⟨?_, ?_, ?_⟩ <;> after_reads_simp <;> simp only [h0, h1, h2, h3, h4, h5] <;> rfl

theorem step6 (h : Agree6 W V) : Agree7 (after ((Cert.KernelIdeal.Gen.hostOps0_1.drop 245).take 17) W) (after Cert.ReferenceIdeal.Line.opsDraw6 V) := by
  obtain ⟨h0, h1, h2⟩ := h
  unfold Agree7; after_reads_simp; simp only [h0, h1, h2]

/-! ## The whole draw -/

/-- A line from position `a` on runs its next `n` operations and then the line from position `a + n` on. -/
theorem after_split {τ : Topo} {sig : RefSig} {Val : EltTy → Type} (l : List (HloOp τ sig Val)) (a n : ℕ) (U : Valuation τ sig Val) :
    after (l.drop a) U = after (l.drop (a + n)) (after ((l.drop a).take n) U) := by
  rw [← Idealize.ShloMosaic.StableHlo.after_append, ← List.drop_drop, List.take_append_drop]

theorem start (W : Valuation Cert.KernelIdeal.τ Cert.KernelIdeal.sig (Elt F)) (V : Valuation Cert.ReferenceIdeal.τ Cert.ReferenceIdeal.sig (Elt F)) :
    Agree0 (after Cert.KernelIdeal.Gen.hostOps0 W) (after Cert.ReferenceIdeal.Line.opsHead V) := by
  refine ⟨?_, ?_, ?_⟩ <;> after_reads_simp <;> rfl

/-- The reference's line up to the drawn values. -/
def drawnBy (V : Valuation Cert.ReferenceIdeal.τ Cert.ReferenceIdeal.sig (Elt F)) : Valuation Cert.ReferenceIdeal.τ Cert.ReferenceIdeal.sig (Elt F) :=
  after Cert.ReferenceIdeal.Line.opsDraw6 (after Cert.ReferenceIdeal.Line.opsDraw5 (after Cert.ReferenceIdeal.Line.opsDraw4
    (after Cert.ReferenceIdeal.Line.opsDraw3 (after Cert.ReferenceIdeal.Line.opsDraw2 (after Cert.ReferenceIdeal.Line.opsDraw1
      (after Cert.ReferenceIdeal.Line.opsDraw0 V))))))

theorem whole (h : Agree0 W V) : Agree7 (after Cert.KernelIdeal.Gen.hostOps0_1 W) (drawnBy V) := by
  have e : after Cert.KernelIdeal.Gen.hostOps0_1 W = after (Cert.KernelIdeal.Gen.hostOps0_1.drop 0) W := rfl
  have z (U : Valuation Cert.KernelIdeal.τ Cert.KernelIdeal.sig (Elt F)) : after (Cert.KernelIdeal.Gen.hostOps0_1.drop 262) U = U := rfl
  rw [e, after_split _ 0 22, after_split _ 22 43, after_split _ 65 45, after_split _ 110 43, after_split _ 153 48, after_split _ 201 44,
    after_split _ 245 17, z]
  exact step6 (step5 (step4 (step3 (step2 (step1 (step0 h))))))

/-- The kernel's drawn values are the reference's. -/
theorem drawn_eq (W : Valuation Cert.KernelIdeal.τ Cert.KernelIdeal.sig (Elt F)) (V : Valuation Cert.ReferenceIdeal.τ Cert.ReferenceIdeal.sig (Elt F)) :
    after Cert.KernelIdeal.Gen.hostOps0_1 (after Cert.KernelIdeal.Gen.hostOps0 W) (Proc.devRef .tc Cert.KernelIdeal.main_v7)
      = drawnBy (after Cert.ReferenceIdeal.Line.opsHead V) (Proc.devRef .tc Cert.ReferenceIdeal.main_v22) :=
  whole (start W V)

/-! ## The range of the drawn values -/

section Range

/-- A word whose upper bits are those of one and whose lower 23 bits are arbitrary denotes a number of `[1, 2)`. -/
theorem mantissa (w : BitVec 32) : ∃ q : ℝ, Ideal.ofBits .f32 (w >>> 9 ||| 1065353216#32) = (q : EReal) ∧ 1 ≤ q ∧ q < 2 := by
  have hs : (w >>> 9 ||| 1065353216#32).extractLsb' 31 1 = 0#1 := by
    ext i hi
    obtain rfl : i = 0 := by omega
    simp
  have he : (w >>> 9 ||| 1065353216#32).extractLsb' 23 8 = 127#8 := by
    ext i hi
    interval_cases i <;> simp
  have hf : ((w >>> 9 ||| 1065353216#32).extractLsb' 0 23).toNat < 2 ^ 23 := BitVec.isLt _
  simp only [Ideal.ofBits, Ideal.ieee]
  rw [show 8 + 23 = 31 from rfl, hs, he]
  generalize ((w >>> 9 ||| 1065353216#32).extractLsb' 0 23).toNat = n at hf
  have hn : (n : ℝ) < 2 ^ 23 := by exact_mod_cast hf
  have h0 : (0 : ℝ) ≤ (n : ℝ) := n.cast_nonneg
  refine ⟨(2 ^ 23 + (n : ℝ)) * (1 / 2 ^ 23), ?_, by linarith, by linarith⟩
  simp [-EReal.coe_mul]
  norm_num [-EReal.coe_mul]

variable (V : Valuation Cert.ReferenceIdeal.τ Cert.ReferenceIdeal.sig (Elt Ideal))

open Cert.ReferenceIdeal Cert.ReferenceIdeal.Facts₀ Cert.ReferenceIdeal.Line in
/-- The last stretch: the upper bits of the drawn words become the mantissa of a number of `[1, 2)`, which is then scaled. -/
theorem last_eq : after opsDraw6 V (Proc.devRef .tc main_v22)
    = (maximumf (F := Ideal) (s := S4x2048) (φ := .f32) (broadcastInDim S4x2048 ![0, 1] bcast_S1x1_S4x2048_0_1 (V (Proc.devRef .tc main_call1_v2) : Vec Ideal S1x1 .f32))
        (addf (mulf (subf (bitcastToFloat .f32 (ori (Host.shrui (V (Proc.devRef .tc main_call1_v20) : Vec Ideal S4x2048 .i32)
              (broadcastInDim S4x2048 ![] bcast_S_S4x2048 (constantI S_ 32 9#32)))
            (broadcastInDim S4x2048 ![] bcast_S_S4x2048 (constantI S_ 32 1065353216#32))))
          (broadcastInDim S4x2048 ![] bcast_S_S4x2048 (constant (F := Ideal) S_ .f32 1065353216#32)))
          (broadcastInDim S4x2048 ![0, 1] bcast_S1x1_S4x2048_0_1 (subf (V (Proc.devRef .tc main_call1_v3) : Vec Ideal S1x1 .f32) (V (Proc.devRef .tc main_call1_v2) : Vec Ideal S1x1 .f32))))
          (broadcastInDim S4x2048 ![0, 1] bcast_S1x1_S4x2048_0_1 (V (Proc.devRef .tc main_call1_v2) : Vec Ideal S1x1 .f32))) : FVec Ideal S4x2048 .f32) := by
  after_reads_simp
  rfl

open Cert.ReferenceIdeal Cert.ReferenceIdeal.Facts₀ Cert.ReferenceIdeal.Line in
/-- The lower end of the interval, after the whole draw but its last stretch. -/
theorem floor_eq : after opsDraw5 (after opsDraw4 (after opsDraw3 (after opsDraw2 (after opsDraw1 (after opsDraw0 (after opsHead V)))))) (Proc.devRef .tc main_call1_v2)
    = (broadcastInDim S1x1 ![] bcast_S_S1x1 (constant (F := Ideal) S_ .f32 0x00000000#32) : Vec Ideal S1x1 .f32) := by
  after_reads_simp
  rfl

open Cert.ReferenceIdeal Cert.ReferenceIdeal.Facts₀ Cert.ReferenceIdeal.Line in
/-- The upper end. -/
theorem ceil_eq : after opsDraw5 (after opsDraw4 (after opsDraw3 (after opsDraw2 (after opsDraw1 (after opsDraw0 (after opsHead V)))))) (Proc.devRef .tc main_call1_v3)
    = (broadcastInDim S1x1 ![] bcast_S_S1x1 (constant (F := Ideal) S_ .f32 0x3F800000#32) : Vec Ideal S1x1 .f32) := by
  after_reads_simp
  rfl

theorem one_eq : Ideal.ofBits .f32 0x3F800000#32 = ((1 : ℝ) : EReal) := by
  simp [Ideal.ofBits, Ideal.ieee, -EReal.coe_mul]
  norm_num

open Cert.ReferenceIdeal Cert.ReferenceIdeal.Facts₀ in
/-- That stretch on any words, between zero and one. -/
theorem scaled_range (x : IVec S4x2048 32) (l h : FVec Ideal S1x1 .f32) (hl : ∀ i, l i = Ideal.ofBits .f32 0x00000000#32)
    (hh : ∀ i, h i = Ideal.ofBits .f32 0x3F800000#32) (y : S4x2048.Idx) :
    ∃ q : ℝ, (maximumf (F := Ideal) (s := S4x2048) (φ := .f32) (broadcastInDim S4x2048 ![0, 1] bcast_S1x1_S4x2048_0_1 l)
        (addf (mulf (subf (bitcastToFloat .f32 (ori (Host.shrui x
              (broadcastInDim S4x2048 ![] bcast_S_S4x2048 (constantI S_ 32 9#32)))
            (broadcastInDim S4x2048 ![] bcast_S_S4x2048 (constantI S_ 32 1065353216#32))))
          (broadcastInDim S4x2048 ![] bcast_S_S4x2048 (constant (F := Ideal) S_ .f32 1065353216#32)))
          (broadcastInDim S4x2048 ![0, 1] bcast_S1x1_S4x2048_0_1 (subf h l)))
          (broadcastInDim S4x2048 ![0, 1] bcast_S1x1_S4x2048_0_1 l)) : FVec Ideal S4x2048 .f32) y = (q : EReal) ∧ 0 ≤ q ∧ q < 1 := by
  obtain ⟨q, hq, h1, h2⟩ := mantissa (x y)
  refine ⟨q - 1, ?_, by linarith, by linarith⟩
  have e (w : BitVec 32) : IntOp.shrui .host w 9#32 = w >>> 9 := rfl
  simp only [maximumf, addf, mulf, subf, bitcastToFloat, ori, Host.shrui, broadcastInDim, constantI, constant, hl, hh, e, IntOp.ori,
    Ideal.maximumf_def, Ideal.addf_def, Ideal.mulf_def, Ideal.subf_def, Ideal.ofBits_def]
  rw [hq, one_eq, Column.zero_eq, ← EReal.coe_zero, ← EReal.coe_sub, ← EReal.coe_sub, ← EReal.coe_mul, ← EReal.coe_add, sub_zero, mul_one,
    add_zero]
  exact max_eq_right (EReal.coe_le_coe_iff.mpr (by linarith))

/-- Every drawn value is between zero and one. -/
theorem drawn_range (y : Cert.ReferenceIdeal.S4x2048.Idx) :
    ∃ q : ℝ, (drawnBy (after Cert.ReferenceIdeal.Line.opsHead V) (Proc.devRef .tc Cert.ReferenceIdeal.main_v22) : Vec Ideal Cert.ReferenceIdeal.S4x2048 .f32) y = (q : EReal)
      ∧ 0 ≤ q ∧ q < 1 := by
  unfold drawnBy
  rw [last_eq, floor_eq, ceil_eq]
  exact scaled_range _ _ _ (fun _ => rfl) (fun _ => rfl) y

end Range

end Cert.Draw

end
-- ==== Proof.RefRun.lean ====
/- The run of the reference's @main: every buffer ends at the fold of the operations over the launch contents, and no
   operation writes the argument. -/
module

public import proofs.«01_k».proof.Proof.RefLine
public import Idealize.ShloMosaic.Lib.StableHlo.RunRead
public import Idealize.ShloMosaic.Lib.Pipeline.Frame

@[expose] public section

noncomputable section

namespace Cert.ReferenceIdeal.Line

open Cert.ReferenceIdeal Cert.ReferenceIdeal.Facts₀ Cert.ReferenceIdeal.Facts
open Idealize.ShloMosaic Idealize.ShloMosaic.TcCoe Idealize.ShloMosaic.StableHlo Idealize.SL.Sem

variable {F : FTy → Type} [FloatOps F]

/-- Every buffer ends at the fold of the operations over the launch contents. -/
theorem line_run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- The argument keeps its contents. -/
theorem arg0_eq (V : Valuation τ sig (Elt F)) : after ops V (main_arg0 : DevRef τ sig) = V (main_arg0 : DevRef τ sig) := by
  unfold ops
  simp only [after_append]
  rw [after_unwritten opsTail_W opsTail_writes (by decide +kernel), after_unwritten opsDraw6_W opsDraw6_writes (by decide +kernel),
    after_unwritten opsDraw5_W opsDraw5_writes (by decide +kernel), after_unwritten opsDraw4_W opsDraw4_writes (by decide +kernel),
    after_unwritten opsDraw3_W opsDraw3_writes (by decide +kernel), after_unwritten opsDraw2_W opsDraw2_writes (by decide +kernel),
    after_unwritten opsDraw1_W opsDraw1_writes (by decide +kernel), after_unwritten opsDraw0_W opsDraw0_writes (by decide +kernel),
    after_unwritten opsHead_W opsHead_writes (by decide +kernel)]

end Cert.ReferenceIdeal.Line

end
-- ==== Proof.RefValue.lean ====
/- What the reference's operations compute at coordinates, over the extended reals: a column at a time, the magnitudes given as
   a function of the position. -/
module

public import proofs.«01_k».proof.Proof.RefLine
public import proofs.«01_k».proof.Proof.Column
public import Idealize.ShloMosaic.Lib.StableHlo.RunRead
public import Idealize.ShloMosaic.Lib.Pipeline.Frame
public import Idealize.ShloMosaic.Lib.Pipeline.Value
public import Idealize.ShloMosaic.Lib.StableHlo.Predicate
public import Idealize.ShloMosaic.Lib.Pointwise.Reduce
public import Idealize.ShloMosaic.Lib.ValueIdxCore

@[expose] public section

noncomputable section

namespace Cert.ReferenceIdeal.Line

open Cert.ReferenceIdeal Cert.ReferenceIdeal.Facts₀ Cert.ReferenceIdeal.Facts
open Idealize.ShloMosaic Idealize.ShloMosaic.TcCoe Idealize.ShloMosaic.StableHlo Idealize.ShloMosaic.ValueIdx Idealize.SL.Sem

/-! ## The array functions -/

/-- A row of values repeated at every position of its column. -/
def spread (r : FVec Ideal S4x2048 .f32) : FVec Ideal S4x8192x2048 .f32 :=
  broadcastInDim S4x8192x2048 ![0, 1, 2] bcast_S4x1x2048_S4x8192x2048_0_1_2 (broadcastInDim S4x1x2048 ![0, 2] bcast_S4x2048_S4x1x2048_0_2 r)

/-- The sums of the columns. -/
def sums (A : FVec Ideal S4x8192x2048 .f32) : FVec Ideal S4x2048 .f32 :=
  Host.reduceAdd A (constant S_ .f32 0x00000000#32) reducesTo_S4x8192x2048_S4x2048_d1 h_S_

/-- The weights. -/
def weights (A : FVec Ideal S4x8192x2048 .f32) : FVec Ideal S4x8192x2048 .f32 :=
  Host.exp (mulf (Host.divf A (spread (sums A))) (broadcastInDim S4x8192x2048 ![] bcast_S_S4x8192x2048 (constant (F := Ideal) S_ .f32 0x40000000#32)))

/-- The shares of the columns' weights. -/
def shares (A : FVec Ideal S4x8192x2048 .f32) : FVec Ideal S4x8192x2048 .f32 := Host.divf (weights A) (spread (sums (weights A)))

/-- The thresholds. -/
def thresholds (A : FVec Ideal S4x8192x2048 .f32) : FVec Ideal S4x8192x2048 .f32 :=
  addf (Host.reduceWindowAdd ![1, 8192, 1] ![1, 1, 1] ![0, 8191, 0] ![0, 0, 0] (shares A)
      (broadcastInDim S_ ![] bcast_S_S_ (constant (F := Ideal) S_ .f32 0x00000000#32))
      reduceWindows_S4x8192x2048_S4x8192x2048_w1s1p0_0_w8192s1p8191_0_w1s1p0_0 h_S_)
    (broadcastInDim S4x8192x2048 ![] bcast_S_S4x8192x2048 (constant (F := Ideal) S_ .f32 0x3A83126F#32))

/-- The number of thresholds of each column that do not exceed its drawn value. -/
def counts (C : FVec Ideal S4x8192x2048 .f32) (R : FVec Ideal S4x2048 .f32) : IVec S4x2048 32 :=
  Host.reduce IntOp.addi (extui 32 (cmpf .ole C (spread R)) natLt_1_32) (constantI S_ 32 0#32) reducesTo_S4x8192x2048_S4x2048_d1 h_S_

/-- The positions read, a negative one counted from the end. -/
def positions (N : IVec S4x2048 32) : IVec S4x1x2048x1 32 :=
  let n := broadcastInDim S4x1x2048 ![0, 2] bcast_S4x2048_S4x1x2048_0_2 N
  shapeCast S4x1x2048x1 (select (cmpi .slt n (broadcastInDim S4x1x2048 ![] bcast_S_S4x1x2048 (constantI S_ 32 0#32)))
    (addi n (broadcastInDim S4x1x2048 ![] bcast_S_S4x1x2048 (constantI S_ 32 8192#32))) n) shapeCasts_S4x1x2048_S4x1x2048x1

/-- Which of the positions are inside the columns. -/
def inside (I : IVec S4x1x2048x1 32) : IVec S4x1x2048 1 :=
  Host.reduce IntOp.andi
    (andi (cmpi .sge I (broadcastInDim S4x1x2048x1 ![] bcast_S_S4x1x2048x1 (constantI S_ 32 0#32)))
      (cmpi .sle I (broadcastInDim S4x1x2048x1 ![0, 1, 2, 3] bcast_S1x1x1x1_S4x1x2048x1_0_1_2_3
        (broadcastInDim S1x1x1x1 ![3] bcast_S1_S1x1x1x1_3 (constantI S1 32 8191#32)))))
    (constantI S_ 1 1#1) reducesTo_S4x1x2048x1_S4x1x2048_d3 h_S_

/-- The magnitudes at the positions. -/
def taken (A : FVec Ideal S4x8192x2048 .f32) (I : IVec S4x1x2048x1 32) : FVec Ideal S4x1x2048 .f32 :=
  select (inside I) (Host.gather gather_S4x8192x2048_S4x1x2048x1_S4x1x2048_n_1_02_02_1_3_111 A I)
    (broadcastInDim S4x1x2048 ![] bcast_S_S4x1x2048 (constant (F := Ideal) S_ .f32 0x7FC00000#32))

/-- The product of the input and the mask of its magnitudes at least the ones taken. -/
def masked (X A : FVec Ideal S4x8192x2048 .f32) (T : FVec Ideal S4x1x2048 .f32) : FVec Ideal S4x8192x2048 .f32 :=
  mulf X (uitofp .f32 (cmpf .oge A (broadcastInDim S4x8192x2048 ![0, 1, 2] bcast_S4x1x2048_S4x8192x2048_0_1_2 T)))

/-! ## The line computes them -/

variable (V : Valuation τ sig (Elt Ideal))

theorem head_mag : after opsHead V (Proc.devRef .tc main_v0) = (Host.absf (V (Proc.devRef .tc main_arg0)) : FVec Ideal S4x8192x2048 .f32) := by
  after_reads_simp

theorem head_arg : after opsHead V (Proc.devRef .tc main_arg0) = V (Proc.devRef .tc main_arg0) := by
  after_reads_simp

theorem head_thresholds : after opsHead V (Proc.devRef .tc main_v14)
    = (thresholds (Host.absf (V (Proc.devRef .tc main_arg0) : FVec Ideal S4x8192x2048 .f32)) : FVec Ideal S4x8192x2048 .f32) := by
  after_reads_simp
  rfl

theorem tail_counts : after (opsTail.take 7) V (Proc.devRef .tc main_v28)
    = (broadcastInDim S4x1x2048 ![0, 2] bcast_S4x2048_S4x1x2048_0_2
        (counts (V (Proc.devRef .tc main_v14)) (V (Proc.devRef .tc main_v22))) : IVec S4x1x2048 32) := by
  after_reads_simp
  rfl

theorem tail_positions (N : IVec S4x2048 32) (hN : V (Proc.devRef .tc main_v28) = (broadcastInDim S4x1x2048 ![0, 2] bcast_S4x2048_S4x1x2048_0_2 N : IVec S4x1x2048 32)) :
    after ((opsTail.drop 7).take 8) V (Proc.devRef .tc main_call2_v5) = (positions N : IVec S4x1x2048x1 32) := by
  after_reads_simp
  rw [hN]
  rfl

attribute [local irreducible] Host.reduce Host.gather in
theorem tail_inside : after ((opsTail.drop 15).take 10) V (Proc.devRef .tc main_call2_v12) = (inside (V (Proc.devRef .tc main_call2_v5)) : IVec S4x1x2048 1) := by
  after_reads_simp
  rfl

attribute [local irreducible] Host.reduce Host.gather in
theorem tail_taken (I : IVec S4x1x2048x1 32) (hI : V (Proc.devRef .tc main_call2_v5) = I) (hin : V (Proc.devRef .tc main_call2_v12) = (inside I : IVec S4x1x2048 1)) :
    after ((opsTail.drop 25).take 4) V (Proc.devRef .tc main_v29) = (taken (V (Proc.devRef .tc main_v0)) I : FVec Ideal S4x1x2048 .f32) := by
  after_reads_simp
  rw [hI, hin]
  rfl

theorem tail_last : after (opsTail.drop 29) V (Proc.devRef .tc main_v33)
    = (masked (V (Proc.devRef .tc main_arg0)) (V (Proc.devRef .tc main_v0)) (V (Proc.devRef .tc main_v29)) : FVec Ideal S4x8192x2048 .f32) := by
  after_reads_simp
  rfl

theorem split (l : List (HloOp τ sig (Elt Ideal))) (n : ℕ) : after l V = after (l.drop n) (after (l.take n) V) := by
  rw [← after_append, List.take_append_drop]

theorem tail_masked : after opsTail V (Proc.devRef .tc main_v33)
    = (masked (V (Proc.devRef .tc main_arg0)) (V (Proc.devRef .tc main_v0))
        (taken (V (Proc.devRef .tc main_v0)) (positions (counts (V (Proc.devRef .tc main_v14)) (V (Proc.devRef .tc main_v22))))) : FVec Ideal S4x8192x2048 .f32) := by
  have d (a n : ℕ) (U : Valuation τ sig (Elt Ideal)) : after (opsTail.drop a) U = after (opsTail.drop (a + n)) (after ((opsTail.drop a).take n) U) := by
    rw [← List.drop_drop]; exact split U _ n
  rw [split V opsTail 7, d 7 8, d 15 10, d 25 4, tail_last]
  have h0 (r : Ref sig .tc) (hr : r = main_v0 ∨ r = main_arg0) (U : Valuation τ sig (Elt Ideal)) :
      after (opsTail.take 7) U (Proc.devRef .tc r) = U (Proc.devRef .tc r)
      ∧ after ((opsTail.drop 7).take 8) U (Proc.devRef .tc r) = U (Proc.devRef .tc r)
      ∧ after ((opsTail.drop 15).take 10) U (Proc.devRef .tc r) = U (Proc.devRef .tc r)
      ∧ after ((opsTail.drop 25).take 4) U (Proc.devRef .tc r) = U (Proc.devRef .tc r) := by
    rcases hr with rfl | rfl <;> refine ⟨?_, ?_, ?_, ?_⟩ <;> after_reads_simp
  have h5 (U : Valuation τ sig (Elt Ideal)) : after ((opsTail.drop 15).take 10) U (Proc.devRef .tc main_call2_v5) = U (Proc.devRef .tc main_call2_v5) := by
    after_reads_simp
  rw [tail_taken _ _ ((h5 _).trans (tail_positions _ _ (tail_counts V))) ((tail_inside _).trans (congrArg inside (tail_positions _ _ (tail_counts V)))),
    (h0 main_v0 (.inl rfl) _).2.2.2, (h0 main_v0 (.inl rfl) _).2.2.1, (h0 main_v0 (.inl rfl) _).2.1, (h0 main_v0 (.inl rfl) _).1,
    (h0 main_arg0 (.inr rfl) _).2.2.2, (h0 main_arg0 (.inr rfl) _).2.2.1, (h0 main_arg0 (.inr rfl) _).2.1, (h0 main_arg0 (.inr rfl) _).1]

end Cert.ReferenceIdeal.Line

end
-- ==== Proof.RefColumn.lean ====
/- The reference's array functions at coordinates: a column at a time, its magnitudes given as a function of the position. -/
module

public import proofs.«01_k».proof.Proof.RefValue

@[expose] public section

noncomputable section

namespace Cert.ReferenceIdeal.Line

open Cert.ReferenceIdeal Cert.ReferenceIdeal.Facts₀ Cert.ReferenceIdeal.Facts
open Idealize.ShloMosaic hiding ix1 ix2 ix3 ix4
open Idealize.ShloMosaic.TcCoe Idealize.ShloMosaic.StableHlo Idealize.ShloMosaic.ValueIdx

/-- The array's column `(b, L)` is the function `a` of the position. -/
def OnCol (A : FVec Ideal S4x8192x2048 .f32) (b : Fin 4) (L : Fin 2048) (a : ℕ → EReal) : Prop := ∀ i : Fin 8192, A (ix3 b i L) = a i.val

variable {A : FVec Ideal S4x8192x2048 .f32} {b : Fin 4} {L : Fin 2048} {a : ℕ → EReal}

theorem lane_apply {α : Type} (r : S4x2048.Idx → α) (b : Fin 4) (z : Fin 1) (L : Fin 2048) :
    broadcastInDim S4x1x2048 ![0, 2] bcast_S4x2048_S4x1x2048_0_2 r (ix3 b z L) = r (ix2 b L) :=
  broadcastInDim_apply _ _ _ _ _ (by intro d; match d with | 0 => rfl | 1 => rfl)

theorem down_apply {α : Type} (r : S4x1x2048.Idx → α) (b : Fin 4) (i : Fin 8192) (L : Fin 2048) :
    broadcastInDim S4x8192x2048 ![0, 1, 2] bcast_S4x1x2048_S4x8192x2048_0_1_2 r (ix3 b i L) = r (ix3 b 0 L) :=
  broadcastInDim_apply _ _ _ _ _ (by intro d; match d with | 0 => rfl | 1 => rfl | 2 => rfl)

theorem spread_apply (r : FVec Ideal S4x2048 .f32) (b : Fin 4) (i : Fin 8192) (L : Fin 2048) : spread r (ix3 b i L) = r (ix2 b L) :=
  (down_apply _ b i L).trans (lane_apply r b 0 L)

theorem sums_apply (h : OnCol A b L a) : sums A (ix2 b L) = ∑ i ∈ Finset.range 8192, a i := by
  refine (Ideal.hostReduceAdd_r3_a1 _ _ _ _).trans ?_
  rw [show (constant S_ .f32 0x00000000#32 : FVec Ideal S_ .f32) (Shape.Idx.first h_S_) = 0 from Column.zero_eq, zero_add, ← Fin.sum_univ_eq_sum_range]
  exact Finset.sum_congr rfl fun i _ => h i

/-- An array of one value. -/
theorem fill_apply (w : BitVec 32) (y : S4x8192x2048.Idx) :
    broadcastInDim S4x8192x2048 ![] bcast_S_S4x8192x2048 (constant (F := Ideal) S_ .f32 w) y = Ideal.ofBits .f32 w := rfl

theorem weights_apply (h : OnCol A b L a) : OnCol (weights A) b L (Column.weight a) := by
  intro i
  simp only [weights, Host.exp, mulf, Host.divf, spread_apply, sums_apply h, h i, Ideal.hostUnary_exp_def, Ideal.mulf_def, Ideal.hostDivf_def]
  exact congrArg (fun w : EReal => Ideal.exp (Ideal.div (a i.val) (Column.total a) * w)) (fill_apply 0x40000000#32 (ix3 b i L))

theorem shares_apply (h : OnCol A b L a) : OnCol (shares A) b L (Column.share a) := by
  intro i
  simp only [shares, Host.divf, spread_apply, sums_apply (weights_apply h), weights_apply h i, Ideal.hostDivf_def]
  rfl

/-! ## The running sum -/

theorem foldl_add {ι : Type} (f : ι → EReal) : ∀ (l : List ι) (v : EReal), l.foldl (fun r n => r + f n) v = v + (l.map f).sum
  | [], v => by simp
  | x :: l, v => by rw [List.foldl_cons, foldl_add f l, List.map_cons, List.sum_cons, add_assoc]

/-- A window as high as the column, ending at a position, sums the positions up to it. -/
theorem window_sum (f : ℕ → EReal) (i : ℕ) (hi : i < 8192) :
    (∑ n ∈ Finset.range 8192, if 8191 ≤ i + n then f (i + n - 8191) else 0) = ∑ j ∈ Finset.range (i + 1), f j := by
  rw [show Finset.range 8192 = Finset.range ((8191 - i) + (i + 1)) from congrArg Finset.range (by omega), Finset.sum_range_add,
    Finset.sum_eq_zero fun n hn => if_neg (by have := Finset.mem_range.mp hn; omega), zero_add]
  refine Finset.sum_congr rfl fun j hj => ?_
  rw [if_pos (by omega)]
  exact congrArg f (by omega)

theorem window_numel : (⟨3, ![1, 8192, 1]⟩ : Shape).numel = 8192 := by
  simp [Shape.numel, Fin.prod_univ_three]

theorem window_coords (n : Fin (⟨3, ![1, 8192, 1]⟩ : Shape).numel) :
    ((⟨3, ![1, 8192, 1]⟩ : Shape).rowMajor.symm n 0).val = 0 ∧ ((⟨3, ![1, 8192, 1]⟩ : Shape).rowMajor.symm n 1).val = n.val
      ∧ ((⟨3, ![1, 8192, 1]⟩ : Shape).rowMajor.symm n 2).val = 0 := by
  have e := Shape.rowMajor_val_three ((⟨3, ![1, 8192, 1]⟩ : Shape).rowMajor.symm n)
  rw [Equiv.apply_symm_apply] at e
  have h0 : ((⟨3, ![1, 8192, 1]⟩ : Shape).rowMajor.symm n 0).val < 1 := ((⟨3, ![1, 8192, 1]⟩ : Shape).rowMajor.symm n 0).isLt
  have h2 : ((⟨3, ![1, 8192, 1]⟩ : Shape).rowMajor.symm n 2).val < 1 := ((⟨3, ![1, 8192, 1]⟩ : Shape).rowMajor.symm n 2).isLt
  change n.val = (_ * 8192 + _) * 1 + _ at e
  omega

theorem running_apply (x : FVec Ideal S4x8192x2048 .f32) (f : ℕ → EReal) (h : OnCol x b L f) (i : Fin 8192) :
    Ideal.hostReduceWindowAdd ![1, 8192, 1] ![1, 1, 1] ![0, 8191, 0] ![0, 0, 0]
      reduceWindows_S4x8192x2048_S4x8192x2048_w1s1p0_0_w8192s1p8191_0_w1s1p0_0 x 0 (ix3 b i L) = ∑ j ∈ Finset.range (i.val + 1), f j := by
  have hi := i.isLt
  have hb := b.isLt
  have hL := L.isLt
  unfold Ideal.hostReduceWindowAdd Host.reduceWindow
  refine (foldl_add _ _ _).trans ?_
  rw [zero_add, ← List.ofFn_eq_map, List.sum_ofFn]
  refine Eq.trans (Finset.sum_congr rfl fun n _ => ?_) ((Fin.sum_univ_eq_sum_range (fun n => if 8191 ≤ i.val + n then f (i.val + n - 8191) else 0) _).trans
    ((congrArg (fun N => ∑ n ∈ Finset.range N, if 8191 ≤ i.val + n then f (i.val + n - 8191) else 0) window_numel).trans (window_sum f i.val hi)))
  obtain ⟨h0, h1, h2⟩ := window_coords n
  have hn : n.val < 8192 := lt_of_lt_of_eq n.isLt window_numel
  dsimp only
  split
  · next hin =>
    have c : 8191 ≤ i.val * 1 + ((⟨3, ![1, 8192, 1]⟩ : Shape).rowMajor.symm n 1).val := (hin 1).1
    rw [h1, Nat.mul_one] at c
    rw [if_pos c]
    refine Eq.trans (congrArg x (funext fun d => Fin.ext ?_)) (h ⟨i.val + n.val - 8191, by omega⟩)
    match d with
    | 0 => show b.val * 1 + ((⟨3, ![1, 8192, 1]⟩ : Shape).rowMajor.symm n 0).val - 0 = b.val; omega
    | 1 => show i.val * 1 + ((⟨3, ![1, 8192, 1]⟩ : Shape).rowMajor.symm n 1).val - 8191 = i.val + n.val - 8191; omega
    | 2 => show L.val * 1 + ((⟨3, ![1, 8192, 1]⟩ : Shape).rowMajor.symm n 2).val - 0 = L.val; omega
  · next hin =>
    refine (if_neg fun c => hin fun d => ?_).symm
    match d with
    | 0 => show 0 ≤ b.val * 1 + ((⟨3, ![1, 8192, 1]⟩ : Shape).rowMajor.symm n 0).val ∧ b.val * 1 + ((⟨3, ![1, 8192, 1]⟩ : Shape).rowMajor.symm n 0).val - 0 < 4; omega
    | 1 => show 8191 ≤ i.val * 1 + ((⟨3, ![1, 8192, 1]⟩ : Shape).rowMajor.symm n 1).val ∧ i.val * 1 + ((⟨3, ![1, 8192, 1]⟩ : Shape).rowMajor.symm n 1).val - 8191 < 8192; omega
    | 2 => show 0 ≤ L.val * 1 + ((⟨3, ![1, 8192, 1]⟩ : Shape).rowMajor.symm n 2).val ∧ L.val * 1 + ((⟨3, ![1, 8192, 1]⟩ : Shape).rowMajor.symm n 2).val - 0 < 2048; omega

theorem thresholds_apply (h : OnCol A b L a) : OnCol (thresholds A) b L (Column.cum a) := by
  intro i
  have z : (broadcastInDim S_ ![] bcast_S_S_ (constant (F := Ideal) S_ .f32 0x00000000#32)) (Shape.Idx.first h_S_) = (0 : EReal) := Column.zero_eq
  simp only [thresholds, addf, fill_apply, Host.reduceWindowAdd, Ideal.addf_def, z]
  exact congrArg (fun u : EReal => u + Column.lift) (running_apply (shares A) _ (shares_apply h) i)

/-! ## The count -/

theorem bit_iff (p : Prop) [Decidable p] : BitVec.ofBool (decide p) = 1#1 ↔ p := by
  by_cases h : p <;> simp [h]

theorem counts_apply (C : FVec Ideal S4x8192x2048 .f32) (R : FVec Ideal S4x2048 .f32) (h : OnCol C b L (Column.cum a)) :
    (counts C R (ix2 b L)).toNat = Column.count a (R (ix2 b L)) := by
  classical
  unfold counts
  rw [Host.reduce_eq_fold, Shape.ReducesTo.fold_fiber_r3_a1]
  have hv : ∀ k : Fin 8192, ((extui 32 (cmpf .ole C (spread R)) natLt_1_32 : IVec S4x8192x2048 32) (ix3 b k L)).toNat
      = if Column.cum a k.val ≤ R (ix2 b L) then 1 else 0 := by
    intro k
    refine (Predicate.toNat_setWidth_bit _).trans ?_
    simp only [cmpf, spread_apply, h k, Ideal.cmpf_def, Ideal.cmp, bit_iff]
  have hs : ∑ k : Fin 8192, ((extui 32 (cmpf .ole C (spread R)) natLt_1_32 : IVec S4x8192x2048 32) (ix3 b k L)).toNat
      = Column.count a (R (ix2 b L)) := by
    rw [Finset.sum_congr rfl fun k _ => hv k, Fin.sum_univ_eq_sum_range (fun k => if Column.cum a k ≤ R (ix2 b L) then 1 else 0), Column.count,
      Finset.card_filter]
  have hle : Column.count a (R (ix2 b L)) ≤ 8192 := (Finset.card_filter_le _ _).trans (by simp)
  exact (Predicate.toNat_fold_addi Finset.univ (fun k : Fin 8192 => (extui 32 (cmpf .ole C (spread R)) natLt_1_32 : IVec S4x8192x2048 32) (ix3 b k L))
    (by rw [hs]; omega)).trans hs

theorem count_le (v : EReal) : Column.count a v ≤ 8192 := (Finset.card_filter_le _ _).trans (by simp)

/-! ## The magnitude at the count -/

theorem toInt_small (n : BitVec 32) (h : n.toNat ≤ 8192) : n.toInt = n.toNat := BitVec.toInt_eq_toNat_of_lt (by omega)

theorem not_negative (n : BitVec 32) (h : n.toNat ≤ 8192) : IntOp.cmpi .slt n 0#32 = 0#1 := by
  show BitVec.ofBool (n.slt 0#32) = _
  rw [BitVec.slt, toInt_small n h, decide_eq_false (show ¬ ((n.toNat : ℤ) < (0#32).toInt) from not_lt.mpr (Int.natCast_nonneg _))]
  rfl

theorem at_least_zero (n : BitVec 32) (h : n.toNat ≤ 8192) : IntOp.cmpi .sge n 0#32 = 1#1 := by
  show BitVec.ofBool ((0#32).sle n) = _
  rw [BitVec.sle, toInt_small n h]
  simp

theorem at_most_last (n : BitVec 32) (h : n.toNat ≤ 8192) : IntOp.cmpi .sle n 8191#32 = BitVec.ofBool (decide (n.toNat < 8192)) := by
  show BitVec.ofBool (n.sle 8191#32) = _
  rw [BitVec.sle, toInt_small n h, show (8191#32).toInt = 8191 from rfl]
  congr 2
  exact propext ⟨fun _ => by omega, fun _ => by omega⟩

theorem positions_apply (N : IVec S4x2048 32) (h : (N (ix2 b L)).toNat ≤ 8192) (z w : Fin 1) : positions N (ix4 b z L w) = N (ix2 b L) := by
  have hz := z.isLt
  have hw := w.isLt
  unfold positions
  rw [shapeCast_apply _ _ (ix4 b z L w) (ix3 b z L) (by
    rw [Shape.rowMajor_val_three, Shape.rowMajor_val_four]
    show (b.val * 1 + z.val) * 2048 + L.val = ((b.val * 1 + z.val) * 2048 + L.val) * 1 + w.val
    omega)]
  have hn : broadcastInDim S4x1x2048 ![0, 2] bcast_S4x2048_S4x1x2048_0_2 N (ix3 b z L) = N (ix2 b L) := lane_apply N b z L
  simp only [select, cmpi, hn]
  refine (congrArg (fun c => Scalar.select c _ _) (not_negative _ h)).trans ?_
  rfl

theorem inside_apply (I : IVec S4x1x2048x1 32) (h : (I (ix4 b 0 L 0)).toNat ≤ 8192) :
    inside I (ix3 b 0 L) = BitVec.ofBool (decide ((I (ix4 b 0 L 0)).toNat < 8192)) := by
  unfold inside
  rw [Host.reduce_eq_fold, Shape.ReducesTo.fold_fiber_r4_a3]
  refine (Finset.fold_singleton (a := (0 : Fin 1))).trans ?_
  show IntOp.andi (IntOp.andi (IntOp.cmpi .sge (I (ix4 b 0 L 0)) 0#32) (IntOp.cmpi .sle (I (ix4 b 0 L 0)) 8191#32)) 1#1 = _
  rw [at_least_zero _ h, at_most_last _ h]
  by_cases c : (I (ix4 b 0 L 0)).toNat < 8192 <;> simp [c, IntOp.andi]

theorem gather_apply (x : FVec Ideal S4x8192x2048 .f32) (I : IVec S4x1x2048x1 32) :
    Host.gather gather_S4x8192x2048_S4x1x2048x1_S4x1x2048_n_1_02_02_1_3_111 x I (ix3 b 0 L)
      = x (ix3 b ⟨min (I (ix4 b 0 L 0)).toInt.toNat 8191, by omega⟩ L) := by
  unfold Host.gather
  refine congrArg x (funext fun d => Fin.ext ?_)
  show GatherDims.start _ _ _ d + GatherDims.batchCoord _ _ d + GatherDims.offCoord _ _ d = _
  rw [GatherDims.offCoord_eq_zero _ _ _ (by rw [GatherDims.mem_sKept]; revert d; decide)]
  match d with
  | 0 =>
    rw [GatherDims.start_batching _ _ _ _ (by decide), Nat.zero_add, Nat.add_zero]
    unfold GatherDims.batchCoord
    rw [dif_pos (by decide)]
    rfl
  | 1 =>
    rw [GatherDims.batchCoord_eq_zero _ _ _ (by decide)]
    unfold GatherDims.start
    rw [dif_pos (by decide)]
    refine (congrArg (fun k => min (I k).toInt.toNat 8191) (funext fun e => Fin.ext ?_) : _ = min (I (ix4 b 0 L 0)).toInt.toNat 8191)
    match e with
    | 0 => rfl
    | 1 => rfl
    | 2 => rfl
    | 3 => rfl
  | 2 =>
    rw [GatherDims.start_batching _ _ _ _ (by decide), Nat.zero_add, Nat.add_zero]
    unfold GatherDims.batchCoord
    rw [dif_pos (by decide)]
    rfl

theorem nan_eq : Ideal.ofBits .f32 0x7FC00000#32 = ⊥ := by
  simp [Ideal.ofBits, Ideal.ieee]

theorem taken_apply (R : FVec Ideal S4x2048 .f32) (h : OnCol A b L a) :
    taken A (positions (counts (thresholds A) R)) (ix3 b 0 L) = Column.counted a (R (ix2 b L)) := by
  have hc := counts_apply _ R (thresholds_apply h)
  have hle := hc.trans_le (count_le _)
  have hp : positions (counts (thresholds A) R) (ix4 b 0 L 0) = counts (thresholds A) R (ix2 b L) := positions_apply _ hle 0 0
  unfold taken
  generalize positions (counts (thresholds A) R) = I at hp
  rw [← hp] at hc hle
  simp only [select, inside_apply I hle, gather_apply]
  unfold Column.counted
  rw [hc]
  by_cases c : Column.count a (R (ix2 b L)) < 8192
  · rw [if_pos c]
    refine (if_pos (by simp [c])).trans ((h _).trans (congrArg a ?_))
    show min (I (ix4 b 0 L 0)).toInt.toNat 8191 = _
    rw [toInt_small _ hle, hc]
    omega
  · rw [if_neg c]
    exact (if_neg (by simp [c])).trans nan_eq

/-! ## The result -/

theorem masked_at (X A : FVec Ideal S4x8192x2048 .f32) (T : FVec Ideal S4x1x2048 .f32) (b : Fin 4) (i : Fin 8192) (L : Fin 2048) :
    masked X A T (ix3 b i L) = X (ix3 b i L) * (if T (ix3 b 0 L) ≤ A (ix3 b i L) then 1 else 0) := by
  rw [← down_apply T b i L]
  unfold masked
  generalize broadcastInDim S4x8192x2048 ![0, 1, 2] bcast_S4x1x2048_S4x8192x2048_0_1_2 T = U
  show X (ix3 b i L) * (((BitVec.ofBool (decide (U (ix3 b i L) ≤ A (ix3 b i L)))).toNat : ℝ) : EReal) = _
  by_cases c : U (ix3 b i L) ≤ A (ix3 b i L) <;> simp [c]

theorem masked_apply (X A : FVec Ideal S4x8192x2048 .f32) (R : FVec Ideal S4x2048 .f32) (h : OnCol A b L a) (i : Fin 8192) :
    masked X A (taken A (positions (counts (thresholds A) R))) (ix3 b i L)
      = X (ix3 b i L) * (if Column.counted a (R (ix2 b L)) ≤ a i.val then 1 else 0) := by
  rw [masked_at, taken_apply R h, h i]

end Cert.ReferenceIdeal.Line

end
-- ==== Proof.Match.lean ====
/- The reference's result, and that it is the kernel's: over the extended reals the two programs select the same elements. -/
module

public import proofs.«01_k».proof.Proof.Array
public import proofs.«01_k».proof.Proof.Draw
public import proofs.«01_k».proof.Proof.RefRun
public import proofs.«01_k».proof.Proof.RefColumn

@[expose] public section

noncomputable section

namespace Cert.Match

open Idealize.ShloMosaic hiding ix1 ix2 ix3 ix4 eq_ix3
open Idealize.ShloMosaic.TcCoe Idealize.ShloMosaic.StableHlo Idealize.ShloMosaic.ValueIdx Idealize.SL.Sem
open Cert.ReferenceIdeal Cert.ReferenceIdeal.Line

/-- The draw leaves the buffers it does not write. -/
theorem drawn_keep (V : Valuation τ sig (Elt Ideal)) (r : Ref sig .tc) (h : r = main_arg0 ∨ r = main_v0 ∨ r = main_v14) :
    Draw.drawnBy V (Proc.devRef .tc r) = V (Proc.devRef .tc r) := by
  unfold Draw.drawnBy
  rcases h with rfl | rfl | rfl <;>
  rw [after_unwritten opsDraw6_W opsDraw6_writes (by decide +kernel),
    after_unwritten opsDraw5_W opsDraw5_writes (by decide +kernel), after_unwritten opsDraw4_W opsDraw4_writes (by decide +kernel),
    after_unwritten opsDraw3_W opsDraw3_writes (by decide +kernel), after_unwritten opsDraw2_W opsDraw2_writes (by decide +kernel),
    after_unwritten opsDraw1_W opsDraw1_writes (by decide +kernel), after_unwritten opsDraw0_W opsDraw0_writes (by decide +kernel)]

/-- The reference's result of an argument and drawn values. -/
def product (X : FVec Ideal S4x8192x2048 .f32) (R : FVec Ideal S4x2048 .f32) : FVec Ideal S4x8192x2048 .f32 :=
  masked X (Host.absf X) (taken (Host.absf X) (positions (counts (thresholds (Host.absf X)) R)))

theorem line_value (V : Valuation τ sig (Elt Ideal)) :
    after ops V (Proc.devRef .tc main_v33)
      = product (V (Proc.devRef .tc main_arg0)) (Draw.drawnBy (after opsHead V) (Proc.devRef .tc main_v22)) := by
  have e : after ops V = after opsTail (Draw.drawnBy (after opsHead V)) := by
    unfold ops Draw.drawnBy
    simp only [after_append]
  rw [e, tail_masked, drawn_keep _ main_arg0 (.inl rfl), drawn_keep _ main_v0 (.inr (.inl rfl)), drawn_keep _ main_v14 (.inr (.inr rfl)), head_arg, head_mag,
    head_thresholds]
  rfl

theorem on_column (X : FVec Ideal S4x8192x2048 .f32) (b : Fin 4) (L : Fin 2048) :
    OnCol (Host.absf X) b L (Cert.KernelIdeal.Band.column X b L) := fun i => by
  unfold Cert.KernelIdeal.Band.column
  rw [dif_pos i.isLt]
  rfl

/-- The two results are the same where the drawn values are in range. -/
theorem product_eq (X : FVec Ideal S4x8192x2048 .f32) (R : FVec Ideal S4x2048 .f32) (hR : ∀ y, ∃ q : ℝ, R y = (q : EReal) ∧ 0 ≤ q ∧ q < 1) :
    product X R = Cert.KernelIdeal.Band.result X R := by
  funext y
  obtain ⟨b, i, L, rfl⟩ : ∃ (b : Fin 4) (i : Fin 8192) (L : Fin 2048), y = ix3 b i L := ⟨y 0, y 1, y 2, eq_ix3 y⟩
  obtain ⟨q, hq, h0, h1⟩ := hR (ix2 b L)
  obtain ⟨l, hl, hpos⟩ := Column.lift_eq
  have hx : Cert.KernelIdeal.Band.column X b L i.val = max (X (ix3 b i L)) (-X (ix3 b i L)) := by
    unfold Cert.KernelIdeal.Band.column
    rw [dif_pos i.isLt]
    rfl
  have hmag (x : EReal) : 0 ≤ Cert.KernelIdeal.Band.mag x := by
    unfold Cert.KernelIdeal.Band.mag
    rcases le_total 0 x with h | h
    · exact le_max_of_le_left h
    · exact le_max_of_le_right (EReal.neg_nonneg.mpr h)
  refine (masked_apply X _ R (on_column X b L) i).trans ?_
  rw [hx]
  refine (Column.select_eq (Cert.KernelIdeal.Band.column X b L) (R (ix2 b L)) (X (ix3 b i L)) (fun k => ?_) ?_ ?_ i.val i.isLt hx).symm
  · unfold Cert.KernelIdeal.Band.column
    split
    · exact hmag _
    · exact le_rfl
  · rw [hq, Column.low_eq]
    exact EReal.coe_le_coe_iff.mpr (by linarith)
  · rw [hq, hl, ← EReal.coe_one, ← EReal.coe_add]
    exact EReal.coe_lt_coe_iff.mpr (by linarith)

end Cert.Match

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Match
public import Idealize.ShloMosaic.Adequacy
public import Idealize.ShloMosaic.Init
public import Idealize.ShloMosaic.Lib.Pipeline.Regions

@[expose] public section

noncomputable section

namespace Cert.Proof

open Idealize.ShloMosaic Idealize.ShloMosaic.TcCoe Idealize.SL.Sem

attribute [local instance] Cert.KernelIdeal.Gen.facts in
/-- The kernel and its idealization are one program, so the kernel's own run is the idealization's text read at words. -/
theorem same_program : Cert.quiescent_Kernel (hKernel := Cert.Kernel.Gen.facts) =
    (∀ (m : (ℓ : Loc Cert.KernelIdeal.nD Cert.KernelIdeal.τ Cert.KernelIdeal.sig) → Buf (Elt Bits) ℓ) (g : Dev Cert.KernelIdeal.nD → PrngReg), True →
      θ_run (Cert.KernelIdeal.defs (F := Bits)) (onTc (τ := Cert.KernelIdeal.τ) (Cert.KernelIdeal.main (F := Bits))) ⟨m, fun _ => 0, g⟩
        (fun r => (∀ c : Dev Cert.KernelIdeal.nD,
          r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0))
          ∧ r.2.sem = fun _ => 0)) := by
  chain_rfl

theorem frame_kernel : Cert.quiescent_Kernel (hKernel := Cert.Kernel.Gen.facts) := by
  rw [same_program]
  exact fun m g _ => Cert.KernelIdeal.Band.band_frame (F := Bits) m g

theorem frame_ideal : Cert.quiescent_KernelIdeal (hKernelIdeal := Cert.KernelIdeal.Gen.facts) :=
  fun m g _ => Cert.KernelIdeal.Band.band_frame (F := Ideal) m g

theorem frame_reference : Cert.quiescent_ReferenceIdeal (hReferenceIdeal := Cert.ReferenceIdeal.Gen.facts) := by
  intro m ρ _
  exact (θ_run Cert.ReferenceIdeal.defs _ _).mono
    (fun r h => ⟨fun c => (h c Cert.ReferenceIdeal.main_arg0).trans (Cert.ReferenceIdeal.Line.arg0_eq _), sem_eq_zero_of_no_sems (by decide) r.2⟩)
    (Cert.ReferenceIdeal.Line.line_run (F := Ideal) m ρ)

/-- The two programs end with the kernel's result, from memories that agree on the argument. -/
theorem value : Cert.algebraic_KernelIdeal_ReferenceIdeal (hKernelIdeal := Cert.KernelIdeal.Gen.facts) (hReferenceIdeal := Cert.ReferenceIdeal.Gen.facts) := by
  intro m g m' g' _ agree
  refine ⟨fun c => Cert.KernelIdeal.Band.result (Cert.KernelIdeal.Band.arg m c) (Cert.KernelIdeal.Band.drawn m c), Cert.KernelIdeal.Band.band_value m g, ?_⟩
  refine (θ_run Cert.ReferenceIdeal.defs _ _).mono (fun r h c => ⟨(h c Cert.ReferenceIdeal.main_v33).trans ?_,
    (h c Cert.ReferenceIdeal.main_arg0).trans (Cert.ReferenceIdeal.Line.arg0_eq _)⟩) (Cert.ReferenceIdeal.Line.line_run (F := Ideal) m' g')
  refine (Cert.Match.line_value _).trans ?_
  have hX : StableHlo.launchContents m' c (Proc.devRef .tc Cert.ReferenceIdeal.main_arg0) = Cert.KernelIdeal.Band.arg m c := agree c
  have hR := Cert.Draw.drawn_eq (F := Ideal) (fun b => m (c, b)) (StableHlo.launchContents m' c)
  rw [hX]
  refine (Cert.Match.product_eq _ _ (Cert.Draw.drawn_range (StableHlo.launchContents m' c))).trans ?_
  exact congrArg (Cert.KernelIdeal.Band.result (Cert.KernelIdeal.Band.arg m c)) hR.symm

theorem claim : Cert.Claim := ⟨Cert.Kernel.Gen.facts, Cert.KernelIdeal.Gen.facts, Cert.ReferenceIdeal.Gen.facts,
  frame_kernel, frame_ideal, frame_reference, trivial, value⟩

end Cert.Proof

end
